-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_idx_names_rows_KernelIdeal [hPre_idx_names_rows_KernelIdeal : Cert.Pre_idx_names_rows_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_idx_names_rows_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_names_rows_ReferenceIdeal [hPre_idx_names_rows_ReferenceIdeal : Cert.Pre_idx_names_rows_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_names_rows_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_idx_names_rows_KernelIdeal [hKernelIdeal : Cert.KernelIdeal.Facts] [hPre_idx_names_rows_KernelIdeal : Cert.Pre_idx_names_rows_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_idx_names_rows_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_names_rows_ReferenceIdeal [hReferenceIdeal : Cert.ReferenceIdeal.Facts] [hPre_idx_names_rows_ReferenceIdeal : Cert.Pre_idx_names_rows_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_names_rows_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_idx_names_rows_KernelIdeal [hKernelIdeal : Cert.KernelIdeal.Facts] [hReferenceIdeal : Cert.ReferenceIdeal.Facts] [hPre_idx_names_rows_KernelIdeal : Cert.Pre_idx_names_rows_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_idx_names_rows_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![65536, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_idx_names_rows_KernelIdeal : Cert.Pre_idx_names_rows_KernelIdeal.Facts) (hPre_idx_names_rows_ReferenceIdeal : Cert.Pre_idx_names_rows_ReferenceIdeal.Facts),
    quiescent_Kernel (hKernel := hKernel)
    ∧ quiescent_KernelIdeal (hKernelIdeal := hKernelIdeal)
    ∧ quiescent_KernelIdeal_pre_idx_names_rows_KernelIdeal (hKernelIdeal := hKernelIdeal) (hPre_idx_names_rows_KernelIdeal := hPre_idx_names_rows_KernelIdeal)
    ∧ quiescent_ReferenceIdeal (hReferenceIdeal := hReferenceIdeal)
    ∧ quiescent_ReferenceIdeal_pre_idx_names_rows_ReferenceIdeal (hReferenceIdeal := hReferenceIdeal) (hPre_idx_names_rows_ReferenceIdeal := hPre_idx_names_rows_ReferenceIdeal)
    ∧ preserves_Kernel_KernelIdeal
    ∧ algebraic_KernelIdeal_ReferenceIdeal_pre_idx_names_rows_KernelIdeal (hKernelIdeal := hKernelIdeal) (hReferenceIdeal := hReferenceIdeal) (hPre_idx_names_rows_KernelIdeal := hPre_idx_names_rows_KernelIdeal)
-- ==== Pre_idx_names_rows_KernelIdeal.lean ====
abbrev S8192x1024 : Shape := ⟨2, ![8192, 1024]⟩
abbrev S2048 : Shape := ⟨1, ![2048]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S8192x1024 .f32) (main_arg1 : IVec S2048 32) : IVec S2048 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 65536#32
  let main_v2 : IVec S2048 32 := broadcastInDim S2048 ![] bcast_S_S2048 main_c_0
  let main_v3 : IVec S2048 1 := cmpi .slt main_arg1 main_v2
  let main_v4 : IVec S2048 1 := andi main_v1 main_v3
  main_v4
-- ==== Pre_idx_names_rows_ReferenceIdeal.lean ====
abbrev S65536x1024 : Shape := ⟨2, ![65536, 1024]⟩
abbrev S2048 : Shape := ⟨1, ![2048]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S65536x1024 .f32) (main_arg1 : IVec S2048 32) : IVec S2048 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 65536#32
  let main_v2 : IVec S2048 32 := broadcastInDim S2048 ![] bcast_S_S2048 main_c_0
  let main_v3 : IVec S2048 1 := cmpi .slt main_arg1 main_v2
  let main_v4 : IVec S2048 1 := andi main_v1 main_v3
  main_v4
-- ==== Kernel.lean ====
abbrev S8192x1024 : Shape := ⟨2, ![8192, 1024]⟩
abbrev S2048 : Shape := ⟨1, ![2048]⟩
abbrev S2048x1024 : Shape := ⟨2, ![2048, 1024]⟩
abbrev S7x256x512 : Shape := ⟨3, ![7, 256, 512]⟩
abbrev S5 : Shape := ⟨1, ![5]⟩
abbrev S2x7x4 : Shape := ⟨3, ![2, 7, 4]⟩
abbrev S_ : Shape := ⟨0, ![]⟩
abbrev S1 : Shape := ⟨1, ![1]⟩
abbrev S1x1024 : Shape := ⟨2, ![1, 1024]⟩
abbrev S1x1x1 : Shape := ⟨3, ![1, 1, 1]⟩
abbrev S1x128x512 : Shape := ⟨3, ![1, 128, 512]⟩
abbrev S128x512 : Shape := ⟨2, ![128, 512]⟩

abbrev nBuf : Space → Nat
  | .hbm => 3
  | .vmem => 3
  | .smem => 1
  | _ => 0

abbrev bufTy : (tb : Table) → Fin (tcTables nBuf tb) → BufTy
  | .hbm, ⟨0, _⟩ => ⟨S8192x1024, .f32⟩
  | .hbm, ⟨1, _⟩ => ⟨S2048, .i32⟩
  | .hbm, ⟨2, _⟩ => ⟨S2048x1024, .f32⟩
  | .local _ .vmem, ⟨0, _⟩ => ⟨S2048x1024, .f32⟩
  | .local _ .vmem, ⟨1, _⟩ => ⟨S7x256x512, .f32⟩
  | .local _ .vmem, ⟨2, _⟩ => ⟨S7x256x512, .f32⟩
  | .local _ .smem, ⟨0, _⟩ => ⟨S2048, .i32⟩
  | _, _ => ⟨S8192x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 231 → Bool
  | ⟨i, _⟩ => dmaSemScopedAt i

abbrev sig : RefSig :=
  (ofTc nBuf bufTy 1 231 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_6 : BitVec 32 := 1#32
  let v10 : BitVec 32 := Scalar.muli v6 c1_i32_6
  let v11 : BitVec 32 := Scalar.addi c0_i32_7 v10
  v11.toNat
@[reducible] def k0_t1_loop : Scf.Loop 32 :=
  let c0_i32_10 : BitVec 32 := 0#32
  let c64_i32 : BitVec 32 := 64#32
  let v16 : BitVec 32 := Scalar.addi c0_i32_10 c64_i32
  let c1_i32_11 : BitVec 32 := 1#32
  ⟨c0_i32_10, v16, c1_i32_11⟩
def k0_off1 (d0 : Dev nD) (k0_t1 : Fin k0_t1_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v14 : BitVec 32 := Scalar.muli v2 c256_i32
  let c0_i32_10 : BitVec 32 := 0#32
  let c1_i32_11 : BitVec 32 := 1#32
  let arg10 : BitVec 32 := Scf.iv c0_i32_10 c1_i32_11 k0_t1
  let c4_i32_2336 : BitVec 32 := 4#32
  let v1721 : BitVec 32 := Scalar.muli arg10 c4_i32_2336
  let v1722 : BitVec 32 := Scalar.addi v14 v1721
  let c0_i32_2337 : BitVec 32 := 0#32
  let v1723 : BitVec 32 := Scalar.addi v1722 c0_i32_2337
  let v1724 : Index := Scalar.indexCast v1723
  ![v1724.toNat]
def k0_off2 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v14 : BitVec 32 := Scalar.muli v2 c256_i32
  let c0_i32_10 : BitVec 32 := 0#32
  let c1_i32_11 : BitVec 32 := 1#32
  let arg10 : BitVec 32 := Scf.iv c0_i32_10 c1_i32_11 k0_t1
  let c4_i32_2336 : BitVec 32 := 4#32
  let v1721 : BitVec 32 := Scalar.muli arg10 c4_i32_2336
  let v1722 : BitVec 32 := Scalar.addi v14 v1721
  let c0_i32_2337 : BitVec 32 := 0#32
  let v1723 : BitVec 32 := Scalar.addi v1722 c0_i32_2337
  let c0_i32_2350 : BitVec 32 := 0#32
  ![v1723.toNat, 0]
def k0_off3 (d0 : Dev nD) (v1725 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32 : BitVec 32 := 8192#32
  let v15 : BitVec 32 := Scalar.muli v2 c8192_i32
  let v1759 : BitVec 32 := Scalar.subi v1725 v15
  let c0_i32_2351 : BitVec 32 := 0#32
  ![v1759.toNat, 0]
def k0_cond1 (d0 : Dev nD) (v1725 : BitVec 32) : BitVec 1 :=
  let c13_i32_2338 : BitVec 32 := 13#32
  let v1726 : BitVec 32 := Scalar.shrsi v1725 c13_i32_2338
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1727 : BitVec 1 := Scalar.cmpi .eq v1726 v2
  let v1728 : BitVec 32 := Scalar.extui v1727
  let c0_i32_2339 : BitVec 32 := 0#32
  let v1729 : BitVec 1 := Scalar.cmpi .ne v1728 c0_i32_2339
  v1729

def k0_chk1 (d0 : Dev nD) (v1725 : BitVec 32) : Prop :=
  (∀ (k0_h1 : k0_cond1 d0 v1725 = 1#1), ∀ a, (k0_off3 d0 v1725) a + S1x1024.size a ≤ S8192x1024.size a)
theorem k0_off3_inb : ∀ (d0 : Dev nD) (v1725 : BitVec 32) (k0_hw1 : k0_chk1 d0 v1725), ∀ (k0_h1 : k0_cond1 d0 v1725 = 1#1), ∀ a, (k0_off3 d0 v1725) a + S1x1024.size a ≤ S8192x1024.size a := fun d0 v1725 k0_hw1 k0_h1 => k0_hw1 k0_h1

def k0_off4 (d0 : Dev nD) (k0_t1 : Fin k0_t1_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v14 : BitVec 32 := Scalar.muli v2 c256_i32
  let c0_i32_10 : BitVec 32 := 0#32
  let c1_i32_11 : BitVec 32 := 1#32
  let arg10 : BitVec 32 := Scf.iv c0_i32_10 c1_i32_11 k0_t1
  let c4_i32_2336 : BitVec 32 := 4#32
  let v1721 : BitVec 32 := Scalar.muli arg10 c4_i32_2336
  let v1722 : BitVec 32 := Scalar.addi v14 v1721
  let c1_i32_2340 : BitVec 32 := 1#32
  let v1732 : BitVec 32 := Scalar.addi v1722 c1_i32_2340
  let v1733 : Index := Scalar.indexCast v1732
  ![v1733.toNat]
def k0_off5 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v14 : BitVec 32 := Scalar.muli v2 c256_i32
  let c0_i32_10 : BitVec 32 := 0#32
  let c1_i32_11 : BitVec 32 := 1#32
  let arg10 : BitVec 32 := Scf.iv c0_i32_10 c1_i32_11 k0_t1
  let c4_i32_2336 : BitVec 32 := 4#32
  let v1721 : BitVec 32 := Scalar.muli arg10 c4_i32_2336
  let v1722 : BitVec 32 := Scalar.addi v14 v1721
  let c1_i32_2340 : BitVec 32 := 1#32
  let v1732 : BitVec 32 := Scalar.addi v1722 c1_i32_2340
  let c0_i32_2350 : BitVec 32 := 0#32
  ![v1732.toNat, 0]
def k0_off6 (d0 : Dev nD) (v1734 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32 : BitVec 32 := 8192#32
  let v15 : BitVec 32 := Scalar.muli v2 c8192_i32
  let v1759 : BitVec 32 := Scalar.subi v1734 v15
  let c0_i32_2351 : BitVec 32 := 0#32
  ![v1759.toNat, 0]
def k0_cond2 (d0 : Dev nD) (v1734 : BitVec 32) : BitVec 1 :=
  let c13_i32_2341 : BitVec 32 := 13#32
  let v1735 : BitVec 32 := Scalar.shrsi v1734 c13_i32_2341
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1736 : BitVec 1 := Scalar.cmpi .eq v1735 v2
  let v1737 : BitVec 32 := Scalar.extui v1736
  let c0_i32_2342 : BitVec 32 := 0#32
  let v1738 : BitVec 1 := Scalar.cmpi .ne v1737 c0_i32_2342
  v1738

def k0_chk2 (d0 : Dev nD) (v1734 : BitVec 32) : Prop :=
  (∀ (k0_h2 : k0_cond2 d0 v1734 = 1#1), ∀ a, (k0_off6 d0 v1734) a + S1x1024.size a ≤ S8192x1024.size a)
theorem k0_off6_inb : ∀ (d0 : Dev nD) (v1734 : BitVec 32) (k0_hw2 : k0_chk2 d0 v1734), ∀ (k0_h2 : k0_cond2 d0 v1734 = 1#1), ∀ a, (k0_off6 d0 v1734) a + S1x1024.size a ≤ S8192x1024.size a := fun d0 v1734 k0_hw2 k0_h2 => k0_hw2 k0_h2

def k0_off7 (d0 : Dev nD) (k0_t1 : Fin k0_t1_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v14 : BitVec 32 := Scalar.muli v2 c256_i32
  let c0_i32_10 : BitVec 32 := 0#32
  let c1_i32_11 : BitVec 32 := 1#32
  let arg10 : BitVec 32 := Scf.iv c0_i32_10 c1_i32_11 k0_t1
  let c4_i32_2336 : BitVec 32 := 4#32
  let v1721 : BitVec 32 := Scalar.muli arg10 c4_i32_2336
  let v1722 : BitVec 32 := Scalar.addi v14 v1721
  let c2_i32_2343 : BitVec 32 := 2#32
  let v1741 : BitVec 32 := Scalar.addi v1722 c2_i32_2343
  let v1742 : Index := Scalar.indexCast v1741
  ![v1742.toNat]
def k0_off8 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v14 : BitVec 32 := Scalar.muli v2 c256_i32
  let c0_i32_10 : BitVec 32 := 0#32
  let c1_i32_11 : BitVec 32 := 1#32
  let arg10 : BitVec 32 := Scf.iv c0_i32_10 c1_i32_11 k0_t1
  let c4_i32_2336 : BitVec 32 := 4#32
  let v1721 : BitVec 32 := Scalar.muli arg10 c4_i32_2336
  let v1722 : BitVec 32 := Scalar.addi v14 v1721
  let c2_i32_2343 : BitVec 32 := 2#32
  let v1741 : BitVec 32 := Scalar.addi v1722 c2_i32_2343
  let c0_i32_2350 : BitVec 32 := 0#32
  ![v1741.toNat, 0]
def k0_off9 (d0 : Dev nD) (v1743 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32 : BitVec 32 := 8192#32
  let v15 : BitVec 32 := Scalar.muli v2 c8192_i32
  let v1759 : BitVec 32 := Scalar.subi v1743 v15
  let c0_i32_2351 : BitVec 32 := 0#32
  ![v1759.toNat, 0]
def k0_cond3 (d0 : Dev nD) (v1743 : BitVec 32) : BitVec 1 :=
  let c13_i32_2344 : BitVec 32 := 13#32
  let v1744 : BitVec 32 := Scalar.shrsi v1743 c13_i32_2344
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1745 : BitVec 1 := Scalar.cmpi .eq v1744 v2
  let v1746 : BitVec 32 := Scalar.extui v1745
  let c0_i32_2345 : BitVec 32 := 0#32
  let v1747 : BitVec 1 := Scalar.cmpi .ne v1746 c0_i32_2345
  v1747

def k0_chk3 (d0 : Dev nD) (v1743 : BitVec 32) : Prop :=
  (∀ (k0_h3 : k0_cond3 d0 v1743 = 1#1), ∀ a, (k0_off9 d0 v1743) a + S1x1024.size a ≤ S8192x1024.size a)
theorem k0_off9_inb : ∀ (d0 : Dev nD) (v1743 : BitVec 32) (k0_hw3 : k0_chk3 d0 v1743), ∀ (k0_h3 : k0_cond3 d0 v1743 = 1#1), ∀ a, (k0_off9 d0 v1743) a + S1x1024.size a ≤ S8192x1024.size a := fun d0 v1743 k0_hw3 k0_h3 => k0_hw3 k0_h3

def k0_off10 (d0 : Dev nD) (k0_t1 : Fin k0_t1_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v14 : BitVec 32 := Scalar.muli v2 c256_i32
  let c0_i32_10 : BitVec 32 := 0#32
  let c1_i32_11 : BitVec 32 := 1#32
  let arg10 : BitVec 32 := Scf.iv c0_i32_10 c1_i32_11 k0_t1
  let c4_i32_2336 : BitVec 32 := 4#32
  let v1721 : BitVec 32 := Scalar.muli arg10 c4_i32_2336
  let v1722 : BitVec 32 := Scalar.addi v14 v1721
  let c3_i32_2346 : BitVec 32 := 3#32
  let v1750 : BitVec 32 := Scalar.addi v1722 c3_i32_2346
  let v1751 : Index := Scalar.indexCast v1750
  ![v1751.toNat]
def k0_off11 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v14 : BitVec 32 := Scalar.muli v2 c256_i32
  let c0_i32_10 : BitVec 32 := 0#32
  let c1_i32_11 : BitVec 32 := 1#32
  let arg10 : BitVec 32 := Scf.iv c0_i32_10 c1_i32_11 k0_t1
  let c4_i32_2336 : BitVec 32 := 4#32
  let v1721 : BitVec 32 := Scalar.muli arg10 c4_i32_2336
  let v1722 : BitVec 32 := Scalar.addi v14 v1721
  let c3_i32_2346 : BitVec 32 := 3#32
  let v1750 : BitVec 32 := Scalar.addi v1722 c3_i32_2346
  let c0_i32_2350 : BitVec 32 := 0#32
  ![v1750.toNat, 0]
def k0_off12 (d0 : Dev nD) (v1752 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32 : BitVec 32 := 8192#32
  let v15 : BitVec 32 := Scalar.muli v2 c8192_i32
  let v1759 : BitVec 32 := Scalar.subi v1752 v15
  let c0_i32_2351 : BitVec 32 := 0#32
  ![v1759.toNat, 0]
def k0_cond4 (d0 : Dev nD) (v1752 : BitVec 32) : BitVec 1 :=
  let c13_i32_2347 : BitVec 32 := 13#32
  let v1753 : BitVec 32 := Scalar.shrsi v1752 c13_i32_2347
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1754 : BitVec 1 := Scalar.cmpi .eq v1753 v2
  let v1755 : BitVec 32 := Scalar.extui v1754
  let c0_i32_2348 : BitVec 32 := 0#32
  let v1756 : BitVec 1 := Scalar.cmpi .ne v1755 c0_i32_2348
  v1756

def k0_chk4 (d0 : Dev nD) (v1752 : BitVec 32) : Prop :=
  (∀ (k0_h4 : k0_cond4 d0 v1752 = 1#1), ∀ a, (k0_off12 d0 v1752) a + S1x1024.size a ≤ S8192x1024.size a)
theorem k0_off12_inb : ∀ (d0 : Dev nD) (v1752 : BitVec 32) (k0_hw4 : k0_chk4 d0 v1752), ∀ (k0_h4 : k0_cond4 d0 v1752 = 1#1), ∀ a, (k0_off12 d0 v1752) a + S1x1024.size a ≤ S8192x1024.size a := fun d0 v1752 k0_hw4 k0_h4 => k0_hw4 k0_h4

@[reducible] def k0_t2_loop (v17 : BitVec 32) : Scf.Loop 32 :=
  let c0_i32_15 : BitVec 32 := 0#32
  let v18 : BitVec 32 := Scalar.subi v17 c0_i32_15
  let c1_i32_16 : BitVec 32 := 1#32
  let v20 : BitVec 32 := Scalar.divsi v18 c1_i32_16
  let v21 : BitVec 32 := Scalar.muli v20 c1_i32_16
  let v22 : BitVec 32 := Scalar.addi c0_i32_15 v21
  let c1_i32_17 : BitVec 32 := 1#32
  ⟨c0_i32_15, v22, c1_i32_17⟩

@[reducible] def k0_t3_loop (v17 : BitVec 32) : Scf.Loop 32 :=
  let c0_i32_15 : BitVec 32 := 0#32
  let v18 : BitVec 32 := Scalar.subi v17 c0_i32_15
  let c1_i32_16 : BitVec 32 := 1#32
  let v20 : BitVec 32 := Scalar.divsi v18 c1_i32_16
  let v21 : BitVec 32 := Scalar.muli v20 c1_i32_16
  let v22 : BitVec 32 := Scalar.addi c0_i32_15 v21
  let v19 : BitVec 32 := Scalar.addi c0_i32_15 v18
  let c1_i32_18 : BitVec 32 := 1#32
  ⟨v22, v19, c1_i32_18⟩

def k0_chk5 (v17 : BitVec 32) : Prop :=
  ((k0_t2_loop v17).OK) ∧
  ((k0_t3_loop v17).OK)
theorem k0_t2_ok : ∀ (v17 : BitVec 32) (k0_hw5 : k0_chk5 v17), (k0_t2_loop v17).OK := fun v17 k0_hw5 => k0_hw5.1
theorem k0_t3_ok : ∀ (v17 : BitVec 32) (k0_hw5 : k0_chk5 v17), (k0_t3_loop v17).OK := fun v17 k0_hw5 => k0_hw5.2

def k0_off13 (d0 : Dev nD) (c0_i32_22 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_19 : BitVec 32 := 8#32
  let v23 : BitVec 32 := Scalar.addi v2 c8_i32_19
  let c8_i32_20 : BitVec 32 := 8#32
  let v24 : BitVec 32 := Scalar.remsi v23 c8_i32_20
  let c256_i32_21 : BitVec 32 := 256#32
  let v25 : BitVec 32 := Scalar.muli v24 c256_i32_21
  let v26 : BitVec 32 := Scalar.addi v25 c0_i32_22
  let c0_i32_34 : BitVec 32 := 0#32
  ![v26.toNat, 0]
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_30 : BitVec 32 := 1#32
  let v27 : BitVec 32 := Scalar.muli v6 c1_i32_30
  let v28 : BitVec 32 := Scalar.addi c0_i32_31 v27
  v28.toNat
def k0_off14 (d0 : Dev nD) (c0_i32_38 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_35 : BitVec 32 := 0#32
  let v36 : BitVec 32 := Scalar.addi v2 c0_i32_35
  let c8_i32_36 : BitVec 32 := 8#32
  let v37 : BitVec 32 := Scalar.remsi v36 c8_i32_36
  let c256_i32_37 : BitVec 32 := 256#32
  let v38 : BitVec 32 := Scalar.muli v37 c256_i32_37
  let v39 : BitVec 32 := Scalar.addi v38 c0_i32_38
  let c512_i32 : BitVec 32 := 512#32
  ![v39.toNat, 512]
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_46 : BitVec 32 := 1#32
  let v40 : BitVec 32 := Scalar.muli v4 c1_i32_46
  let v41 : BitVec 32 := Scalar.addi c0_i32_47 v40
  v41.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_60 : BitVec 32 := 1#32
  let v53 : BitVec 32 := Scalar.muli v6 c1_i32_60
  let v54 : BitVec 32 := Scalar.addi c0_i32_61 v53
  v54.toNat
def k0_dev6 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_76 : BitVec 32 := 1#32
  let v66 : BitVec 32 := Scalar.muli v4 c1_i32_76
  let v67 : BitVec 32 := Scalar.addi c0_i32_77 v66
  v67.toNat
@[reducible] def k0_t4_loop : Scf.Loop 32 :=
  let c0_i32_86 : BitVec 32 := 0#32
  let c64_i32_87 : BitVec 32 := 64#32
  let v79 : BitVec 32 := Scalar.addi c0_i32_86 c64_i32_87
  let c1_i32_88 : BitVec 32 := 1#32
  ⟨c0_i32_86, v79, c1_i32_88⟩
def k0_off15 (d0 : Dev nD) (k0_t4 : Fin k0_t4_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_81 : BitVec 32 := 7#32
  let v75 : BitVec 32 := Scalar.addi v2 c7_i32_81
  let c8_i32_82 : BitVec 32 := 8#32
  let v76 : BitVec 32 := Scalar.remsi v75 c8_i32_82
  let c256_i32_83 : BitVec 32 := 256#32
  let v77 : BitVec 32 := Scalar.muli v76 c256_i32_83
  let c0_i32_86 : BitVec 32 := 0#32
  let c1_i32_88 : BitVec 32 := 1#32
  let arg10 : BitVec 32 := Scf.iv c0_i32_86 c1_i32_88 k0_t4
  let c4_i32_2336 : BitVec 32 := 4#32
  let v1721 : BitVec 32 := Scalar.muli arg10 c4_i32_2336
  let v1722 : BitVec 32 := Scalar.addi v77 v1721
  let c0_i32_2337 : BitVec 32 := 0#32
  let v1723 : BitVec 32 := Scalar.addi v1722 c0_i32_2337
  let v1724 : Index := Scalar.indexCast v1723
  ![v1724.toNat]
def k0_off16 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_81 : BitVec 32 := 7#32
  let v75 : BitVec 32 := Scalar.addi v2 c7_i32_81
  let c8_i32_82 : BitVec 32 := 8#32
  let v76 : BitVec 32 := Scalar.remsi v75 c8_i32_82
  let c256_i32_83 : BitVec 32 := 256#32
  let v77 : BitVec 32 := Scalar.muli v76 c256_i32_83
  let c0_i32_86 : BitVec 32 := 0#32
  let c1_i32_88 : BitVec 32 := 1#32
  let arg10 : BitVec 32 := Scf.iv c0_i32_86 c1_i32_88 k0_t4
  let c4_i32_2336 : BitVec 32 := 4#32
  let v1721 : BitVec 32 := Scalar.muli arg10 c4_i32_2336
  let v1722 : BitVec 32 := Scalar.addi v77 v1721
  let c0_i32_2337 : BitVec 32 := 0#32
  let v1723 : BitVec 32 := Scalar.addi v1722 c0_i32_2337
  let c0_i32_2350 : BitVec 32 := 0#32
  ![v1723.toNat, 0]
def k0_off17 (d0 : Dev nD) (v1725 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_84 : BitVec 32 := 8192#32
  let v78 : BitVec 32 := Scalar.muli v2 c8192_i32_84
  let v1759 : BitVec 32 := Scalar.subi v1725 v78
  let c0_i32_2351 : BitVec 32 := 0#32
  ![v1759.toNat, 0]
def k0_cond5 (d0 : Dev nD) (v1725 : BitVec 32) : BitVec 1 :=
  let c13_i32_2338 : BitVec 32 := 13#32
  let v1726 : BitVec 32 := Scalar.shrsi v1725 c13_i32_2338
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1727 : BitVec 1 := Scalar.cmpi .eq v1726 v2
  let v1728 : BitVec 32 := Scalar.extui v1727
  let c0_i32_2339 : BitVec 32 := 0#32
  let v1729 : BitVec 1 := Scalar.cmpi .ne v1728 c0_i32_2339
  v1729

def k0_chk6 (d0 : Dev nD) (v1725 : BitVec 32) : Prop :=
  (∀ (k0_h5 : k0_cond5 d0 v1725 = 1#1), ∀ a, (k0_off17 d0 v1725) a + S1x1024.size a ≤ S8192x1024.size a)
theorem k0_off17_inb : ∀ (d0 : Dev nD) (v1725 : BitVec 32) (k0_hw6 : k0_chk6 d0 v1725), ∀ (k0_h5 : k0_cond5 d0 v1725 = 1#1), ∀ a, (k0_off17 d0 v1725) a + S1x1024.size a ≤ S8192x1024.size a := fun d0 v1725 k0_hw6 k0_h5 => k0_hw6 k0_h5

def k0_off18 (d0 : Dev nD) (k0_t4 : Fin k0_t4_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_81 : BitVec 32 := 7#32
  let v75 : BitVec 32 := Scalar.addi v2 c7_i32_81
  let c8_i32_82 : BitVec 32 := 8#32
  let v76 : BitVec 32 := Scalar.remsi v75 c8_i32_82
  let c256_i32_83 : BitVec 32 := 256#32
  let v77 : BitVec 32 := Scalar.muli v76 c256_i32_83
  let c0_i32_86 : BitVec 32 := 0#32
  let c1_i32_88 : BitVec 32 := 1#32
  let arg10 : BitVec 32 := Scf.iv c0_i32_86 c1_i32_88 k0_t4
  let c4_i32_2336 : BitVec 32 := 4#32
  let v1721 : BitVec 32 := Scalar.muli arg10 c4_i32_2336
  let v1722 : BitVec 32 := Scalar.addi v77 v1721
  let c1_i32_2340 : BitVec 32 := 1#32
  let v1732 : BitVec 32 := Scalar.addi v1722 c1_i32_2340
  let v1733 : Index := Scalar.indexCast v1732
  ![v1733.toNat]
def k0_off19 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_81 : BitVec 32 := 7#32
  let v75 : BitVec 32 := Scalar.addi v2 c7_i32_81
  let c8_i32_82 : BitVec 32 := 8#32
  let v76 : BitVec 32 := Scalar.remsi v75 c8_i32_82
  let c256_i32_83 : BitVec 32 := 256#32
  let v77 : BitVec 32 := Scalar.muli v76 c256_i32_83
  let c0_i32_86 : BitVec 32 := 0#32
  let c1_i32_88 : BitVec 32 := 1#32
  let arg10 : BitVec 32 := Scf.iv c0_i32_86 c1_i32_88 k0_t4
  let c4_i32_2336 : BitVec 32 := 4#32
  let v1721 : BitVec 32 := Scalar.muli arg10 c4_i32_2336
  let v1722 : BitVec 32 := Scalar.addi v77 v1721
  let c1_i32_2340 : BitVec 32 := 1#32
  let v1732 : BitVec 32 := Scalar.addi v1722 c1_i32_2340
  let c0_i32_2350 : BitVec 32 := 0#32
  ![v1732.toNat, 0]
def k0_off20 (d0 : Dev nD) (v1734 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_84 : BitVec 32 := 8192#32
  let v78 : BitVec 32 := Scalar.muli v2 c8192_i32_84
  let v1759 : BitVec 32 := Scalar.subi v1734 v78
  let c0_i32_2351 : BitVec 32 := 0#32
  ![v1759.toNat, 0]
def k0_cond6 (d0 : Dev nD) (v1734 : BitVec 32) : BitVec 1 :=
  let c13_i32_2341 : BitVec 32 := 13#32
  let v1735 : BitVec 32 := Scalar.shrsi v1734 c13_i32_2341
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1736 : BitVec 1 := Scalar.cmpi .eq v1735 v2
  let v1737 : BitVec 32 := Scalar.extui v1736
  let c0_i32_2342 : BitVec 32 := 0#32
  let v1738 : BitVec 1 := Scalar.cmpi .ne v1737 c0_i32_2342
  v1738

def k0_chk7 (d0 : Dev nD) (v1734 : BitVec 32) : Prop :=
  (∀ (k0_h6 : k0_cond6 d0 v1734 = 1#1), ∀ a, (k0_off20 d0 v1734) a + S1x1024.size a ≤ S8192x1024.size a)
theorem k0_off20_inb : ∀ (d0 : Dev nD) (v1734 : BitVec 32) (k0_hw7 : k0_chk7 d0 v1734), ∀ (k0_h6 : k0_cond6 d0 v1734 = 1#1), ∀ a, (k0_off20 d0 v1734) a + S1x1024.size a ≤ S8192x1024.size a := fun d0 v1734 k0_hw7 k0_h6 => k0_hw7 k0_h6

def k0_off21 (d0 : Dev nD) (k0_t4 : Fin k0_t4_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_81 : BitVec 32 := 7#32
  let v75 : BitVec 32 := Scalar.addi v2 c7_i32_81
  let c8_i32_82 : BitVec 32 := 8#32
  let v76 : BitVec 32 := Scalar.remsi v75 c8_i32_82
  let c256_i32_83 : BitVec 32 := 256#32
  let v77 : BitVec 32 := Scalar.muli v76 c256_i32_83
  let c0_i32_86 : BitVec 32 := 0#32
  let c1_i32_88 : BitVec 32 := 1#32
  let arg10 : BitVec 32 := Scf.iv c0_i32_86 c1_i32_88 k0_t4
  let c4_i32_2336 : BitVec 32 := 4#32
  let v1721 : BitVec 32 := Scalar.muli arg10 c4_i32_2336
  let v1722 : BitVec 32 := Scalar.addi v77 v1721
  let c2_i32_2343 : BitVec 32 := 2#32
  let v1741 : BitVec 32 := Scalar.addi v1722 c2_i32_2343
  let v1742 : Index := Scalar.indexCast v1741
  ![v1742.toNat]
def k0_off22 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_81 : BitVec 32 := 7#32
  let v75 : BitVec 32 := Scalar.addi v2 c7_i32_81
  let c8_i32_82 : BitVec 32 := 8#32
  let v76 : BitVec 32 := Scalar.remsi v75 c8_i32_82
  let c256_i32_83 : BitVec 32 := 256#32
  let v77 : BitVec 32 := Scalar.muli v76 c256_i32_83
  let c0_i32_86 : BitVec 32 := 0#32
  let c1_i32_88 : BitVec 32 := 1#32
  let arg10 : BitVec 32 := Scf.iv c0_i32_86 c1_i32_88 k0_t4
  let c4_i32_2336 : BitVec 32 := 4#32
  let v1721 : BitVec 32 := Scalar.muli arg10 c4_i32_2336
  let v1722 : BitVec 32 := Scalar.addi v77 v1721
  let c2_i32_2343 : BitVec 32 := 2#32
  let v1741 : BitVec 32 := Scalar.addi v1722 c2_i32_2343
  let c0_i32_2350 : BitVec 32 := 0#32
  ![v1741.toNat, 0]
def k0_off23 (d0 : Dev nD) (v1743 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_84 : BitVec 32 := 8192#32
  let v78 : BitVec 32 := Scalar.muli v2 c8192_i32_84
  let v1759 : BitVec 32 := Scalar.subi v1743 v78
  let c0_i32_2351 : BitVec 32 := 0#32
  ![v1759.toNat, 0]
def k0_cond7 (d0 : Dev nD) (v1743 : BitVec 32) : BitVec 1 :=
  let c13_i32_2344 : BitVec 32 := 13#32
  let v1744 : BitVec 32 := Scalar.shrsi v1743 c13_i32_2344
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1745 : BitVec 1 := Scalar.cmpi .eq v1744 v2
  let v1746 : BitVec 32 := Scalar.extui v1745
  let c0_i32_2345 : BitVec 32 := 0#32
  let v1747 : BitVec 1 := Scalar.cmpi .ne v1746 c0_i32_2345
  v1747

def k0_chk8 (d0 : Dev nD) (v1743 : BitVec 32) : Prop :=
  (∀ (k0_h7 : k0_cond7 d0 v1743 = 1#1), ∀ a, (k0_off23 d0 v1743) a + S1x1024.size a ≤ S8192x1024.size a)
theorem k0_off23_inb : ∀ (d0 : Dev nD) (v1743 : BitVec 32) (k0_hw8 : k0_chk8 d0 v1743), ∀ (k0_h7 : k0_cond7 d0 v1743 = 1#1), ∀ a, (k0_off23 d0 v1743) a + S1x1024.size a ≤ S8192x1024.size a := fun d0 v1743 k0_hw8 k0_h7 => k0_hw8 k0_h7

def k0_off24 (d0 : Dev nD) (k0_t4 : Fin k0_t4_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_81 : BitVec 32 := 7#32
  let v75 : BitVec 32 := Scalar.addi v2 c7_i32_81
  let c8_i32_82 : BitVec 32 := 8#32
  let v76 : BitVec 32 := Scalar.remsi v75 c8_i32_82
  let c256_i32_83 : BitVec 32 := 256#32
  let v77 : BitVec 32 := Scalar.muli v76 c256_i32_83
  let c0_i32_86 : BitVec 32 := 0#32
  let c1_i32_88 : BitVec 32 := 1#32
  let arg10 : BitVec 32 := Scf.iv c0_i32_86 c1_i32_88 k0_t4
  let c4_i32_2336 : BitVec 32 := 4#32
  let v1721 : BitVec 32 := Scalar.muli arg10 c4_i32_2336
  let v1722 : BitVec 32 := Scalar.addi v77 v1721
  let c3_i32_2346 : BitVec 32 := 3#32
  let v1750 : BitVec 32 := Scalar.addi v1722 c3_i32_2346
  let v1751 : Index := Scalar.indexCast v1750
  ![v1751.toNat]
def k0_off25 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_81 : BitVec 32 := 7#32
  let v75 : BitVec 32 := Scalar.addi v2 c7_i32_81
  let c8_i32_82 : BitVec 32 := 8#32
  let v76 : BitVec 32 := Scalar.remsi v75 c8_i32_82
  let c256_i32_83 : BitVec 32 := 256#32
  let v77 : BitVec 32 := Scalar.muli v76 c256_i32_83
  let c0_i32_86 : BitVec 32 := 0#32
  let c1_i32_88 : BitVec 32 := 1#32
  let arg10 : BitVec 32 := Scf.iv c0_i32_86 c1_i32_88 k0_t4
  let c4_i32_2336 : BitVec 32 := 4#32
  let v1721 : BitVec 32 := Scalar.muli arg10 c4_i32_2336
  let v1722 : BitVec 32 := Scalar.addi v77 v1721
  let c3_i32_2346 : BitVec 32 := 3#32
  let v1750 : BitVec 32 := Scalar.addi v1722 c3_i32_2346
  let c0_i32_2350 : BitVec 32 := 0#32
  ![v1750.toNat, 0]
def k0_off26 (d0 : Dev nD) (v1752 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_84 : BitVec 32 := 8192#32
  let v78 : BitVec 32 := Scalar.muli v2 c8192_i32_84
  let v1759 : BitVec 32 := Scalar.subi v1752 v78
  let c0_i32_2351 : BitVec 32 := 0#32
  ![v1759.toNat, 0]
def k0_cond8 (d0 : Dev nD) (v1752 : BitVec 32) : BitVec 1 :=
  let c13_i32_2347 : BitVec 32 := 13#32
  let v1753 : BitVec 32 := Scalar.shrsi v1752 c13_i32_2347
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1754 : BitVec 1 := Scalar.cmpi .eq v1753 v2
  let v1755 : BitVec 32 := Scalar.extui v1754
  let c0_i32_2348 : BitVec 32 := 0#32
  let v1756 : BitVec 1 := Scalar.cmpi .ne v1755 c0_i32_2348
  v1756

def k0_chk9 (d0 : Dev nD) (v1752 : BitVec 32) : Prop :=
  (∀ (k0_h8 : k0_cond8 d0 v1752 = 1#1), ∀ a, (k0_off26 d0 v1752) a + S1x1024.size a ≤ S8192x1024.size a)
theorem k0_off26_inb : ∀ (d0 : Dev nD) (v1752 : BitVec 32) (k0_hw9 : k0_chk9 d0 v1752), ∀ (k0_h8 : k0_cond8 d0 v1752 = 1#1), ∀ a, (k0_off26 d0 v1752) a + S1x1024.size a ≤ S8192x1024.size a := fun d0 v1752 k0_hw9 k0_h8 => k0_hw9 k0_h8

@[reducible] def k0_t5_loop : Scf.Loop 32 :=
  let c0_i32_95 : BitVec 32 := 0#32
  let c64_i32_96 : BitVec 32 := 64#32
  let v85 : BitVec 32 := Scalar.addi c0_i32_95 c64_i32_96
  let c1_i32_97 : BitVec 32 := 1#32
  ⟨c0_i32_95, v85, c1_i32_97⟩
def k0_off27 (d0 : Dev nD) (k0_t5 : Fin k0_t5_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_90 : BitVec 32 := 1#32
  let v81 : BitVec 32 := Scalar.addi v2 c1_i32_90
  let c8_i32_91 : BitVec 32 := 8#32
  let v82 : BitVec 32 := Scalar.remsi v81 c8_i32_91
  let c256_i32_92 : BitVec 32 := 256#32
  let v83 : BitVec 32 := Scalar.muli v82 c256_i32_92
  let c0_i32_95 : BitVec 32 := 0#32
  let c1_i32_97 : BitVec 32 := 1#32
  let arg10 : BitVec 32 := Scf.iv c0_i32_95 c1_i32_97 k0_t5
  let c4_i32_2336 : BitVec 32 := 4#32
  let v1721 : BitVec 32 := Scalar.muli arg10 c4_i32_2336
  let v1722 : BitVec 32 := Scalar.addi v83 v1721
  let c0_i32_2337 : BitVec 32 := 0#32
  let v1723 : BitVec 32 := Scalar.addi v1722 c0_i32_2337
  let v1724 : Index := Scalar.indexCast v1723
  ![v1724.toNat]
def k0_off28 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_90 : BitVec 32 := 1#32
  let v81 : BitVec 32 := Scalar.addi v2 c1_i32_90
  let c8_i32_91 : BitVec 32 := 8#32
  let v82 : BitVec 32 := Scalar.remsi v81 c8_i32_91
  let c256_i32_92 : BitVec 32 := 256#32
  let v83 : BitVec 32 := Scalar.muli v82 c256_i32_92
  let c0_i32_95 : BitVec 32 := 0#32
  let c1_i32_97 : BitVec 32 := 1#32
  let arg10 : BitVec 32 := Scf.iv c0_i32_95 c1_i32_97 k0_t5
  let c4_i32_2336 : BitVec 32 := 4#32
  let v1721 : BitVec 32 := Scalar.muli arg10 c4_i32_2336
  let v1722 : BitVec 32 := Scalar.addi v83 v1721
  let c0_i32_2337 : BitVec 32 := 0#32
  let v1723 : BitVec 32 := Scalar.addi v1722 c0_i32_2337
  let c0_i32_2350 : BitVec 32 := 0#32
  ![v1723.toNat, 0]
def k0_off29 (d0 : Dev nD) (v1725 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_93 : BitVec 32 := 8192#32
  let v84 : BitVec 32 := Scalar.muli v2 c8192_i32_93
  let v1759 : BitVec 32 := Scalar.subi v1725 v84
  let c0_i32_2351 : BitVec 32 := 0#32
  ![v1759.toNat, 0]
def k0_cond9 (d0 : Dev nD) (v1725 : BitVec 32) : BitVec 1 :=
  let c13_i32_2338 : BitVec 32 := 13#32
  let v1726 : BitVec 32 := Scalar.shrsi v1725 c13_i32_2338
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1727 : BitVec 1 := Scalar.cmpi .eq v1726 v2
  let v1728 : BitVec 32 := Scalar.extui v1727
  let c0_i32_2339 : BitVec 32 := 0#32
  let v1729 : BitVec 1 := Scalar.cmpi .ne v1728 c0_i32_2339
  v1729

def k0_chk10 (d0 : Dev nD) (v1725 : BitVec 32) : Prop :=
  (∀ (k0_h9 : k0_cond9 d0 v1725 = 1#1), ∀ a, (k0_off29 d0 v1725) a + S1x1024.size a ≤ S8192x1024.size a)
theorem k0_off29_inb : ∀ (d0 : Dev nD) (v1725 : BitVec 32) (k0_hw10 : k0_chk10 d0 v1725), ∀ (k0_h9 : k0_cond9 d0 v1725 = 1#1), ∀ a, (k0_off29 d0 v1725) a + S1x1024.size a ≤ S8192x1024.size a := fun d0 v1725 k0_hw10 k0_h9 => k0_hw10 k0_h9

def k0_off30 (d0 : Dev nD) (k0_t5 : Fin k0_t5_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_90 : BitVec 32 := 1#32
  let v81 : BitVec 32 := Scalar.addi v2 c1_i32_90
  let c8_i32_91 : BitVec 32 := 8#32
  let v82 : BitVec 32 := Scalar.remsi v81 c8_i32_91
  let c256_i32_92 : BitVec 32 := 256#32
  let v83 : BitVec 32 := Scalar.muli v82 c256_i32_92
  let c0_i32_95 : BitVec 32 := 0#32
  let c1_i32_97 : BitVec 32 := 1#32
  let arg10 : BitVec 32 := Scf.iv c0_i32_95 c1_i32_97 k0_t5
  let c4_i32_2336 : BitVec 32 := 4#32
  let v1721 : BitVec 32 := Scalar.muli arg10 c4_i32_2336
  let v1722 : BitVec 32 := Scalar.addi v83 v1721
  let c1_i32_2340 : BitVec 32 := 1#32
  let v1732 : BitVec 32 := Scalar.addi v1722 c1_i32_2340
  let v1733 : Index := Scalar.indexCast v1732
  ![v1733.toNat]
def k0_off31 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_90 : BitVec 32 := 1#32
  let v81 : BitVec 32 := Scalar.addi v2 c1_i32_90
  let c8_i32_91 : BitVec 32 := 8#32
  let v82 : BitVec 32 := Scalar.remsi v81 c8_i32_91
  let c256_i32_92 : BitVec 32 := 256#32
  let v83 : BitVec 32 := Scalar.muli v82 c256_i32_92
  let c0_i32_95 : BitVec 32 := 0#32
  let c1_i32_97 : BitVec 32 := 1#32
  let arg10 : BitVec 32 := Scf.iv c0_i32_95 c1_i32_97 k0_t5
  let c4_i32_2336 : BitVec 32 := 4#32
  let v1721 : BitVec 32 := Scalar.muli arg10 c4_i32_2336
  let v1722 : BitVec 32 := Scalar.addi v83 v1721
  let c1_i32_2340 : BitVec 32 := 1#32
  let v1732 : BitVec 32 := Scalar.addi v1722 c1_i32_2340
  let c0_i32_2350 : BitVec 32 := 0#32
  ![v1732.toNat, 0]
def k0_off32 (d0 : Dev nD) (v1734 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_93 : BitVec 32 := 8192#32
  let v84 : BitVec 32 := Scalar.muli v2 c8192_i32_93
  let v1759 : BitVec 32 := Scalar.subi v1734 v84
  let c0_i32_2351 : BitVec 32 := 0#32
  ![v1759.toNat, 0]
def k0_cond10 (d0 : Dev nD) (v1734 : BitVec 32) : BitVec 1 :=
  let c13_i32_2341 : BitVec 32 := 13#32
  let v1735 : BitVec 32 := Scalar.shrsi v1734 c13_i32_2341
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1736 : BitVec 1 := Scalar.cmpi .eq v1735 v2
  let v1737 : BitVec 32 := Scalar.extui v1736
  let c0_i32_2342 : BitVec 32 := 0#32
  let v1738 : BitVec 1 := Scalar.cmpi .ne v1737 c0_i32_2342
  v1738

def k0_chk11 (d0 : Dev nD) (v1734 : BitVec 32) : Prop :=
  (∀ (k0_h10 : k0_cond10 d0 v1734 = 1#1), ∀ a, (k0_off32 d0 v1734) a + S1x1024.size a ≤ S8192x1024.size a)
theorem k0_off32_inb : ∀ (d0 : Dev nD) (v1734 : BitVec 32) (k0_hw11 : k0_chk11 d0 v1734), ∀ (k0_h10 : k0_cond10 d0 v1734 = 1#1), ∀ a, (k0_off32 d0 v1734) a + S1x1024.size a ≤ S8192x1024.size a := fun d0 v1734 k0_hw11 k0_h10 => k0_hw11 k0_h10

def k0_off33 (d0 : Dev nD) (k0_t5 : Fin k0_t5_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_90 : BitVec 32 := 1#32
  let v81 : BitVec 32 := Scalar.addi v2 c1_i32_90
  let c8_i32_91 : BitVec 32 := 8#32
  let v82 : BitVec 32 := Scalar.remsi v81 c8_i32_91
  let c256_i32_92 : BitVec 32 := 256#32
  let v83 : BitVec 32 := Scalar.muli v82 c256_i32_92
  let c0_i32_95 : BitVec 32 := 0#32
  let c1_i32_97 : BitVec 32 := 1#32
  let arg10 : BitVec 32 := Scf.iv c0_i32_95 c1_i32_97 k0_t5
  let c4_i32_2336 : BitVec 32 := 4#32
  let v1721 : BitVec 32 := Scalar.muli arg10 c4_i32_2336
  let v1722 : BitVec 32 := Scalar.addi v83 v1721
  let c2_i32_2343 : BitVec 32 := 2#32
  let v1741 : BitVec 32 := Scalar.addi v1722 c2_i32_2343
  let v1742 : Index := Scalar.indexCast v1741
  ![v1742.toNat]
def k0_off34 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_90 : BitVec 32 := 1#32
  let v81 : BitVec 32 := Scalar.addi v2 c1_i32_90
  let c8_i32_91 : BitVec 32 := 8#32
  let v82 : BitVec 32 := Scalar.remsi v81 c8_i32_91
  let c256_i32_92 : BitVec 32 := 256#32
  let v83 : BitVec 32 := Scalar.muli v82 c256_i32_92
  let c0_i32_95 : BitVec 32 := 0#32
  let c1_i32_97 : BitVec 32 := 1#32
  let arg10 : BitVec 32 := Scf.iv c0_i32_95 c1_i32_97 k0_t5
  let c4_i32_2336 : BitVec 32 := 4#32
  let v1721 : BitVec 32 := Scalar.muli arg10 c4_i32_2336
  let v1722 : BitVec 32 := Scalar.addi v83 v1721
  let c2_i32_2343 : BitVec 32 := 2#32
  let v1741 : BitVec 32 := Scalar.addi v1722 c2_i32_2343
  let c0_i32_2350 : BitVec 32 := 0#32
  ![v1741.toNat, 0]
def k0_off35 (d0 : Dev nD) (v1743 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_93 : BitVec 32 := 8192#32
  let v84 : BitVec 32 := Scalar.muli v2 c8192_i32_93
  let v1759 : BitVec 32 := Scalar.subi v1743 v84
  let c0_i32_2351 : BitVec 32 := 0#32
  ![v1759.toNat, 0]
def k0_cond11 (d0 : Dev nD) (v1743 : BitVec 32) : BitVec 1 :=
  let c13_i32_2344 : BitVec 32 := 13#32
  let v1744 : BitVec 32 := Scalar.shrsi v1743 c13_i32_2344
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1745 : BitVec 1 := Scalar.cmpi .eq v1744 v2
  let v1746 : BitVec 32 := Scalar.extui v1745
  let c0_i32_2345 : BitVec 32 := 0#32
  let v1747 : BitVec 1 := Scalar.cmpi .ne v1746 c0_i32_2345
  v1747

def k0_chk12 (d0 : Dev nD) (v1743 : BitVec 32) : Prop :=
  (∀ (k0_h11 : k0_cond11 d0 v1743 = 1#1), ∀ a, (k0_off35 d0 v1743) a + S1x1024.size a ≤ S8192x1024.size a)
theorem k0_off35_inb : ∀ (d0 : Dev nD) (v1743 : BitVec 32) (k0_hw12 : k0_chk12 d0 v1743), ∀ (k0_h11 : k0_cond11 d0 v1743 = 1#1), ∀ a, (k0_off35 d0 v1743) a + S1x1024.size a ≤ S8192x1024.size a := fun d0 v1743 k0_hw12 k0_h11 => k0_hw12 k0_h11

def k0_off36 (d0 : Dev nD) (k0_t5 : Fin k0_t5_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_90 : BitVec 32 := 1#32
  let v81 : BitVec 32 := Scalar.addi v2 c1_i32_90
  let c8_i32_91 : BitVec 32 := 8#32
  let v82 : BitVec 32 := Scalar.remsi v81 c8_i32_91
  let c256_i32_92 : BitVec 32 := 256#32
  let v83 : BitVec 32 := Scalar.muli v82 c256_i32_92
  let c0_i32_95 : BitVec 32 := 0#32
  let c1_i32_97 : BitVec 32 := 1#32
  let arg10 : BitVec 32 := Scf.iv c0_i32_95 c1_i32_97 k0_t5
  let c4_i32_2336 : BitVec 32 := 4#32
  let v1721 : BitVec 32 := Scalar.muli arg10 c4_i32_2336
  let v1722 : BitVec 32 := Scalar.addi v83 v1721
  let c3_i32_2346 : BitVec 32 := 3#32
  let v1750 : BitVec 32 := Scalar.addi v1722 c3_i32_2346
  let v1751 : Index := Scalar.indexCast v1750
  ![v1751.toNat]
def k0_off37 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_90 : BitVec 32 := 1#32
  let v81 : BitVec 32 := Scalar.addi v2 c1_i32_90
  let c8_i32_91 : BitVec 32 := 8#32
  let v82 : BitVec 32 := Scalar.remsi v81 c8_i32_91
  let c256_i32_92 : BitVec 32 := 256#32
  let v83 : BitVec 32 := Scalar.muli v82 c256_i32_92
  let c0_i32_95 : BitVec 32 := 0#32
  let c1_i32_97 : BitVec 32 := 1#32
  let arg10 : BitVec 32 := Scf.iv c0_i32_95 c1_i32_97 k0_t5
  let c4_i32_2336 : BitVec 32 := 4#32
  let v1721 : BitVec 32 := Scalar.muli arg10 c4_i32_2336
  let v1722 : BitVec 32 := Scalar.addi v83 v1721
  let c3_i32_2346 : BitVec 32 := 3#32
  let v1750 : BitVec 32 := Scalar.addi v1722 c3_i32_2346
  let c0_i32_2350 : BitVec 32 := 0#32
  ![v1750.toNat, 0]
def k0_off38 (d0 : Dev nD) (v1752 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_93 : BitVec 32 := 8192#32
  let v84 : BitVec 32 := Scalar.muli v2 c8192_i32_93
  let v1759 : BitVec 32 := Scalar.subi v1752 v84
  let c0_i32_2351 : BitVec 32 := 0#32
  ![v1759.toNat, 0]
def k0_cond12 (d0 : Dev nD) (v1752 : BitVec 32) : BitVec 1 :=
  let c13_i32_2347 : BitVec 32 := 13#32
  let v1753 : BitVec 32 := Scalar.shrsi v1752 c13_i32_2347
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1754 : BitVec 1 := Scalar.cmpi .eq v1753 v2
  let v1755 : BitVec 32 := Scalar.extui v1754
  let c0_i32_2348 : BitVec 32 := 0#32
  let v1756 : BitVec 1 := Scalar.cmpi .ne v1755 c0_i32_2348
  v1756

def k0_chk13 (d0 : Dev nD) (v1752 : BitVec 32) : Prop :=
  (∀ (k0_h12 : k0_cond12 d0 v1752 = 1#1), ∀ a, (k0_off38 d0 v1752) a + S1x1024.size a ≤ S8192x1024.size a)
theorem k0_off38_inb : ∀ (d0 : Dev nD) (v1752 : BitVec 32) (k0_hw13 : k0_chk13 d0 v1752), ∀ (k0_h12 : k0_cond12 d0 v1752 = 1#1), ∀ a, (k0_off38 d0 v1752) a + S1x1024.size a ≤ S8192x1024.size a := fun d0 v1752 k0_hw13 k0_h12 => k0_hw13 k0_h12

@[reducible] def k0_t6_loop (v80 : BitVec 32) (v86 : BitVec 32) : Scf.Loop 32 :=
  let c0_i32_118 : BitVec 32 := 0#32
  let v87 : BitVec 32 := Scalar.addi v80 v86
  let v100 : BitVec 32 := Scalar.subi v87 c0_i32_118
  let c1_i32_119 : BitVec 32 := 1#32
  let v102 : BitVec 32 := Scalar.divsi v100 c1_i32_119
  let v103 : BitVec 32 := Scalar.muli v102 c1_i32_119
  let v104 : BitVec 32 := Scalar.addi c0_i32_118 v103
  let c1_i32_120 : BitVec 32 := 1#32
  ⟨c0_i32_118, v104, c1_i32_120⟩

@[reducible] def k0_t7_loop (v80 : BitVec 32) (v86 : BitVec 32) : Scf.Loop 32 :=
  let c0_i32_118 : BitVec 32 := 0#32
  let v87 : BitVec 32 := Scalar.addi v80 v86
  let v100 : BitVec 32 := Scalar.subi v87 c0_i32_118
  let c1_i32_119 : BitVec 32 := 1#32
  let v102 : BitVec 32 := Scalar.divsi v100 c1_i32_119
  let v103 : BitVec 32 := Scalar.muli v102 c1_i32_119
  let v104 : BitVec 32 := Scalar.addi c0_i32_118 v103
  let v101 : BitVec 32 := Scalar.addi c0_i32_118 v100
  let c1_i32_121 : BitVec 32 := 1#32
  ⟨v104, v101, c1_i32_121⟩

def k0_chk14 (v80 : BitVec 32) (v86 : BitVec 32) : Prop :=
  ((k0_t6_loop v80 v86).OK) ∧
  ((k0_t7_loop v80 v86).OK)
theorem k0_t6_ok : ∀ (v80 : BitVec 32) (v86 : BitVec 32) (k0_hw14 : k0_chk14 v80 v86), (k0_t6_loop v80 v86).OK := fun v80 v86 k0_hw14 => k0_hw14.1
theorem k0_t7_ok : ∀ (v80 : BitVec 32) (v86 : BitVec 32) (k0_hw14 : k0_chk14 v80 v86), (k0_t7_loop v80 v86).OK := fun v80 v86 k0_hw14 => k0_hw14.2

def k0_off39 (d0 : Dev nD) (c0_i32_123 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_99 : BitVec 32 := 7#32
  let v88 : BitVec 32 := Scalar.addi v2 c7_i32_99
  let c8_i32_100 : BitVec 32 := 8#32
  let v89 : BitVec 32 := Scalar.remsi v88 c8_i32_100
  let c256_i32_122 : BitVec 32 := 256#32
  let v105 : BitVec 32 := Scalar.muli v89 c256_i32_122
  let v106 : BitVec 32 := Scalar.addi v105 c0_i32_123
  let v107 : Index := Scalar.indexCast v106
  let c0_124 : Index := 0#32
  ![v107.toNat, 0]
def k0_off40 (d0 : Dev nD) (c7_i32_129 : BitVec 32) (c0_i32_132 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v115 : BitVec 32 := Scalar.addi v2 c7_i32_129
  let c8_i32_130 : BitVec 32 := 8#32
  let v116 : BitVec 32 := Scalar.remsi v115 c8_i32_130
  let c256_i32_131 : BitVec 32 := 256#32
  let v117 : BitVec 32 := Scalar.muli v116 c256_i32_131
  let v118 : BitVec 32 := Scalar.addi v117 c0_i32_132
  let c0_i32_144 : BitVec 32 := 0#32
  ![v118.toNat, 0]
def k0_off40_at (r : Fin 3) : BitVec 32 × BitVec 32 :=
  if r.val < 1 then
    (7#32, 0#32)
  else
    if r.val < 2 then
      (8#32, 128#32)
    else
      (7#32, 128#32)
def k0_dev7 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_140 : BitVec 32 := 1#32
  let v119 : BitVec 32 := Scalar.muli v6 c1_i32_140
  let v120 : BitVec 32 := Scalar.addi c0_i32_141 v119
  v120.toNat
def k0_off41 (d0 : Dev nD) (c0_i32_35 : BitVec 32) (c0_i32_38 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v36 : BitVec 32 := Scalar.addi v2 c0_i32_35
  let c8_i32_36 : BitVec 32 := 8#32
  let v37 : BitVec 32 := Scalar.remsi v36 c8_i32_36
  let c256_i32_37 : BitVec 32 := 256#32
  let v38 : BitVec 32 := Scalar.muli v37 c256_i32_37
  let v39 : BitVec 32 := Scalar.addi v38 c0_i32_38
  let c512_i32_156 : BitVec 32 := 512#32
  ![v39.toNat, 512]
def k0_off42 (d0 : Dev nD) (c0_i32_158 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_101 : BitVec 32 := 0#32
  let v90 : BitVec 32 := Scalar.addi v2 c0_i32_101
  let c1_i32_102 : BitVec 32 := 1#32
  let v91 : BitVec 32 := Scalar.addi v90 c1_i32_102
  let c8_i32_103 : BitVec 32 := 8#32
  let v92 : BitVec 32 := Scalar.remsi v91 c8_i32_103
  let c256_i32_157 : BitVec 32 := 256#32
  let v135 : BitVec 32 := Scalar.muli v92 c256_i32_157
  let v136 : BitVec 32 := Scalar.addi v135 c0_i32_158
  let v137 : Index := Scalar.indexCast v136
  let c512 : Index := 512#32
  ![v137.toNat, 512]
def k0_dev8 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_174 : BitVec 32 := 1#32
  let v149 : BitVec 32 := Scalar.muli v4 c1_i32_174
  let v150 : BitVec 32 := Scalar.addi c0_i32_175 v149
  v150.toNat
def k0_dev9 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_208 : BitVec 32 := 1#32
  let v179 : BitVec 32 := Scalar.muli v6 c1_i32_208
  let v180 : BitVec 32 := Scalar.addi c0_i32_209 v179
  v180.toNat
def k0_dev10 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_243 : BitVec 32 := 1#32
  let v209 : BitVec 32 := Scalar.muli v4 c1_i32_243
  let v210 : BitVec 32 := Scalar.addi c0_i32_244 v209
  v210.toNat
@[reducible] def k0_t8_loop : Scf.Loop 32 :=
  let c0_i32_252 : BitVec 32 := 0#32
  let c64_i32_253 : BitVec 32 := 64#32
  let v222 : BitVec 32 := Scalar.addi c0_i32_252 c64_i32_253
  let c1_i32_254 : BitVec 32 := 1#32
  ⟨c0_i32_252, v222, c1_i32_254⟩
def k0_off43 (d0 : Dev nD) (k0_t8 : Fin k0_t8_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v218 : BitVec 32 := Scalar.addi v2 c6_i32
  let c8_i32_248 : BitVec 32 := 8#32
  let v219 : BitVec 32 := Scalar.remsi v218 c8_i32_248
  let c256_i32_249 : BitVec 32 := 256#32
  let v220 : BitVec 32 := Scalar.muli v219 c256_i32_249
  let c0_i32_252 : BitVec 32 := 0#32
  let c1_i32_254 : BitVec 32 := 1#32
  let arg10 : BitVec 32 := Scf.iv c0_i32_252 c1_i32_254 k0_t8
  let c4_i32_2336 : BitVec 32 := 4#32
  let v1721 : BitVec 32 := Scalar.muli arg10 c4_i32_2336
  let v1722 : BitVec 32 := Scalar.addi v220 v1721
  let c0_i32_2337 : BitVec 32 := 0#32
  let v1723 : BitVec 32 := Scalar.addi v1722 c0_i32_2337
  let v1724 : Index := Scalar.indexCast v1723
  ![v1724.toNat]
def k0_off44 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v218 : BitVec 32 := Scalar.addi v2 c6_i32
  let c8_i32_248 : BitVec 32 := 8#32
  let v219 : BitVec 32 := Scalar.remsi v218 c8_i32_248
  let c256_i32_249 : BitVec 32 := 256#32
  let v220 : BitVec 32 := Scalar.muli v219 c256_i32_249
  let c0_i32_252 : BitVec 32 := 0#32
  let c1_i32_254 : BitVec 32 := 1#32
  let arg10 : BitVec 32 := Scf.iv c0_i32_252 c1_i32_254 k0_t8
  let c4_i32_2336 : BitVec 32 := 4#32
  let v1721 : BitVec 32 := Scalar.muli arg10 c4_i32_2336
  let v1722 : BitVec 32 := Scalar.addi v220 v1721
  let c0_i32_2337 : BitVec 32 := 0#32
  let v1723 : BitVec 32 := Scalar.addi v1722 c0_i32_2337
  let c0_i32_2350 : BitVec 32 := 0#32
  ![v1723.toNat, 0]
def k0_off45 (d0 : Dev nD) (v1725 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_250 : BitVec 32 := 8192#32
  let v221 : BitVec 32 := Scalar.muli v2 c8192_i32_250
  let v1759 : BitVec 32 := Scalar.subi v1725 v221
  let c0_i32_2351 : BitVec 32 := 0#32
  ![v1759.toNat, 0]
def k0_cond13 (d0 : Dev nD) (v1725 : BitVec 32) : BitVec 1 :=
  let c13_i32_2338 : BitVec 32 := 13#32
  let v1726 : BitVec 32 := Scalar.shrsi v1725 c13_i32_2338
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1727 : BitVec 1 := Scalar.cmpi .eq v1726 v2
  let v1728 : BitVec 32 := Scalar.extui v1727
  let c0_i32_2339 : BitVec 32 := 0#32
  let v1729 : BitVec 1 := Scalar.cmpi .ne v1728 c0_i32_2339
  v1729

def k0_chk15 (d0 : Dev nD) (v1725 : BitVec 32) : Prop :=
  (∀ (k0_h13 : k0_cond13 d0 v1725 = 1#1), ∀ a, (k0_off45 d0 v1725) a + S1x1024.size a ≤ S8192x1024.size a)
theorem k0_off45_inb : ∀ (d0 : Dev nD) (v1725 : BitVec 32) (k0_hw15 : k0_chk15 d0 v1725), ∀ (k0_h13 : k0_cond13 d0 v1725 = 1#1), ∀ a, (k0_off45 d0 v1725) a + S1x1024.size a ≤ S8192x1024.size a := fun d0 v1725 k0_hw15 k0_h13 => k0_hw15 k0_h13

def k0_off46 (d0 : Dev nD) (k0_t8 : Fin k0_t8_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v218 : BitVec 32 := Scalar.addi v2 c6_i32
  let c8_i32_248 : BitVec 32 := 8#32
  let v219 : BitVec 32 := Scalar.remsi v218 c8_i32_248
  let c256_i32_249 : BitVec 32 := 256#32
  let v220 : BitVec 32 := Scalar.muli v219 c256_i32_249
  let c0_i32_252 : BitVec 32 := 0#32
  let c1_i32_254 : BitVec 32 := 1#32
  let arg10 : BitVec 32 := Scf.iv c0_i32_252 c1_i32_254 k0_t8
  let c4_i32_2336 : BitVec 32 := 4#32
  let v1721 : BitVec 32 := Scalar.muli arg10 c4_i32_2336
  let v1722 : BitVec 32 := Scalar.addi v220 v1721
  let c1_i32_2340 : BitVec 32 := 1#32
  let v1732 : BitVec 32 := Scalar.addi v1722 c1_i32_2340
  let v1733 : Index := Scalar.indexCast v1732
  ![v1733.toNat]
def k0_off47 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v218 : BitVec 32 := Scalar.addi v2 c6_i32
  let c8_i32_248 : BitVec 32 := 8#32
  let v219 : BitVec 32 := Scalar.remsi v218 c8_i32_248
  let c256_i32_249 : BitVec 32 := 256#32
  let v220 : BitVec 32 := Scalar.muli v219 c256_i32_249
  let c0_i32_252 : BitVec 32 := 0#32
  let c1_i32_254 : BitVec 32 := 1#32
  let arg10 : BitVec 32 := Scf.iv c0_i32_252 c1_i32_254 k0_t8
  let c4_i32_2336 : BitVec 32 := 4#32
  let v1721 : BitVec 32 := Scalar.muli arg10 c4_i32_2336
  let v1722 : BitVec 32 := Scalar.addi v220 v1721
  let c1_i32_2340 : BitVec 32 := 1#32
  let v1732 : BitVec 32 := Scalar.addi v1722 c1_i32_2340
  let c0_i32_2350 : BitVec 32 := 0#32
  ![v1732.toNat, 0]
def k0_off48 (d0 : Dev nD) (v1734 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_250 : BitVec 32 := 8192#32
  let v221 : BitVec 32 := Scalar.muli v2 c8192_i32_250
  let v1759 : BitVec 32 := Scalar.subi v1734 v221
  let c0_i32_2351 : BitVec 32 := 0#32
  ![v1759.toNat, 0]
def k0_cond14 (d0 : Dev nD) (v1734 : BitVec 32) : BitVec 1 :=
  let c13_i32_2341 : BitVec 32 := 13#32
  let v1735 : BitVec 32 := Scalar.shrsi v1734 c13_i32_2341
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1736 : BitVec 1 := Scalar.cmpi .eq v1735 v2
  let v1737 : BitVec 32 := Scalar.extui v1736
  let c0_i32_2342 : BitVec 32 := 0#32
  let v1738 : BitVec 1 := Scalar.cmpi .ne v1737 c0_i32_2342
  v1738

def k0_chk16 (d0 : Dev nD) (v1734 : BitVec 32) : Prop :=
  (∀ (k0_h14 : k0_cond14 d0 v1734 = 1#1), ∀ a, (k0_off48 d0 v1734) a + S1x1024.size a ≤ S8192x1024.size a)
theorem k0_off48_inb : ∀ (d0 : Dev nD) (v1734 : BitVec 32) (k0_hw16 : k0_chk16 d0 v1734), ∀ (k0_h14 : k0_cond14 d0 v1734 = 1#1), ∀ a, (k0_off48 d0 v1734) a + S1x1024.size a ≤ S8192x1024.size a := fun d0 v1734 k0_hw16 k0_h14 => k0_hw16 k0_h14

def k0_off49 (d0 : Dev nD) (k0_t8 : Fin k0_t8_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v218 : BitVec 32 := Scalar.addi v2 c6_i32
  let c8_i32_248 : BitVec 32 := 8#32
  let v219 : BitVec 32 := Scalar.remsi v218 c8_i32_248
  let c256_i32_249 : BitVec 32 := 256#32
  let v220 : BitVec 32 := Scalar.muli v219 c256_i32_249
  let c0_i32_252 : BitVec 32 := 0#32
  let c1_i32_254 : BitVec 32 := 1#32
  let arg10 : BitVec 32 := Scf.iv c0_i32_252 c1_i32_254 k0_t8
  let c4_i32_2336 : BitVec 32 := 4#32
  let v1721 : BitVec 32 := Scalar.muli arg10 c4_i32_2336
  let v1722 : BitVec 32 := Scalar.addi v220 v1721
  let c2_i32_2343 : BitVec 32 := 2#32
  let v1741 : BitVec 32 := Scalar.addi v1722 c2_i32_2343
  let v1742 : Index := Scalar.indexCast v1741
  ![v1742.toNat]
def k0_off50 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v218 : BitVec 32 := Scalar.addi v2 c6_i32
  let c8_i32_248 : BitVec 32 := 8#32
  let v219 : BitVec 32 := Scalar.remsi v218 c8_i32_248
  let c256_i32_249 : BitVec 32 := 256#32
  let v220 : BitVec 32 := Scalar.muli v219 c256_i32_249
  let c0_i32_252 : BitVec 32 := 0#32
  let c1_i32_254 : BitVec 32 := 1#32
  let arg10 : BitVec 32 := Scf.iv c0_i32_252 c1_i32_254 k0_t8
  let c4_i32_2336 : BitVec 32 := 4#32
  let v1721 : BitVec 32 := Scalar.muli arg10 c4_i32_2336
  let v1722 : BitVec 32 := Scalar.addi v220 v1721
  let c2_i32_2343 : BitVec 32 := 2#32
  let v1741 : BitVec 32 := Scalar.addi v1722 c2_i32_2343
  let c0_i32_2350 : BitVec 32 := 0#32
  ![v1741.toNat, 0]
def k0_off51 (d0 : Dev nD) (v1743 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_250 : BitVec 32 := 8192#32
  let v221 : BitVec 32 := Scalar.muli v2 c8192_i32_250
  let v1759 : BitVec 32 := Scalar.subi v1743 v221
  let c0_i32_2351 : BitVec 32 := 0#32
  ![v1759.toNat, 0]
def k0_cond15 (d0 : Dev nD) (v1743 : BitVec 32) : BitVec 1 :=
  let c13_i32_2344 : BitVec 32 := 13#32
  let v1744 : BitVec 32 := Scalar.shrsi v1743 c13_i32_2344
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1745 : BitVec 1 := Scalar.cmpi .eq v1744 v2
  let v1746 : BitVec 32 := Scalar.extui v1745
  let c0_i32_2345 : BitVec 32 := 0#32
  let v1747 : BitVec 1 := Scalar.cmpi .ne v1746 c0_i32_2345
  v1747

def k0_chk17 (d0 : Dev nD) (v1743 : BitVec 32) : Prop :=
  (∀ (k0_h15 : k0_cond15 d0 v1743 = 1#1), ∀ a, (k0_off51 d0 v1743) a + S1x1024.size a ≤ S8192x1024.size a)
theorem k0_off51_inb : ∀ (d0 : Dev nD) (v1743 : BitVec 32) (k0_hw17 : k0_chk17 d0 v1743), ∀ (k0_h15 : k0_cond15 d0 v1743 = 1#1), ∀ a, (k0_off51 d0 v1743) a + S1x1024.size a ≤ S8192x1024.size a := fun d0 v1743 k0_hw17 k0_h15 => k0_hw17 k0_h15

def k0_off52 (d0 : Dev nD) (k0_t8 : Fin k0_t8_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v218 : BitVec 32 := Scalar.addi v2 c6_i32
  let c8_i32_248 : BitVec 32 := 8#32
  let v219 : BitVec 32 := Scalar.remsi v218 c8_i32_248
  let c256_i32_249 : BitVec 32 := 256#32
  let v220 : BitVec 32 := Scalar.muli v219 c256_i32_249
  let c0_i32_252 : BitVec 32 := 0#32
  let c1_i32_254 : BitVec 32 := 1#32
  let arg10 : BitVec 32 := Scf.iv c0_i32_252 c1_i32_254 k0_t8
  let c4_i32_2336 : BitVec 32 := 4#32
  let v1721 : BitVec 32 := Scalar.muli arg10 c4_i32_2336
  let v1722 : BitVec 32 := Scalar.addi v220 v1721
  let c3_i32_2346 : BitVec 32 := 3#32
  let v1750 : BitVec 32 := Scalar.addi v1722 c3_i32_2346
  let v1751 : Index := Scalar.indexCast v1750
  ![v1751.toNat]
def k0_off53 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v218 : BitVec 32 := Scalar.addi v2 c6_i32
  let c8_i32_248 : BitVec 32 := 8#32
  let v219 : BitVec 32 := Scalar.remsi v218 c8_i32_248
  let c256_i32_249 : BitVec 32 := 256#32
  let v220 : BitVec 32 := Scalar.muli v219 c256_i32_249
  let c0_i32_252 : BitVec 32 := 0#32
  let c1_i32_254 : BitVec 32 := 1#32
  let arg10 : BitVec 32 := Scf.iv c0_i32_252 c1_i32_254 k0_t8
  let c4_i32_2336 : BitVec 32 := 4#32
  let v1721 : BitVec 32 := Scalar.muli arg10 c4_i32_2336
  let v1722 : BitVec 32 := Scalar.addi v220 v1721
  let c3_i32_2346 : BitVec 32 := 3#32
  let v1750 : BitVec 32 := Scalar.addi v1722 c3_i32_2346
  let c0_i32_2350 : BitVec 32 := 0#32
  ![v1750.toNat, 0]
def k0_off54 (d0 : Dev nD) (v1752 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_250 : BitVec 32 := 8192#32
  let v221 : BitVec 32 := Scalar.muli v2 c8192_i32_250
  let v1759 : BitVec 32 := Scalar.subi v1752 v221
  let c0_i32_2351 : BitVec 32 := 0#32
  ![v1759.toNat, 0]
def k0_cond16 (d0 : Dev nD) (v1752 : BitVec 32) : BitVec 1 :=
  let c13_i32_2347 : BitVec 32 := 13#32
  let v1753 : BitVec 32 := Scalar.shrsi v1752 c13_i32_2347
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1754 : BitVec 1 := Scalar.cmpi .eq v1753 v2
  let v1755 : BitVec 32 := Scalar.extui v1754
  let c0_i32_2348 : BitVec 32 := 0#32
  let v1756 : BitVec 1 := Scalar.cmpi .ne v1755 c0_i32_2348
  v1756

def k0_chk18 (d0 : Dev nD) (v1752 : BitVec 32) : Prop :=
  (∀ (k0_h16 : k0_cond16 d0 v1752 = 1#1), ∀ a, (k0_off54 d0 v1752) a + S1x1024.size a ≤ S8192x1024.size a)
theorem k0_off54_inb : ∀ (d0 : Dev nD) (v1752 : BitVec 32) (k0_hw18 : k0_chk18 d0 v1752), ∀ (k0_h16 : k0_cond16 d0 v1752 = 1#1), ∀ a, (k0_off54 d0 v1752) a + S1x1024.size a ≤ S8192x1024.size a := fun d0 v1752 k0_hw18 k0_h16 => k0_hw18 k0_h16

@[reducible] def k0_t9_loop : Scf.Loop 32 :=
  let c0_i32_262 : BitVec 32 := 0#32
  let c64_i32_263 : BitVec 32 := 64#32
  let v229 : BitVec 32 := Scalar.addi c0_i32_262 c64_i32_263
  let c1_i32_264 : BitVec 32 := 1#32
  ⟨c0_i32_262, v229, c1_i32_264⟩
def k0_off55 (d0 : Dev nD) (k0_t9 : Fin k0_t9_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_256 : BitVec 32 := 0#32
  let v224 : BitVec 32 := Scalar.addi v2 c0_i32_256
  let c2_i32_257 : BitVec 32 := 2#32
  let v225 : BitVec 32 := Scalar.addi v224 c2_i32_257
  let c8_i32_258 : BitVec 32 := 8#32
  let v226 : BitVec 32 := Scalar.remsi v225 c8_i32_258
  let c256_i32_259 : BitVec 32 := 256#32
  let v227 : BitVec 32 := Scalar.muli v226 c256_i32_259
  let c0_i32_262 : BitVec 32 := 0#32
  let c1_i32_264 : BitVec 32 := 1#32
  let arg10 : BitVec 32 := Scf.iv c0_i32_262 c1_i32_264 k0_t9
  let c4_i32_2336 : BitVec 32 := 4#32
  let v1721 : BitVec 32 := Scalar.muli arg10 c4_i32_2336
  let v1722 : BitVec 32 := Scalar.addi v227 v1721
  let c0_i32_2337 : BitVec 32 := 0#32
  let v1723 : BitVec 32 := Scalar.addi v1722 c0_i32_2337
  let v1724 : Index := Scalar.indexCast v1723
  ![v1724.toNat]
def k0_off56 (d0 : Dev nD) (k0_t9 : Fin k0_t9_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_256 : BitVec 32 := 0#32
  let v224 : BitVec 32 := Scalar.addi v2 c0_i32_256
  let c2_i32_257 : BitVec 32 := 2#32
  let v225 : BitVec 32 := Scalar.addi v224 c2_i32_257
  let c8_i32_258 : BitVec 32 := 8#32
  let v226 : BitVec 32 := Scalar.remsi v225 c8_i32_258
  let c256_i32_259 : BitVec 32 := 256#32
  let v227 : BitVec 32 := Scalar.muli v226 c256_i32_259
  let c0_i32_262 : BitVec 32 := 0#32
  let c1_i32_264 : BitVec 32 := 1#32
  let arg10 : BitVec 32 := Scf.iv c0_i32_262 c1_i32_264 k0_t9
  let c4_i32_2336 : BitVec 32 := 4#32
  let v1721 : BitVec 32 := Scalar.muli arg10 c4_i32_2336
  let v1722 : BitVec 32 := Scalar.addi v227 v1721
  let c0_i32_2337 : BitVec 32 := 0#32
  let v1723 : BitVec 32 := Scalar.addi v1722 c0_i32_2337
  let c0_i32_2350 : BitVec 32 := 0#32
  ![v1723.toNat, 0]
def k0_off57 (d0 : Dev nD) (v1725 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_260 : BitVec 32 := 8192#32
  let v228 : BitVec 32 := Scalar.muli v2 c8192_i32_260
  let v1759 : BitVec 32 := Scalar.subi v1725 v228
  let c0_i32_2351 : BitVec 32 := 0#32
  ![v1759.toNat, 0]
def k0_cond17 (d0 : Dev nD) (v1725 : BitVec 32) : BitVec 1 :=
  let c13_i32_2338 : BitVec 32 := 13#32
  let v1726 : BitVec 32 := Scalar.shrsi v1725 c13_i32_2338
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1727 : BitVec 1 := Scalar.cmpi .eq v1726 v2
  let v1728 : BitVec 32 := Scalar.extui v1727
  let c0_i32_2339 : BitVec 32 := 0#32
  let v1729 : BitVec 1 := Scalar.cmpi .ne v1728 c0_i32_2339
  v1729

def k0_chk19 (d0 : Dev nD) (v1725 : BitVec 32) : Prop :=
  (∀ (k0_h17 : k0_cond17 d0 v1725 = 1#1), ∀ a, (k0_off57 d0 v1725) a + S1x1024.size a ≤ S8192x1024.size a)
theorem k0_off57_inb : ∀ (d0 : Dev nD) (v1725 : BitVec 32) (k0_hw19 : k0_chk19 d0 v1725), ∀ (k0_h17 : k0_cond17 d0 v1725 = 1#1), ∀ a, (k0_off57 d0 v1725) a + S1x1024.size a ≤ S8192x1024.size a := fun d0 v1725 k0_hw19 k0_h17 => k0_hw19 k0_h17

def k0_off58 (d0 : Dev nD) (k0_t9 : Fin k0_t9_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_256 : BitVec 32 := 0#32
  let v224 : BitVec 32 := Scalar.addi v2 c0_i32_256
  let c2_i32_257 : BitVec 32 := 2#32
  let v225 : BitVec 32 := Scalar.addi v224 c2_i32_257
  let c8_i32_258 : BitVec 32 := 8#32
  let v226 : BitVec 32 := Scalar.remsi v225 c8_i32_258
  let c256_i32_259 : BitVec 32 := 256#32
  let v227 : BitVec 32 := Scalar.muli v226 c256_i32_259
  let c0_i32_262 : BitVec 32 := 0#32
  let c1_i32_264 : BitVec 32 := 1#32
  let arg10 : BitVec 32 := Scf.iv c0_i32_262 c1_i32_264 k0_t9
  let c4_i32_2336 : BitVec 32 := 4#32
  let v1721 : BitVec 32 := Scalar.muli arg10 c4_i32_2336
  let v1722 : BitVec 32 := Scalar.addi v227 v1721
  let c1_i32_2340 : BitVec 32 := 1#32
  let v1732 : BitVec 32 := Scalar.addi v1722 c1_i32_2340
  let v1733 : Index := Scalar.indexCast v1732
  ![v1733.toNat]
def k0_off59 (d0 : Dev nD) (k0_t9 : Fin k0_t9_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_256 : BitVec 32 := 0#32
  let v224 : BitVec 32 := Scalar.addi v2 c0_i32_256
  let c2_i32_257 : BitVec 32 := 2#32
  let v225 : BitVec 32 := Scalar.addi v224 c2_i32_257
  let c8_i32_258 : BitVec 32 := 8#32
  let v226 : BitVec 32 := Scalar.remsi v225 c8_i32_258
  let c256_i32_259 : BitVec 32 := 256#32
  let v227 : BitVec 32 := Scalar.muli v226 c256_i32_259
  let c0_i32_262 : BitVec 32 := 0#32
  let c1_i32_264 : BitVec 32 := 1#32
  let arg10 : BitVec 32 := Scf.iv c0_i32_262 c1_i32_264 k0_t9
  let c4_i32_2336 : BitVec 32 := 4#32
  let v1721 : BitVec 32 := Scalar.muli arg10 c4_i32_2336
  let v1722 : BitVec 32 := Scalar.addi v227 v1721
  let c1_i32_2340 : BitVec 32 := 1#32
  let v1732 : BitVec 32 := Scalar.addi v1722 c1_i32_2340
  let c0_i32_2350 : BitVec 32 := 0#32
  ![v1732.toNat, 0]
def k0_off60 (d0 : Dev nD) (v1734 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_260 : BitVec 32 := 8192#32
  let v228 : BitVec 32 := Scalar.muli v2 c8192_i32_260
  let v1759 : BitVec 32 := Scalar.subi v1734 v228
  let c0_i32_2351 : BitVec 32 := 0#32
  ![v1759.toNat, 0]
def k0_cond18 (d0 : Dev nD) (v1734 : BitVec 32) : BitVec 1 :=
  let c13_i32_2341 : BitVec 32 := 13#32
  let v1735 : BitVec 32 := Scalar.shrsi v1734 c13_i32_2341
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1736 : BitVec 1 := Scalar.cmpi .eq v1735 v2
  let v1737 : BitVec 32 := Scalar.extui v1736
  let c0_i32_2342 : BitVec 32 := 0#32
  let v1738 : BitVec 1 := Scalar.cmpi .ne v1737 c0_i32_2342
  v1738

def k0_chk20 (d0 : Dev nD) (v1734 : BitVec 32) : Prop :=
  (∀ (k0_h18 : k0_cond18 d0 v1734 = 1#1), ∀ a, (k0_off60 d0 v1734) a + S1x1024.size a ≤ S8192x1024.size a)
theorem k0_off60_inb : ∀ (d0 : Dev nD) (v1734 : BitVec 32) (k0_hw20 : k0_chk20 d0 v1734), ∀ (k0_h18 : k0_cond18 d0 v1734 = 1#1), ∀ a, (k0_off60 d0 v1734) a + S1x1024.size a ≤ S8192x1024.size a := fun d0 v1734 k0_hw20 k0_h18 => k0_hw20 k0_h18

def k0_off61 (d0 : Dev nD) (k0_t9 : Fin k0_t9_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_256 : BitVec 32 := 0#32
  let v224 : BitVec 32 := Scalar.addi v2 c0_i32_256
  let c2_i32_257 : BitVec 32 := 2#32
  let v225 : BitVec 32 := Scalar.addi v224 c2_i32_257
  let c8_i32_258 : BitVec 32 := 8#32
  let v226 : BitVec 32 := Scalar.remsi v225 c8_i32_258
  let c256_i32_259 : BitVec 32 := 256#32
  let v227 : BitVec 32 := Scalar.muli v226 c256_i32_259
  let c0_i32_262 : BitVec 32 := 0#32
  let c1_i32_264 : BitVec 32 := 1#32
  let arg10 : BitVec 32 := Scf.iv c0_i32_262 c1_i32_264 k0_t9
  let c4_i32_2336 : BitVec 32 := 4#32
  let v1721 : BitVec 32 := Scalar.muli arg10 c4_i32_2336
  let v1722 : BitVec 32 := Scalar.addi v227 v1721
  let c2_i32_2343 : BitVec 32 := 2#32
  let v1741 : BitVec 32 := Scalar.addi v1722 c2_i32_2343
  let v1742 : Index := Scalar.indexCast v1741
  ![v1742.toNat]
def k0_off62 (d0 : Dev nD) (k0_t9 : Fin k0_t9_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_256 : BitVec 32 := 0#32
  let v224 : BitVec 32 := Scalar.addi v2 c0_i32_256
  let c2_i32_257 : BitVec 32 := 2#32
  let v225 : BitVec 32 := Scalar.addi v224 c2_i32_257
  let c8_i32_258 : BitVec 32 := 8#32
  let v226 : BitVec 32 := Scalar.remsi v225 c8_i32_258
  let c256_i32_259 : BitVec 32 := 256#32
  let v227 : BitVec 32 := Scalar.muli v226 c256_i32_259
  let c0_i32_262 : BitVec 32 := 0#32
  let c1_i32_264 : BitVec 32 := 1#32
  let arg10 : BitVec 32 := Scf.iv c0_i32_262 c1_i32_264 k0_t9
  let c4_i32_2336 : BitVec 32 := 4#32
  let v1721 : BitVec 32 := Scalar.muli arg10 c4_i32_2336
  let v1722 : BitVec 32 := Scalar.addi v227 v1721
  let c2_i32_2343 : BitVec 32 := 2#32
  let v1741 : BitVec 32 := Scalar.addi v1722 c2_i32_2343
  let c0_i32_2350 : BitVec 32 := 0#32
  ![v1741.toNat, 0]
def k0_off63 (d0 : Dev nD) (v1743 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_260 : BitVec 32 := 8192#32
  let v228 : BitVec 32 := Scalar.muli v2 c8192_i32_260
  let v1759 : BitVec 32 := Scalar.subi v1743 v228
  let c0_i32_2351 : BitVec 32 := 0#32
  ![v1759.toNat, 0]
def k0_cond19 (d0 : Dev nD) (v1743 : BitVec 32) : BitVec 1 :=
  let c13_i32_2344 : BitVec 32 := 13#32
  let v1744 : BitVec 32 := Scalar.shrsi v1743 c13_i32_2344
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1745 : BitVec 1 := Scalar.cmpi .eq v1744 v2
  let v1746 : BitVec 32 := Scalar.extui v1745
  let c0_i32_2345 : BitVec 32 := 0#32
  let v1747 : BitVec 1 := Scalar.cmpi .ne v1746 c0_i32_2345
  v1747

def k0_chk21 (d0 : Dev nD) (v1743 : BitVec 32) : Prop :=
  (∀ (k0_h19 : k0_cond19 d0 v1743 = 1#1), ∀ a, (k0_off63 d0 v1743) a + S1x1024.size a ≤ S8192x1024.size a)
theorem k0_off63_inb : ∀ (d0 : Dev nD) (v1743 : BitVec 32) (k0_hw21 : k0_chk21 d0 v1743), ∀ (k0_h19 : k0_cond19 d0 v1743 = 1#1), ∀ a, (k0_off63 d0 v1743) a + S1x1024.size a ≤ S8192x1024.size a := fun d0 v1743 k0_hw21 k0_h19 => k0_hw21 k0_h19

def k0_off64 (d0 : Dev nD) (k0_t9 : Fin k0_t9_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_256 : BitVec 32 := 0#32
  let v224 : BitVec 32 := Scalar.addi v2 c0_i32_256
  let c2_i32_257 : BitVec 32 := 2#32
  let v225 : BitVec 32 := Scalar.addi v224 c2_i32_257
  let c8_i32_258 : BitVec 32 := 8#32
  let v226 : BitVec 32 := Scalar.remsi v225 c8_i32_258
  let c256_i32_259 : BitVec 32 := 256#32
  let v227 : BitVec 32 := Scalar.muli v226 c256_i32_259
  let c0_i32_262 : BitVec 32 := 0#32
  let c1_i32_264 : BitVec 32 := 1#32
  let arg10 : BitVec 32 := Scf.iv c0_i32_262 c1_i32_264 k0_t9
  let c4_i32_2336 : BitVec 32 := 4#32
  let v1721 : BitVec 32 := Scalar.muli arg10 c4_i32_2336
  let v1722 : BitVec 32 := Scalar.addi v227 v1721
  let c3_i32_2346 : BitVec 32 := 3#32
  let v1750 : BitVec 32 := Scalar.addi v1722 c3_i32_2346
  let v1751 : Index := Scalar.indexCast v1750
  ![v1751.toNat]
def k0_off65 (d0 : Dev nD) (k0_t9 : Fin k0_t9_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_256 : BitVec 32 := 0#32
  let v224 : BitVec 32 := Scalar.addi v2 c0_i32_256
  let c2_i32_257 : BitVec 32 := 2#32
  let v225 : BitVec 32 := Scalar.addi v224 c2_i32_257
  let c8_i32_258 : BitVec 32 := 8#32
  let v226 : BitVec 32 := Scalar.remsi v225 c8_i32_258
  let c256_i32_259 : BitVec 32 := 256#32
  let v227 : BitVec 32 := Scalar.muli v226 c256_i32_259
  let c0_i32_262 : BitVec 32 := 0#32
  let c1_i32_264 : BitVec 32 := 1#32
  let arg10 : BitVec 32 := Scf.iv c0_i32_262 c1_i32_264 k0_t9
  let c4_i32_2336 : BitVec 32 := 4#32
  let v1721 : BitVec 32 := Scalar.muli arg10 c4_i32_2336
  let v1722 : BitVec 32 := Scalar.addi v227 v1721
  let c3_i32_2346 : BitVec 32 := 3#32
  let v1750 : BitVec 32 := Scalar.addi v1722 c3_i32_2346
  let c0_i32_2350 : BitVec 32 := 0#32
  ![v1750.toNat, 0]
def k0_off66 (d0 : Dev nD) (v1752 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_260 : BitVec 32 := 8192#32
  let v228 : BitVec 32 := Scalar.muli v2 c8192_i32_260
  let v1759 : BitVec 32 := Scalar.subi v1752 v228
  let c0_i32_2351 : BitVec 32 := 0#32
  ![v1759.toNat, 0]
def k0_cond20 (d0 : Dev nD) (v1752 : BitVec 32) : BitVec 1 :=
  let c13_i32_2347 : BitVec 32 := 13#32
  let v1753 : BitVec 32 := Scalar.shrsi v1752 c13_i32_2347
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1754 : BitVec 1 := Scalar.cmpi .eq v1753 v2
  let v1755 : BitVec 32 := Scalar.extui v1754
  let c0_i32_2348 : BitVec 32 := 0#32
  let v1756 : BitVec 1 := Scalar.cmpi .ne v1755 c0_i32_2348
  v1756

def k0_chk22 (d0 : Dev nD) (v1752 : BitVec 32) : Prop :=
  (∀ (k0_h20 : k0_cond20 d0 v1752 = 1#1), ∀ a, (k0_off66 d0 v1752) a + S1x1024.size a ≤ S8192x1024.size a)
theorem k0_off66_inb : ∀ (d0 : Dev nD) (v1752 : BitVec 32) (k0_hw22 : k0_chk22 d0 v1752), ∀ (k0_h20 : k0_cond20 d0 v1752 = 1#1), ∀ a, (k0_off66 d0 v1752) a + S1x1024.size a ≤ S8192x1024.size a := fun d0 v1752 k0_hw22 k0_h20 => k0_hw22 k0_h20

@[reducible] def k0_t10_loop (v223 : BitVec 32) (v230 : BitVec 32) : Scf.Loop 32 :=
  let c0_i32_285 : BitVec 32 := 0#32
  let v231 : BitVec 32 := Scalar.addi v223 v230
  let v244 : BitVec 32 := Scalar.subi v231 c0_i32_285
  let c1_i32_286 : BitVec 32 := 1#32
  let v246 : BitVec 32 := Scalar.divsi v244 c1_i32_286
  let v247 : BitVec 32 := Scalar.muli v246 c1_i32_286
  let v248 : BitVec 32 := Scalar.addi c0_i32_285 v247
  let c1_i32_287 : BitVec 32 := 1#32
  ⟨c0_i32_285, v248, c1_i32_287⟩

@[reducible] def k0_t11_loop (v223 : BitVec 32) (v230 : BitVec 32) : Scf.Loop 32 :=
  let c0_i32_285 : BitVec 32 := 0#32
  let v231 : BitVec 32 := Scalar.addi v223 v230
  let v244 : BitVec 32 := Scalar.subi v231 c0_i32_285
  let c1_i32_286 : BitVec 32 := 1#32
  let v246 : BitVec 32 := Scalar.divsi v244 c1_i32_286
  let v247 : BitVec 32 := Scalar.muli v246 c1_i32_286
  let v248 : BitVec 32 := Scalar.addi c0_i32_285 v247
  let v245 : BitVec 32 := Scalar.addi c0_i32_285 v244
  let c1_i32_288 : BitVec 32 := 1#32
  ⟨v248, v245, c1_i32_288⟩

def k0_chk23 (v223 : BitVec 32) (v230 : BitVec 32) : Prop :=
  ((k0_t10_loop v223 v230).OK) ∧
  ((k0_t11_loop v223 v230).OK)
theorem k0_t10_ok : ∀ (v223 : BitVec 32) (v230 : BitVec 32) (k0_hw23 : k0_chk23 v223 v230), (k0_t10_loop v223 v230).OK := fun v223 v230 k0_hw23 => k0_hw23.1
theorem k0_t11_ok : ∀ (v223 : BitVec 32) (v230 : BitVec 32) (k0_hw23 : k0_chk23 v223 v230), (k0_t11_loop v223 v230).OK := fun v223 v230 k0_hw23 => k0_hw23.2

def k0_off67 (d0 : Dev nD) (c0_i32_290 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_266 : BitVec 32 := 6#32
  let v232 : BitVec 32 := Scalar.addi v2 c6_i32_266
  let c8_i32_267 : BitVec 32 := 8#32
  let v233 : BitVec 32 := Scalar.remsi v232 c8_i32_267
  let c256_i32_289 : BitVec 32 := 256#32
  let v249 : BitVec 32 := Scalar.muli v233 c256_i32_289
  let v250 : BitVec 32 := Scalar.addi v249 c0_i32_290
  let v251 : Index := Scalar.indexCast v250
  let c0_291 : Index := 0#32
  ![v251.toNat, 0]
def k0_off68 (d0 : Dev nD) (c6_i32_295 : BitVec 32) (c0_i32_298 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v259 : BitVec 32 := Scalar.addi v2 c6_i32_295
  let c8_i32_296 : BitVec 32 := 8#32
  let v260 : BitVec 32 := Scalar.remsi v259 c8_i32_296
  let c256_i32_297 : BitVec 32 := 256#32
  let v261 : BitVec 32 := Scalar.muli v260 c256_i32_297
  let v262 : BitVec 32 := Scalar.addi v261 c0_i32_298
  let c0_i32_310 : BitVec 32 := 0#32
  ![v262.toNat, 0]
def k0_off68_at (r : Fin 3) : BitVec 32 × BitVec 32 :=
  if r.val < 1 then
    (6#32, 0#32)
  else
    if r.val < 2 then
      (7#32, 128#32)
    else
      (6#32, 128#32)
def k0_dev11 (d0 : Dev nD) : Nat :=
  let c0_i32_307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_306 : BitVec 32 := 1#32
  let v263 : BitVec 32 := Scalar.muli v6 c1_i32_306
  let v264 : BitVec 32 := Scalar.addi c0_i32_307 v263
  v264.toNat
def k0_off69 (d0 : Dev nD) (c1_i32_163 : BitVec 32) (c0_i32_166 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v145 : BitVec 32 := Scalar.addi v2 c1_i32_163
  let c8_i32_164 : BitVec 32 := 8#32
  let v146 : BitVec 32 := Scalar.remsi v145 c8_i32_164
  let c256_i32_165 : BitVec 32 := 256#32
  let v147 : BitVec 32 := Scalar.muli v146 c256_i32_165
  let v148 : BitVec 32 := Scalar.addi v147 c0_i32_166
  let c512_i32_322 : BitVec 32 := 512#32
  ![v148.toNat, 512]
def k0_off70 (d0 : Dev nD) (c0_i32_324 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_268 : BitVec 32 := 1#32
  let v234 : BitVec 32 := Scalar.addi v2 c1_i32_268
  let c1_i32_269 : BitVec 32 := 1#32
  let v235 : BitVec 32 := Scalar.addi v234 c1_i32_269
  let c8_i32_270 : BitVec 32 := 8#32
  let v236 : BitVec 32 := Scalar.remsi v235 c8_i32_270
  let c256_i32_323 : BitVec 32 := 256#32
  let v279 : BitVec 32 := Scalar.muli v236 c256_i32_323
  let v280 : BitVec 32 := Scalar.addi v279 c0_i32_324
  let v281 : Index := Scalar.indexCast v280
  let c512_325 : Index := 512#32
  ![v281.toNat, 512]
def k0_dev12 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_341 : BitVec 32 := 1#32
  let v293 : BitVec 32 := Scalar.muli v4 c1_i32_341
  let v294 : BitVec 32 := Scalar.addi c0_i32_342 v293
  v294.toNat
def k0_dev13 (d0 : Dev nD) : Nat :=
  let c0_i32_377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_376 : BitVec 32 := 1#32
  let v323 : BitVec 32 := Scalar.muli v6 c1_i32_376
  let v324 : BitVec 32 := Scalar.addi c0_i32_377 v323
  v324.toNat
def k0_dev14 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_411 : BitVec 32 := 1#32
  let v353 : BitVec 32 := Scalar.muli v4 c1_i32_411
  let v354 : BitVec 32 := Scalar.addi c0_i32_412 v353
  v354.toNat
@[reducible] def k0_t12_loop : Scf.Loop 32 :=
  let c0_i32_420 : BitVec 32 := 0#32
  let c64_i32_421 : BitVec 32 := 64#32
  let v366 : BitVec 32 := Scalar.addi c0_i32_420 c64_i32_421
  let c1_i32_422 : BitVec 32 := 1#32
  ⟨c0_i32_420, v366, c1_i32_422⟩
def k0_off71 (d0 : Dev nD) (k0_t12 : Fin k0_t12_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v362 : BitVec 32 := Scalar.addi v2 c5_i32
  let c8_i32_416 : BitVec 32 := 8#32
  let v363 : BitVec 32 := Scalar.remsi v362 c8_i32_416
  let c256_i32_417 : BitVec 32 := 256#32
  let v364 : BitVec 32 := Scalar.muli v363 c256_i32_417
  let c0_i32_420 : BitVec 32 := 0#32
  let c1_i32_422 : BitVec 32 := 1#32
  let arg10 : BitVec 32 := Scf.iv c0_i32_420 c1_i32_422 k0_t12
  let c4_i32_2336 : BitVec 32 := 4#32
  let v1721 : BitVec 32 := Scalar.muli arg10 c4_i32_2336
  let v1722 : BitVec 32 := Scalar.addi v364 v1721
  let c0_i32_2337 : BitVec 32 := 0#32
  let v1723 : BitVec 32 := Scalar.addi v1722 c0_i32_2337
  let v1724 : Index := Scalar.indexCast v1723
  ![v1724.toNat]
def k0_off72 (d0 : Dev nD) (k0_t12 : Fin k0_t12_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v362 : BitVec 32 := Scalar.addi v2 c5_i32
  let c8_i32_416 : BitVec 32 := 8#32
  let v363 : BitVec 32 := Scalar.remsi v362 c8_i32_416
  let c256_i32_417 : BitVec 32 := 256#32
  let v364 : BitVec 32 := Scalar.muli v363 c256_i32_417
  let c0_i32_420 : BitVec 32 := 0#32
  let c1_i32_422 : BitVec 32 := 1#32
  let arg10 : BitVec 32 := Scf.iv c0_i32_420 c1_i32_422 k0_t12
  let c4_i32_2336 : BitVec 32 := 4#32
  let v1721 : BitVec 32 := Scalar.muli arg10 c4_i32_2336
  let v1722 : BitVec 32 := Scalar.addi v364 v1721
  let c0_i32_2337 : BitVec 32 := 0#32
  let v1723 : BitVec 32 := Scalar.addi v1722 c0_i32_2337
  let c0_i32_2350 : BitVec 32 := 0#32
  ![v1723.toNat, 0]
def k0_off73 (d0 : Dev nD) (v1725 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_418 : BitVec 32 := 8192#32
  let v365 : BitVec 32 := Scalar.muli v2 c8192_i32_418
  let v1759 : BitVec 32 := Scalar.subi v1725 v365
  let c0_i32_2351 : BitVec 32 := 0#32
  ![v1759.toNat, 0]
def k0_cond21 (d0 : Dev nD) (v1725 : BitVec 32) : BitVec 1 :=
  let c13_i32_2338 : BitVec 32 := 13#32
  let v1726 : BitVec 32 := Scalar.shrsi v1725 c13_i32_2338
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1727 : BitVec 1 := Scalar.cmpi .eq v1726 v2
  let v1728 : BitVec 32 := Scalar.extui v1727
  let c0_i32_2339 : BitVec 32 := 0#32
  let v1729 : BitVec 1 := Scalar.cmpi .ne v1728 c0_i32_2339
  v1729

def k0_chk24 (d0 : Dev nD) (v1725 : BitVec 32) : Prop :=
  (∀ (k0_h21 : k0_cond21 d0 v1725 = 1#1), ∀ a, (k0_off73 d0 v1725) a + S1x1024.size a ≤ S8192x1024.size a)
theorem k0_off73_inb : ∀ (d0 : Dev nD) (v1725 : BitVec 32) (k0_hw24 : k0_chk24 d0 v1725), ∀ (k0_h21 : k0_cond21 d0 v1725 = 1#1), ∀ a, (k0_off73 d0 v1725) a + S1x1024.size a ≤ S8192x1024.size a := fun d0 v1725 k0_hw24 k0_h21 => k0_hw24 k0_h21

def k0_off74 (d0 : Dev nD) (k0_t12 : Fin k0_t12_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v362 : BitVec 32 := Scalar.addi v2 c5_i32
  let c8_i32_416 : BitVec 32 := 8#32
  let v363 : BitVec 32 := Scalar.remsi v362 c8_i32_416
  let c256_i32_417 : BitVec 32 := 256#32
  let v364 : BitVec 32 := Scalar.muli v363 c256_i32_417
  let c0_i32_420 : BitVec 32 := 0#32
  let c1_i32_422 : BitVec 32 := 1#32
  let arg10 : BitVec 32 := Scf.iv c0_i32_420 c1_i32_422 k0_t12
  let c4_i32_2336 : BitVec 32 := 4#32
  let v1721 : BitVec 32 := Scalar.muli arg10 c4_i32_2336
  let v1722 : BitVec 32 := Scalar.addi v364 v1721
  let c1_i32_2340 : BitVec 32 := 1#32
  let v1732 : BitVec 32 := Scalar.addi v1722 c1_i32_2340
  let v1733 : Index := Scalar.indexCast v1732
  ![v1733.toNat]
def k0_off75 (d0 : Dev nD) (k0_t12 : Fin k0_t12_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v362 : BitVec 32 := Scalar.addi v2 c5_i32
  let c8_i32_416 : BitVec 32 := 8#32
  let v363 : BitVec 32 := Scalar.remsi v362 c8_i32_416
  let c256_i32_417 : BitVec 32 := 256#32
  let v364 : BitVec 32 := Scalar.muli v363 c256_i32_417
  let c0_i32_420 : BitVec 32 := 0#32
  let c1_i32_422 : BitVec 32 := 1#32
  let arg10 : BitVec 32 := Scf.iv c0_i32_420 c1_i32_422 k0_t12
  let c4_i32_2336 : BitVec 32 := 4#32
  let v1721 : BitVec 32 := Scalar.muli arg10 c4_i32_2336
  let v1722 : BitVec 32 := Scalar.addi v364 v1721
  let c1_i32_2340 : BitVec 32 := 1#32
  let v1732 : BitVec 32 := Scalar.addi v1722 c1_i32_2340
  let c0_i32_2350 : BitVec 32 := 0#32
  ![v1732.toNat, 0]
def k0_off76 (d0 : Dev nD) (v1734 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_418 : BitVec 32 := 8192#32
  let v365 : BitVec 32 := Scalar.muli v2 c8192_i32_418
  let v1759 : BitVec 32 := Scalar.subi v1734 v365
  let c0_i32_2351 : BitVec 32 := 0#32
  ![v1759.toNat, 0]
def k0_cond22 (d0 : Dev nD) (v1734 : BitVec 32) : BitVec 1 :=
  let c13_i32_2341 : BitVec 32 := 13#32
  let v1735 : BitVec 32 := Scalar.shrsi v1734 c13_i32_2341
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1736 : BitVec 1 := Scalar.cmpi .eq v1735 v2
  let v1737 : BitVec 32 := Scalar.extui v1736
  let c0_i32_2342 : BitVec 32 := 0#32
  let v1738 : BitVec 1 := Scalar.cmpi .ne v1737 c0_i32_2342
  v1738

def k0_chk25 (d0 : Dev nD) (v1734 : BitVec 32) : Prop :=
  (∀ (k0_h22 : k0_cond22 d0 v1734 = 1#1), ∀ a, (k0_off76 d0 v1734) a + S1x1024.size a ≤ S8192x1024.size a)
theorem k0_off76_inb : ∀ (d0 : Dev nD) (v1734 : BitVec 32) (k0_hw25 : k0_chk25 d0 v1734), ∀ (k0_h22 : k0_cond22 d0 v1734 = 1#1), ∀ a, (k0_off76 d0 v1734) a + S1x1024.size a ≤ S8192x1024.size a := fun d0 v1734 k0_hw25 k0_h22 => k0_hw25 k0_h22

def k0_off77 (d0 : Dev nD) (k0_t12 : Fin k0_t12_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v362 : BitVec 32 := Scalar.addi v2 c5_i32
  let c8_i32_416 : BitVec 32 := 8#32
  let v363 : BitVec 32 := Scalar.remsi v362 c8_i32_416
  let c256_i32_417 : BitVec 32 := 256#32
  let v364 : BitVec 32 := Scalar.muli v363 c256_i32_417
  let c0_i32_420 : BitVec 32 := 0#32
  let c1_i32_422 : BitVec 32 := 1#32
  let arg10 : BitVec 32 := Scf.iv c0_i32_420 c1_i32_422 k0_t12
  let c4_i32_2336 : BitVec 32 := 4#32
  let v1721 : BitVec 32 := Scalar.muli arg10 c4_i32_2336
  let v1722 : BitVec 32 := Scalar.addi v364 v1721
  let c2_i32_2343 : BitVec 32 := 2#32
  let v1741 : BitVec 32 := Scalar.addi v1722 c2_i32_2343
  let v1742 : Index := Scalar.indexCast v1741
  ![v1742.toNat]
def k0_off78 (d0 : Dev nD) (k0_t12 : Fin k0_t12_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v362 : BitVec 32 := Scalar.addi v2 c5_i32
  let c8_i32_416 : BitVec 32 := 8#32
  let v363 : BitVec 32 := Scalar.remsi v362 c8_i32_416
  let c256_i32_417 : BitVec 32 := 256#32
  let v364 : BitVec 32 := Scalar.muli v363 c256_i32_417
  let c0_i32_420 : BitVec 32 := 0#32
  let c1_i32_422 : BitVec 32 := 1#32
  let arg10 : BitVec 32 := Scf.iv c0_i32_420 c1_i32_422 k0_t12
  let c4_i32_2336 : BitVec 32 := 4#32
  let v1721 : BitVec 32 := Scalar.muli arg10 c4_i32_2336
  let v1722 : BitVec 32 := Scalar.addi v364 v1721
  let c2_i32_2343 : BitVec 32 := 2#32
  let v1741 : BitVec 32 := Scalar.addi v1722 c2_i32_2343
  let c0_i32_2350 : BitVec 32 := 0#32
  ![v1741.toNat, 0]
def k0_off79 (d0 : Dev nD) (v1743 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_418 : BitVec 32 := 8192#32
  let v365 : BitVec 32 := Scalar.muli v2 c8192_i32_418
  let v1759 : BitVec 32 := Scalar.subi v1743 v365
  let c0_i32_2351 : BitVec 32 := 0#32
  ![v1759.toNat, 0]
def k0_cond23 (d0 : Dev nD) (v1743 : BitVec 32) : BitVec 1 :=
  let c13_i32_2344 : BitVec 32 := 13#32
  let v1744 : BitVec 32 := Scalar.shrsi v1743 c13_i32_2344
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1745 : BitVec 1 := Scalar.cmpi .eq v1744 v2
  let v1746 : BitVec 32 := Scalar.extui v1745
  let c0_i32_2345 : BitVec 32 := 0#32
  let v1747 : BitVec 1 := Scalar.cmpi .ne v1746 c0_i32_2345
  v1747

def k0_chk26 (d0 : Dev nD) (v1743 : BitVec 32) : Prop :=
  (∀ (k0_h23 : k0_cond23 d0 v1743 = 1#1), ∀ a, (k0_off79 d0 v1743) a + S1x1024.size a ≤ S8192x1024.size a)
theorem k0_off79_inb : ∀ (d0 : Dev nD) (v1743 : BitVec 32) (k0_hw26 : k0_chk26 d0 v1743), ∀ (k0_h23 : k0_cond23 d0 v1743 = 1#1), ∀ a, (k0_off79 d0 v1743) a + S1x1024.size a ≤ S8192x1024.size a := fun d0 v1743 k0_hw26 k0_h23 => k0_hw26 k0_h23

def k0_off80 (d0 : Dev nD) (k0_t12 : Fin k0_t12_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v362 : BitVec 32 := Scalar.addi v2 c5_i32
  let c8_i32_416 : BitVec 32 := 8#32
  let v363 : BitVec 32 := Scalar.remsi v362 c8_i32_416
  let c256_i32_417 : BitVec 32 := 256#32
  let v364 : BitVec 32 := Scalar.muli v363 c256_i32_417
  let c0_i32_420 : BitVec 32 := 0#32
  let c1_i32_422 : BitVec 32 := 1#32
  let arg10 : BitVec 32 := Scf.iv c0_i32_420 c1_i32_422 k0_t12
  let c4_i32_2336 : BitVec 32 := 4#32
  let v1721 : BitVec 32 := Scalar.muli arg10 c4_i32_2336
  let v1722 : BitVec 32 := Scalar.addi v364 v1721
  let c3_i32_2346 : BitVec 32 := 3#32
  let v1750 : BitVec 32 := Scalar.addi v1722 c3_i32_2346
  let v1751 : Index := Scalar.indexCast v1750
  ![v1751.toNat]
def k0_off81 (d0 : Dev nD) (k0_t12 : Fin k0_t12_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v362 : BitVec 32 := Scalar.addi v2 c5_i32
  let c8_i32_416 : BitVec 32 := 8#32
  let v363 : BitVec 32 := Scalar.remsi v362 c8_i32_416
  let c256_i32_417 : BitVec 32 := 256#32
  let v364 : BitVec 32 := Scalar.muli v363 c256_i32_417
  let c0_i32_420 : BitVec 32 := 0#32
  let c1_i32_422 : BitVec 32 := 1#32
  let arg10 : BitVec 32 := Scf.iv c0_i32_420 c1_i32_422 k0_t12
  let c4_i32_2336 : BitVec 32 := 4#32
  let v1721 : BitVec 32 := Scalar.muli arg10 c4_i32_2336
  let v1722 : BitVec 32 := Scalar.addi v364 v1721
  let c3_i32_2346 : BitVec 32 := 3#32
  let v1750 : BitVec 32 := Scalar.addi v1722 c3_i32_2346
  let c0_i32_2350 : BitVec 32 := 0#32
  ![v1750.toNat, 0]
def k0_off82 (d0 : Dev nD) (v1752 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_418 : BitVec 32 := 8192#32
  let v365 : BitVec 32 := Scalar.muli v2 c8192_i32_418
  let v1759 : BitVec 32 := Scalar.subi v1752 v365
  let c0_i32_2351 : BitVec 32 := 0#32
  ![v1759.toNat, 0]
def k0_cond24 (d0 : Dev nD) (v1752 : BitVec 32) : BitVec 1 :=
  let c13_i32_2347 : BitVec 32 := 13#32
  let v1753 : BitVec 32 := Scalar.shrsi v1752 c13_i32_2347
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1754 : BitVec 1 := Scalar.cmpi .eq v1753 v2
  let v1755 : BitVec 32 := Scalar.extui v1754
  let c0_i32_2348 : BitVec 32 := 0#32
  let v1756 : BitVec 1 := Scalar.cmpi .ne v1755 c0_i32_2348
  v1756

def k0_chk27 (d0 : Dev nD) (v1752 : BitVec 32) : Prop :=
  (∀ (k0_h24 : k0_cond24 d0 v1752 = 1#1), ∀ a, (k0_off82 d0 v1752) a + S1x1024.size a ≤ S8192x1024.size a)
theorem k0_off82_inb : ∀ (d0 : Dev nD) (v1752 : BitVec 32) (k0_hw27 : k0_chk27 d0 v1752), ∀ (k0_h24 : k0_cond24 d0 v1752 = 1#1), ∀ a, (k0_off82 d0 v1752) a + S1x1024.size a ≤ S8192x1024.size a := fun d0 v1752 k0_hw27 k0_h24 => k0_hw27 k0_h24

@[reducible] def k0_t13_loop : Scf.Loop 32 :=
  let c0_i32_430 : BitVec 32 := 0#32
  let c64_i32_431 : BitVec 32 := 64#32
  let v373 : BitVec 32 := Scalar.addi c0_i32_430 c64_i32_431
  let c1_i32_432 : BitVec 32 := 1#32
  ⟨c0_i32_430, v373, c1_i32_432⟩
def k0_off83 (d0 : Dev nD) (k0_t13 : Fin k0_t13_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_424 : BitVec 32 := 1#32
  let v368 : BitVec 32 := Scalar.addi v2 c1_i32_424
  let c2_i32_425 : BitVec 32 := 2#32
  let v369 : BitVec 32 := Scalar.addi v368 c2_i32_425
  let c8_i32_426 : BitVec 32 := 8#32
  let v370 : BitVec 32 := Scalar.remsi v369 c8_i32_426
  let c256_i32_427 : BitVec 32 := 256#32
  let v371 : BitVec 32 := Scalar.muli v370 c256_i32_427
  let c0_i32_430 : BitVec 32 := 0#32
  let c1_i32_432 : BitVec 32 := 1#32
  let arg10 : BitVec 32 := Scf.iv c0_i32_430 c1_i32_432 k0_t13
  let c4_i32_2336 : BitVec 32 := 4#32
  let v1721 : BitVec 32 := Scalar.muli arg10 c4_i32_2336
  let v1722 : BitVec 32 := Scalar.addi v371 v1721
  let c0_i32_2337 : BitVec 32 := 0#32
  let v1723 : BitVec 32 := Scalar.addi v1722 c0_i32_2337
  let v1724 : Index := Scalar.indexCast v1723
  ![v1724.toNat]
def k0_off84 (d0 : Dev nD) (k0_t13 : Fin k0_t13_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_424 : BitVec 32 := 1#32
  let v368 : BitVec 32 := Scalar.addi v2 c1_i32_424
  let c2_i32_425 : BitVec 32 := 2#32
  let v369 : BitVec 32 := Scalar.addi v368 c2_i32_425
  let c8_i32_426 : BitVec 32 := 8#32
  let v370 : BitVec 32 := Scalar.remsi v369 c8_i32_426
  let c256_i32_427 : BitVec 32 := 256#32
  let v371 : BitVec 32 := Scalar.muli v370 c256_i32_427
  let c0_i32_430 : BitVec 32 := 0#32
  let c1_i32_432 : BitVec 32 := 1#32
  let arg10 : BitVec 32 := Scf.iv c0_i32_430 c1_i32_432 k0_t13
  let c4_i32_2336 : BitVec 32 := 4#32
  let v1721 : BitVec 32 := Scalar.muli arg10 c4_i32_2336
  let v1722 : BitVec 32 := Scalar.addi v371 v1721
  let c0_i32_2337 : BitVec 32 := 0#32
  let v1723 : BitVec 32 := Scalar.addi v1722 c0_i32_2337
  let c0_i32_2350 : BitVec 32 := 0#32
  ![v1723.toNat, 0]
def k0_off85 (d0 : Dev nD) (v1725 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_428 : BitVec 32 := 8192#32
  let v372 : BitVec 32 := Scalar.muli v2 c8192_i32_428
  let v1759 : BitVec 32 := Scalar.subi v1725 v372
  let c0_i32_2351 : BitVec 32 := 0#32
  ![v1759.toNat, 0]
def k0_cond25 (d0 : Dev nD) (v1725 : BitVec 32) : BitVec 1 :=
  let c13_i32_2338 : BitVec 32 := 13#32
  let v1726 : BitVec 32 := Scalar.shrsi v1725 c13_i32_2338
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1727 : BitVec 1 := Scalar.cmpi .eq v1726 v2
  let v1728 : BitVec 32 := Scalar.extui v1727
  let c0_i32_2339 : BitVec 32 := 0#32
  let v1729 : BitVec 1 := Scalar.cmpi .ne v1728 c0_i32_2339
  v1729

def k0_chk28 (d0 : Dev nD) (v1725 : BitVec 32) : Prop :=
  (∀ (k0_h25 : k0_cond25 d0 v1725 = 1#1), ∀ a, (k0_off85 d0 v1725) a + S1x1024.size a ≤ S8192x1024.size a)
theorem k0_off85_inb : ∀ (d0 : Dev nD) (v1725 : BitVec 32) (k0_hw28 : k0_chk28 d0 v1725), ∀ (k0_h25 : k0_cond25 d0 v1725 = 1#1), ∀ a, (k0_off85 d0 v1725) a + S1x1024.size a ≤ S8192x1024.size a := fun d0 v1725 k0_hw28 k0_h25 => k0_hw28 k0_h25

def k0_off86 (d0 : Dev nD) (k0_t13 : Fin k0_t13_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_424 : BitVec 32 := 1#32
  let v368 : BitVec 32 := Scalar.addi v2 c1_i32_424
  let c2_i32_425 : BitVec 32 := 2#32
  let v369 : BitVec 32 := Scalar.addi v368 c2_i32_425
  let c8_i32_426 : BitVec 32 := 8#32
  let v370 : BitVec 32 := Scalar.remsi v369 c8_i32_426
  let c256_i32_427 : BitVec 32 := 256#32
  let v371 : BitVec 32 := Scalar.muli v370 c256_i32_427
  let c0_i32_430 : BitVec 32 := 0#32
  let c1_i32_432 : BitVec 32 := 1#32
  let arg10 : BitVec 32 := Scf.iv c0_i32_430 c1_i32_432 k0_t13
  let c4_i32_2336 : BitVec 32 := 4#32
  let v1721 : BitVec 32 := Scalar.muli arg10 c4_i32_2336
  let v1722 : BitVec 32 := Scalar.addi v371 v1721
  let c1_i32_2340 : BitVec 32 := 1#32
  let v1732 : BitVec 32 := Scalar.addi v1722 c1_i32_2340
  let v1733 : Index := Scalar.indexCast v1732
  ![v1733.toNat]
def k0_off87 (d0 : Dev nD) (k0_t13 : Fin k0_t13_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_424 : BitVec 32 := 1#32
  let v368 : BitVec 32 := Scalar.addi v2 c1_i32_424
  let c2_i32_425 : BitVec 32 := 2#32
  let v369 : BitVec 32 := Scalar.addi v368 c2_i32_425
  let c8_i32_426 : BitVec 32 := 8#32
  let v370 : BitVec 32 := Scalar.remsi v369 c8_i32_426
  let c256_i32_427 : BitVec 32 := 256#32
  let v371 : BitVec 32 := Scalar.muli v370 c256_i32_427
  let c0_i32_430 : BitVec 32 := 0#32
  let c1_i32_432 : BitVec 32 := 1#32
  let arg10 : BitVec 32 := Scf.iv c0_i32_430 c1_i32_432 k0_t13
  let c4_i32_2336 : BitVec 32 := 4#32
  let v1721 : BitVec 32 := Scalar.muli arg10 c4_i32_2336
  let v1722 : BitVec 32 := Scalar.addi v371 v1721
  let c1_i32_2340 : BitVec 32 := 1#32
  let v1732 : BitVec 32 := Scalar.addi v1722 c1_i32_2340
  let c0_i32_2350 : BitVec 32 := 0#32
  ![v1732.toNat, 0]
def k0_off88 (d0 : Dev nD) (v1734 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_428 : BitVec 32 := 8192#32
  let v372 : BitVec 32 := Scalar.muli v2 c8192_i32_428
  let v1759 : BitVec 32 := Scalar.subi v1734 v372
  let c0_i32_2351 : BitVec 32 := 0#32
  ![v1759.toNat, 0]
def k0_cond26 (d0 : Dev nD) (v1734 : BitVec 32) : BitVec 1 :=
  let c13_i32_2341 : BitVec 32 := 13#32
  let v1735 : BitVec 32 := Scalar.shrsi v1734 c13_i32_2341
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1736 : BitVec 1 := Scalar.cmpi .eq v1735 v2
  let v1737 : BitVec 32 := Scalar.extui v1736
  let c0_i32_2342 : BitVec 32 := 0#32
  let v1738 : BitVec 1 := Scalar.cmpi .ne v1737 c0_i32_2342
  v1738

def k0_chk29 (d0 : Dev nD) (v1734 : BitVec 32) : Prop :=
  (∀ (k0_h26 : k0_cond26 d0 v1734 = 1#1), ∀ a, (k0_off88 d0 v1734) a + S1x1024.size a ≤ S8192x1024.size a)
theorem k0_off88_inb : ∀ (d0 : Dev nD) (v1734 : BitVec 32) (k0_hw29 : k0_chk29 d0 v1734), ∀ (k0_h26 : k0_cond26 d0 v1734 = 1#1), ∀ a, (k0_off88 d0 v1734) a + S1x1024.size a ≤ S8192x1024.size a := fun d0 v1734 k0_hw29 k0_h26 => k0_hw29 k0_h26

def k0_off89 (d0 : Dev nD) (k0_t13 : Fin k0_t13_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_424 : BitVec 32 := 1#32
  let v368 : BitVec 32 := Scalar.addi v2 c1_i32_424
  let c2_i32_425 : BitVec 32 := 2#32
  let v369 : BitVec 32 := Scalar.addi v368 c2_i32_425
  let c8_i32_426 : BitVec 32 := 8#32
  let v370 : BitVec 32 := Scalar.remsi v369 c8_i32_426
  let c256_i32_427 : BitVec 32 := 256#32
  let v371 : BitVec 32 := Scalar.muli v370 c256_i32_427
  let c0_i32_430 : BitVec 32 := 0#32
  let c1_i32_432 : BitVec 32 := 1#32
  let arg10 : BitVec 32 := Scf.iv c0_i32_430 c1_i32_432 k0_t13
  let c4_i32_2336 : BitVec 32 := 4#32
  let v1721 : BitVec 32 := Scalar.muli arg10 c4_i32_2336
  let v1722 : BitVec 32 := Scalar.addi v371 v1721
  let c2_i32_2343 : BitVec 32 := 2#32
  let v1741 : BitVec 32 := Scalar.addi v1722 c2_i32_2343
  let v1742 : Index := Scalar.indexCast v1741
  ![v1742.toNat]
def k0_off90 (d0 : Dev nD) (k0_t13 : Fin k0_t13_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_424 : BitVec 32 := 1#32
  let v368 : BitVec 32 := Scalar.addi v2 c1_i32_424
  let c2_i32_425 : BitVec 32 := 2#32
  let v369 : BitVec 32 := Scalar.addi v368 c2_i32_425
  let c8_i32_426 : BitVec 32 := 8#32
  let v370 : BitVec 32 := Scalar.remsi v369 c8_i32_426
  let c256_i32_427 : BitVec 32 := 256#32
  let v371 : BitVec 32 := Scalar.muli v370 c256_i32_427
  let c0_i32_430 : BitVec 32 := 0#32
  let c1_i32_432 : BitVec 32 := 1#32
  let arg10 : BitVec 32 := Scf.iv c0_i32_430 c1_i32_432 k0_t13
  let c4_i32_2336 : BitVec 32 := 4#32
  let v1721 : BitVec 32 := Scalar.muli arg10 c4_i32_2336
  let v1722 : BitVec 32 := Scalar.addi v371 v1721
  let c2_i32_2343 : BitVec 32 := 2#32
  let v1741 : BitVec 32 := Scalar.addi v1722 c2_i32_2343
  let c0_i32_2350 : BitVec 32 := 0#32
  ![v1741.toNat, 0]
def k0_off91 (d0 : Dev nD) (v1743 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_428 : BitVec 32 := 8192#32
  let v372 : BitVec 32 := Scalar.muli v2 c8192_i32_428
  let v1759 : BitVec 32 := Scalar.subi v1743 v372
  let c0_i32_2351 : BitVec 32 := 0#32
  ![v1759.toNat, 0]
def k0_cond27 (d0 : Dev nD) (v1743 : BitVec 32) : BitVec 1 :=
  let c13_i32_2344 : BitVec 32 := 13#32
  let v1744 : BitVec 32 := Scalar.shrsi v1743 c13_i32_2344
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1745 : BitVec 1 := Scalar.cmpi .eq v1744 v2
  let v1746 : BitVec 32 := Scalar.extui v1745
  let c0_i32_2345 : BitVec 32 := 0#32
  let v1747 : BitVec 1 := Scalar.cmpi .ne v1746 c0_i32_2345
  v1747

def k0_chk30 (d0 : Dev nD) (v1743 : BitVec 32) : Prop :=
  (∀ (k0_h27 : k0_cond27 d0 v1743 = 1#1), ∀ a, (k0_off91 d0 v1743) a + S1x1024.size a ≤ S8192x1024.size a)
theorem k0_off91_inb : ∀ (d0 : Dev nD) (v1743 : BitVec 32) (k0_hw30 : k0_chk30 d0 v1743), ∀ (k0_h27 : k0_cond27 d0 v1743 = 1#1), ∀ a, (k0_off91 d0 v1743) a + S1x1024.size a ≤ S8192x1024.size a := fun d0 v1743 k0_hw30 k0_h27 => k0_hw30 k0_h27

def k0_off92 (d0 : Dev nD) (k0_t13 : Fin k0_t13_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_424 : BitVec 32 := 1#32
  let v368 : BitVec 32 := Scalar.addi v2 c1_i32_424
  let c2_i32_425 : BitVec 32 := 2#32
  let v369 : BitVec 32 := Scalar.addi v368 c2_i32_425
  let c8_i32_426 : BitVec 32 := 8#32
  let v370 : BitVec 32 := Scalar.remsi v369 c8_i32_426
  let c256_i32_427 : BitVec 32 := 256#32
  let v371 : BitVec 32 := Scalar.muli v370 c256_i32_427
  let c0_i32_430 : BitVec 32 := 0#32
  let c1_i32_432 : BitVec 32 := 1#32
  let arg10 : BitVec 32 := Scf.iv c0_i32_430 c1_i32_432 k0_t13
  let c4_i32_2336 : BitVec 32 := 4#32
  let v1721 : BitVec 32 := Scalar.muli arg10 c4_i32_2336
  let v1722 : BitVec 32 := Scalar.addi v371 v1721
  let c3_i32_2346 : BitVec 32 := 3#32
  let v1750 : BitVec 32 := Scalar.addi v1722 c3_i32_2346
  let v1751 : Index := Scalar.indexCast v1750
  ![v1751.toNat]
def k0_off93 (d0 : Dev nD) (k0_t13 : Fin k0_t13_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_424 : BitVec 32 := 1#32
  let v368 : BitVec 32 := Scalar.addi v2 c1_i32_424
  let c2_i32_425 : BitVec 32 := 2#32
  let v369 : BitVec 32 := Scalar.addi v368 c2_i32_425
  let c8_i32_426 : BitVec 32 := 8#32
  let v370 : BitVec 32 := Scalar.remsi v369 c8_i32_426
  let c256_i32_427 : BitVec 32 := 256#32
  let v371 : BitVec 32 := Scalar.muli v370 c256_i32_427
  let c0_i32_430 : BitVec 32 := 0#32
  let c1_i32_432 : BitVec 32 := 1#32
  let arg10 : BitVec 32 := Scf.iv c0_i32_430 c1_i32_432 k0_t13
  let c4_i32_2336 : BitVec 32 := 4#32
  let v1721 : BitVec 32 := Scalar.muli arg10 c4_i32_2336
  let v1722 : BitVec 32 := Scalar.addi v371 v1721
  let c3_i32_2346 : BitVec 32 := 3#32
  let v1750 : BitVec 32 := Scalar.addi v1722 c3_i32_2346
  let c0_i32_2350 : BitVec 32 := 0#32
  ![v1750.toNat, 0]
def k0_off94 (d0 : Dev nD) (v1752 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_428 : BitVec 32 := 8192#32
  let v372 : BitVec 32 := Scalar.muli v2 c8192_i32_428
  let v1759 : BitVec 32 := Scalar.subi v1752 v372
  let c0_i32_2351 : BitVec 32 := 0#32
  ![v1759.toNat, 0]
def k0_cond28 (d0 : Dev nD) (v1752 : BitVec 32) : BitVec 1 :=
  let c13_i32_2347 : BitVec 32 := 13#32
  let v1753 : BitVec 32 := Scalar.shrsi v1752 c13_i32_2347
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1754 : BitVec 1 := Scalar.cmpi .eq v1753 v2
  let v1755 : BitVec 32 := Scalar.extui v1754
  let c0_i32_2348 : BitVec 32 := 0#32
  let v1756 : BitVec 1 := Scalar.cmpi .ne v1755 c0_i32_2348
  v1756

def k0_chk31 (d0 : Dev nD) (v1752 : BitVec 32) : Prop :=
  (∀ (k0_h28 : k0_cond28 d0 v1752 = 1#1), ∀ a, (k0_off94 d0 v1752) a + S1x1024.size a ≤ S8192x1024.size a)
theorem k0_off94_inb : ∀ (d0 : Dev nD) (v1752 : BitVec 32) (k0_hw31 : k0_chk31 d0 v1752), ∀ (k0_h28 : k0_cond28 d0 v1752 = 1#1), ∀ a, (k0_off94 d0 v1752) a + S1x1024.size a ≤ S8192x1024.size a := fun d0 v1752 k0_hw31 k0_h28 => k0_hw31 k0_h28

@[reducible] def k0_t14_loop (v367 : BitVec 32) (v374 : BitVec 32) : Scf.Loop 32 :=
  let c0_i32_452 : BitVec 32 := 0#32
  let v375 : BitVec 32 := Scalar.addi v367 v374
  let v388 : BitVec 32 := Scalar.subi v375 c0_i32_452
  let c1_i32_453 : BitVec 32 := 1#32
  let v390 : BitVec 32 := Scalar.divsi v388 c1_i32_453
  let v391 : BitVec 32 := Scalar.muli v390 c1_i32_453
  let v392 : BitVec 32 := Scalar.addi c0_i32_452 v391
  let c1_i32_454 : BitVec 32 := 1#32
  ⟨c0_i32_452, v392, c1_i32_454⟩

@[reducible] def k0_t15_loop (v367 : BitVec 32) (v374 : BitVec 32) : Scf.Loop 32 :=
  let c0_i32_452 : BitVec 32 := 0#32
  let v375 : BitVec 32 := Scalar.addi v367 v374
  let v388 : BitVec 32 := Scalar.subi v375 c0_i32_452
  let c1_i32_453 : BitVec 32 := 1#32
  let v390 : BitVec 32 := Scalar.divsi v388 c1_i32_453
  let v391 : BitVec 32 := Scalar.muli v390 c1_i32_453
  let v392 : BitVec 32 := Scalar.addi c0_i32_452 v391
  let v389 : BitVec 32 := Scalar.addi c0_i32_452 v388
  let c1_i32_455 : BitVec 32 := 1#32
  ⟨v392, v389, c1_i32_455⟩

def k0_chk32 (v367 : BitVec 32) (v374 : BitVec 32) : Prop :=
  ((k0_t14_loop v367 v374).OK) ∧
  ((k0_t15_loop v367 v374).OK)
theorem k0_t14_ok : ∀ (v367 : BitVec 32) (v374 : BitVec 32) (k0_hw32 : k0_chk32 v367 v374), (k0_t14_loop v367 v374).OK := fun v367 v374 k0_hw32 => k0_hw32.1
theorem k0_t15_ok : ∀ (v367 : BitVec 32) (v374 : BitVec 32) (k0_hw32 : k0_chk32 v367 v374), (k0_t15_loop v367 v374).OK := fun v367 v374 k0_hw32 => k0_hw32.2

def k0_off95 (d0 : Dev nD) (c0_i32_457 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_434 : BitVec 32 := 5#32
  let v376 : BitVec 32 := Scalar.addi v2 c5_i32_434
  let c8_i32_435 : BitVec 32 := 8#32
  let v377 : BitVec 32 := Scalar.remsi v376 c8_i32_435
  let c256_i32_456 : BitVec 32 := 256#32
  let v393 : BitVec 32 := Scalar.muli v377 c256_i32_456
  let v394 : BitVec 32 := Scalar.addi v393 c0_i32_457
  let v395 : Index := Scalar.indexCast v394
  let c0_458 : Index := 0#32
  ![v395.toNat, 0]
def k0_off96 (d0 : Dev nD) (c5_i32_462 : BitVec 32) (c0_i32_465 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v403 : BitVec 32 := Scalar.addi v2 c5_i32_462
  let c8_i32_463 : BitVec 32 := 8#32
  let v404 : BitVec 32 := Scalar.remsi v403 c8_i32_463
  let c256_i32_464 : BitVec 32 := 256#32
  let v405 : BitVec 32 := Scalar.muli v404 c256_i32_464
  let v406 : BitVec 32 := Scalar.addi v405 c0_i32_465
  let c0_i32_477 : BitVec 32 := 0#32
  ![v406.toNat, 0]
def k0_off96_at (r : Fin 3) : BitVec 32 × BitVec 32 :=
  if r.val < 1 then
    (5#32, 0#32)
  else
    if r.val < 2 then
      (6#32, 128#32)
    else
      (5#32, 128#32)
def k0_dev15 (d0 : Dev nD) : Nat :=
  let c0_i32_474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_473 : BitVec 32 := 1#32
  let v407 : BitVec 32 := Scalar.muli v6 c1_i32_473
  let v408 : BitVec 32 := Scalar.addi c0_i32_474 v407
  v408.toNat
def k0_off97 (d0 : Dev nD) (c2_i32_330 : BitVec 32) (c0_i32_333 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v289 : BitVec 32 := Scalar.addi v2 c2_i32_330
  let c8_i32_331 : BitVec 32 := 8#32
  let v290 : BitVec 32 := Scalar.remsi v289 c8_i32_331
  let c256_i32_332 : BitVec 32 := 256#32
  let v291 : BitVec 32 := Scalar.muli v290 c256_i32_332
  let v292 : BitVec 32 := Scalar.addi v291 c0_i32_333
  let c512_i32_489 : BitVec 32 := 512#32
  ![v292.toNat, 512]
def k0_off98 (d0 : Dev nD) (c0_i32_491 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_436 : BitVec 32 := 2#32
  let v378 : BitVec 32 := Scalar.addi v2 c2_i32_436
  let c1_i32_437 : BitVec 32 := 1#32
  let v379 : BitVec 32 := Scalar.addi v378 c1_i32_437
  let c8_i32_438 : BitVec 32 := 8#32
  let v380 : BitVec 32 := Scalar.remsi v379 c8_i32_438
  let c256_i32_490 : BitVec 32 := 256#32
  let v423 : BitVec 32 := Scalar.muli v380 c256_i32_490
  let v424 : BitVec 32 := Scalar.addi v423 c0_i32_491
  let v425 : Index := Scalar.indexCast v424
  let c512_492 : Index := 512#32
  ![v425.toNat, 512]
def k0_dev16 (d0 : Dev nD) : Nat :=
  let c0_i32_509 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_508 : BitVec 32 := 1#32
  let v437 : BitVec 32 := Scalar.muli v4 c1_i32_508
  let v438 : BitVec 32 := Scalar.addi c0_i32_509 v437
  v438.toNat
def k0_dev17 (d0 : Dev nD) : Nat :=
  let c0_i32_544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_543 : BitVec 32 := 1#32
  let v467 : BitVec 32 := Scalar.muli v6 c1_i32_543
  let v468 : BitVec 32 := Scalar.addi c0_i32_544 v467
  v468.toNat
def k0_dev18 (d0 : Dev nD) : Nat :=
  let c0_i32_579 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_578 : BitVec 32 := 1#32
  let v497 : BitVec 32 := Scalar.muli v4 c1_i32_578
  let v498 : BitVec 32 := Scalar.addi c0_i32_579 v497
  v498.toNat
@[reducible] def k0_t16_loop : Scf.Loop 32 :=
  let c0_i32_587 : BitVec 32 := 0#32
  let c64_i32_588 : BitVec 32 := 64#32
  let v510 : BitVec 32 := Scalar.addi c0_i32_587 c64_i32_588
  let c1_i32_589 : BitVec 32 := 1#32
  ⟨c0_i32_587, v510, c1_i32_589⟩
def k0_off99 (d0 : Dev nD) (k0_t16 : Fin k0_t16_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v506 : BitVec 32 := Scalar.addi v2 c4_i32
  let c8_i32_583 : BitVec 32 := 8#32
  let v507 : BitVec 32 := Scalar.remsi v506 c8_i32_583
  let c256_i32_584 : BitVec 32 := 256#32
  let v508 : BitVec 32 := Scalar.muli v507 c256_i32_584
  let c0_i32_587 : BitVec 32 := 0#32
  let c1_i32_589 : BitVec 32 := 1#32
  let arg10 : BitVec 32 := Scf.iv c0_i32_587 c1_i32_589 k0_t16
  let c4_i32_2336 : BitVec 32 := 4#32
  let v1721 : BitVec 32 := Scalar.muli arg10 c4_i32_2336
  let v1722 : BitVec 32 := Scalar.addi v508 v1721
  let c0_i32_2337 : BitVec 32 := 0#32
  let v1723 : BitVec 32 := Scalar.addi v1722 c0_i32_2337
  let v1724 : Index := Scalar.indexCast v1723
  ![v1724.toNat]
def k0_off100 (d0 : Dev nD) (k0_t16 : Fin k0_t16_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v506 : BitVec 32 := Scalar.addi v2 c4_i32
  let c8_i32_583 : BitVec 32 := 8#32
  let v507 : BitVec 32 := Scalar.remsi v506 c8_i32_583
  let c256_i32_584 : BitVec 32 := 256#32
  let v508 : BitVec 32 := Scalar.muli v507 c256_i32_584
  let c0_i32_587 : BitVec 32 := 0#32
  let c1_i32_589 : BitVec 32 := 1#32
  let arg10 : BitVec 32 := Scf.iv c0_i32_587 c1_i32_589 k0_t16
  let c4_i32_2336 : BitVec 32 := 4#32
  let v1721 : BitVec 32 := Scalar.muli arg10 c4_i32_2336
  let v1722 : BitVec 32 := Scalar.addi v508 v1721
  let c0_i32_2337 : BitVec 32 := 0#32
  let v1723 : BitVec 32 := Scalar.addi v1722 c0_i32_2337
  let c0_i32_2350 : BitVec 32 := 0#32
  ![v1723.toNat, 0]
def k0_off101 (d0 : Dev nD) (v1725 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_585 : BitVec 32 := 8192#32
  let v509 : BitVec 32 := Scalar.muli v2 c8192_i32_585
  let v1759 : BitVec 32 := Scalar.subi v1725 v509
  let c0_i32_2351 : BitVec 32 := 0#32
  ![v1759.toNat, 0]
def k0_cond29 (d0 : Dev nD) (v1725 : BitVec 32) : BitVec 1 :=
  let c13_i32_2338 : BitVec 32 := 13#32
  let v1726 : BitVec 32 := Scalar.shrsi v1725 c13_i32_2338
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1727 : BitVec 1 := Scalar.cmpi .eq v1726 v2
  let v1728 : BitVec 32 := Scalar.extui v1727
  let c0_i32_2339 : BitVec 32 := 0#32
  let v1729 : BitVec 1 := Scalar.cmpi .ne v1728 c0_i32_2339
  v1729

def k0_chk33 (d0 : Dev nD) (v1725 : BitVec 32) : Prop :=
  (∀ (k0_h29 : k0_cond29 d0 v1725 = 1#1), ∀ a, (k0_off101 d0 v1725) a + S1x1024.size a ≤ S8192x1024.size a)
theorem k0_off101_inb : ∀ (d0 : Dev nD) (v1725 : BitVec 32) (k0_hw33 : k0_chk33 d0 v1725), ∀ (k0_h29 : k0_cond29 d0 v1725 = 1#1), ∀ a, (k0_off101 d0 v1725) a + S1x1024.size a ≤ S8192x1024.size a := fun d0 v1725 k0_hw33 k0_h29 => k0_hw33 k0_h29

def k0_off102 (d0 : Dev nD) (k0_t16 : Fin k0_t16_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v506 : BitVec 32 := Scalar.addi v2 c4_i32
  let c8_i32_583 : BitVec 32 := 8#32
  let v507 : BitVec 32 := Scalar.remsi v506 c8_i32_583
  let c256_i32_584 : BitVec 32 := 256#32
  let v508 : BitVec 32 := Scalar.muli v507 c256_i32_584
  let c0_i32_587 : BitVec 32 := 0#32
  let c1_i32_589 : BitVec 32 := 1#32
  let arg10 : BitVec 32 := Scf.iv c0_i32_587 c1_i32_589 k0_t16
  let c4_i32_2336 : BitVec 32 := 4#32
  let v1721 : BitVec 32 := Scalar.muli arg10 c4_i32_2336
  let v1722 : BitVec 32 := Scalar.addi v508 v1721
  let c1_i32_2340 : BitVec 32 := 1#32
  let v1732 : BitVec 32 := Scalar.addi v1722 c1_i32_2340
  let v1733 : Index := Scalar.indexCast v1732
  ![v1733.toNat]
def k0_off103 (d0 : Dev nD) (k0_t16 : Fin k0_t16_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v506 : BitVec 32 := Scalar.addi v2 c4_i32
  let c8_i32_583 : BitVec 32 := 8#32
  let v507 : BitVec 32 := Scalar.remsi v506 c8_i32_583
  let c256_i32_584 : BitVec 32 := 256#32
  let v508 : BitVec 32 := Scalar.muli v507 c256_i32_584
  let c0_i32_587 : BitVec 32 := 0#32
  let c1_i32_589 : BitVec 32 := 1#32
  let arg10 : BitVec 32 := Scf.iv c0_i32_587 c1_i32_589 k0_t16
  let c4_i32_2336 : BitVec 32 := 4#32
  let v1721 : BitVec 32 := Scalar.muli arg10 c4_i32_2336
  let v1722 : BitVec 32 := Scalar.addi v508 v1721
  let c1_i32_2340 : BitVec 32 := 1#32
  let v1732 : BitVec 32 := Scalar.addi v1722 c1_i32_2340
  let c0_i32_2350 : BitVec 32 := 0#32
  ![v1732.toNat, 0]
def k0_off104 (d0 : Dev nD) (v1734 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_585 : BitVec 32 := 8192#32
  let v509 : BitVec 32 := Scalar.muli v2 c8192_i32_585
  let v1759 : BitVec 32 := Scalar.subi v1734 v509
  let c0_i32_2351 : BitVec 32 := 0#32
  ![v1759.toNat, 0]
def k0_cond30 (d0 : Dev nD) (v1734 : BitVec 32) : BitVec 1 :=
  let c13_i32_2341 : BitVec 32 := 13#32
  let v1735 : BitVec 32 := Scalar.shrsi v1734 c13_i32_2341
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1736 : BitVec 1 := Scalar.cmpi .eq v1735 v2
  let v1737 : BitVec 32 := Scalar.extui v1736
  let c0_i32_2342 : BitVec 32 := 0#32
  let v1738 : BitVec 1 := Scalar.cmpi .ne v1737 c0_i32_2342
  v1738

def k0_chk34 (d0 : Dev nD) (v1734 : BitVec 32) : Prop :=
  (∀ (k0_h30 : k0_cond30 d0 v1734 = 1#1), ∀ a, (k0_off104 d0 v1734) a + S1x1024.size a ≤ S8192x1024.size a)
theorem k0_off104_inb : ∀ (d0 : Dev nD) (v1734 : BitVec 32) (k0_hw34 : k0_chk34 d0 v1734), ∀ (k0_h30 : k0_cond30 d0 v1734 = 1#1), ∀ a, (k0_off104 d0 v1734) a + S1x1024.size a ≤ S8192x1024.size a := fun d0 v1734 k0_hw34 k0_h30 => k0_hw34 k0_h30

def k0_off105 (d0 : Dev nD) (k0_t16 : Fin k0_t16_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v506 : BitVec 32 := Scalar.addi v2 c4_i32
  let c8_i32_583 : BitVec 32 := 8#32
  let v507 : BitVec 32 := Scalar.remsi v506 c8_i32_583
  let c256_i32_584 : BitVec 32 := 256#32
  let v508 : BitVec 32 := Scalar.muli v507 c256_i32_584
  let c0_i32_587 : BitVec 32 := 0#32
  let c1_i32_589 : BitVec 32 := 1#32
  let arg10 : BitVec 32 := Scf.iv c0_i32_587 c1_i32_589 k0_t16
  let c4_i32_2336 : BitVec 32 := 4#32
  let v1721 : BitVec 32 := Scalar.muli arg10 c4_i32_2336
  let v1722 : BitVec 32 := Scalar.addi v508 v1721
  let c2_i32_2343 : BitVec 32 := 2#32
  let v1741 : BitVec 32 := Scalar.addi v1722 c2_i32_2343
  let v1742 : Index := Scalar.indexCast v1741
  ![v1742.toNat]
def k0_off106 (d0 : Dev nD) (k0_t16 : Fin k0_t16_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v506 : BitVec 32 := Scalar.addi v2 c4_i32
  let c8_i32_583 : BitVec 32 := 8#32
  let v507 : BitVec 32 := Scalar.remsi v506 c8_i32_583
  let c256_i32_584 : BitVec 32 := 256#32
  let v508 : BitVec 32 := Scalar.muli v507 c256_i32_584
  let c0_i32_587 : BitVec 32 := 0#32
  let c1_i32_589 : BitVec 32 := 1#32
  let arg10 : BitVec 32 := Scf.iv c0_i32_587 c1_i32_589 k0_t16
  let c4_i32_2336 : BitVec 32 := 4#32
  let v1721 : BitVec 32 := Scalar.muli arg10 c4_i32_2336
  let v1722 : BitVec 32 := Scalar.addi v508 v1721
  let c2_i32_2343 : BitVec 32 := 2#32
  let v1741 : BitVec 32 := Scalar.addi v1722 c2_i32_2343
  let c0_i32_2350 : BitVec 32 := 0#32
  ![v1741.toNat, 0]
def k0_off107 (d0 : Dev nD) (v1743 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_585 : BitVec 32 := 8192#32
  let v509 : BitVec 32 := Scalar.muli v2 c8192_i32_585
  let v1759 : BitVec 32 := Scalar.subi v1743 v509
  let c0_i32_2351 : BitVec 32 := 0#32
  ![v1759.toNat, 0]
def k0_cond31 (d0 : Dev nD) (v1743 : BitVec 32) : BitVec 1 :=
  let c13_i32_2344 : BitVec 32 := 13#32
  let v1744 : BitVec 32 := Scalar.shrsi v1743 c13_i32_2344
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1745 : BitVec 1 := Scalar.cmpi .eq v1744 v2
  let v1746 : BitVec 32 := Scalar.extui v1745
  let c0_i32_2345 : BitVec 32 := 0#32
  let v1747 : BitVec 1 := Scalar.cmpi .ne v1746 c0_i32_2345
  v1747

def k0_chk35 (d0 : Dev nD) (v1743 : BitVec 32) : Prop :=
  (∀ (k0_h31 : k0_cond31 d0 v1743 = 1#1), ∀ a, (k0_off107 d0 v1743) a + S1x1024.size a ≤ S8192x1024.size a)
theorem k0_off107_inb : ∀ (d0 : Dev nD) (v1743 : BitVec 32) (k0_hw35 : k0_chk35 d0 v1743), ∀ (k0_h31 : k0_cond31 d0 v1743 = 1#1), ∀ a, (k0_off107 d0 v1743) a + S1x1024.size a ≤ S8192x1024.size a := fun d0 v1743 k0_hw35 k0_h31 => k0_hw35 k0_h31

def k0_off108 (d0 : Dev nD) (k0_t16 : Fin k0_t16_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v506 : BitVec 32 := Scalar.addi v2 c4_i32
  let c8_i32_583 : BitVec 32 := 8#32
  let v507 : BitVec 32 := Scalar.remsi v506 c8_i32_583
  let c256_i32_584 : BitVec 32 := 256#32
  let v508 : BitVec 32 := Scalar.muli v507 c256_i32_584
  let c0_i32_587 : BitVec 32 := 0#32
  let c1_i32_589 : BitVec 32 := 1#32
  let arg10 : BitVec 32 := Scf.iv c0_i32_587 c1_i32_589 k0_t16
  let c4_i32_2336 : BitVec 32 := 4#32
  let v1721 : BitVec 32 := Scalar.muli arg10 c4_i32_2336
  let v1722 : BitVec 32 := Scalar.addi v508 v1721
  let c3_i32_2346 : BitVec 32 := 3#32
  let v1750 : BitVec 32 := Scalar.addi v1722 c3_i32_2346
  let v1751 : Index := Scalar.indexCast v1750
  ![v1751.toNat]
def k0_off109 (d0 : Dev nD) (k0_t16 : Fin k0_t16_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v506 : BitVec 32 := Scalar.addi v2 c4_i32
  let c8_i32_583 : BitVec 32 := 8#32
  let v507 : BitVec 32 := Scalar.remsi v506 c8_i32_583
  let c256_i32_584 : BitVec 32 := 256#32
  let v508 : BitVec 32 := Scalar.muli v507 c256_i32_584
  let c0_i32_587 : BitVec 32 := 0#32
  let c1_i32_589 : BitVec 32 := 1#32
  let arg10 : BitVec 32 := Scf.iv c0_i32_587 c1_i32_589 k0_t16
  let c4_i32_2336 : BitVec 32 := 4#32
  let v1721 : BitVec 32 := Scalar.muli arg10 c4_i32_2336
  let v1722 : BitVec 32 := Scalar.addi v508 v1721
  let c3_i32_2346 : BitVec 32 := 3#32
  let v1750 : BitVec 32 := Scalar.addi v1722 c3_i32_2346
  let c0_i32_2350 : BitVec 32 := 0#32
  ![v1750.toNat, 0]
def k0_off110 (d0 : Dev nD) (v1752 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_585 : BitVec 32 := 8192#32
  let v509 : BitVec 32 := Scalar.muli v2 c8192_i32_585
  let v1759 : BitVec 32 := Scalar.subi v1752 v509
  let c0_i32_2351 : BitVec 32 := 0#32
  ![v1759.toNat, 0]
def k0_cond32 (d0 : Dev nD) (v1752 : BitVec 32) : BitVec 1 :=
  let c13_i32_2347 : BitVec 32 := 13#32
  let v1753 : BitVec 32 := Scalar.shrsi v1752 c13_i32_2347
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1754 : BitVec 1 := Scalar.cmpi .eq v1753 v2
  let v1755 : BitVec 32 := Scalar.extui v1754
  let c0_i32_2348 : BitVec 32 := 0#32
  let v1756 : BitVec 1 := Scalar.cmpi .ne v1755 c0_i32_2348
  v1756

def k0_chk36 (d0 : Dev nD) (v1752 : BitVec 32) : Prop :=
  (∀ (k0_h32 : k0_cond32 d0 v1752 = 1#1), ∀ a, (k0_off110 d0 v1752) a + S1x1024.size a ≤ S8192x1024.size a)
theorem k0_off110_inb : ∀ (d0 : Dev nD) (v1752 : BitVec 32) (k0_hw36 : k0_chk36 d0 v1752), ∀ (k0_h32 : k0_cond32 d0 v1752 = 1#1), ∀ a, (k0_off110 d0 v1752) a + S1x1024.size a ≤ S8192x1024.size a := fun d0 v1752 k0_hw36 k0_h32 => k0_hw36 k0_h32

@[reducible] def k0_t17_loop (v511 : BitVec 32) : Scf.Loop 32 :=
  let c0_i32_610 : BitVec 32 := 0#32
  let v524 : BitVec 32 := Scalar.subi v511 c0_i32_610
  let c1_i32_611 : BitVec 32 := 1#32
  let v526 : BitVec 32 := Scalar.divsi v524 c1_i32_611
  let v527 : BitVec 32 := Scalar.muli v526 c1_i32_611
  let v528 : BitVec 32 := Scalar.addi c0_i32_610 v527
  let c1_i32_612 : BitVec 32 := 1#32
  ⟨c0_i32_610, v528, c1_i32_612⟩

@[reducible] def k0_t18_loop (v511 : BitVec 32) : Scf.Loop 32 :=
  let c0_i32_610 : BitVec 32 := 0#32
  let v524 : BitVec 32 := Scalar.subi v511 c0_i32_610
  let c1_i32_611 : BitVec 32 := 1#32
  let v526 : BitVec 32 := Scalar.divsi v524 c1_i32_611
  let v527 : BitVec 32 := Scalar.muli v526 c1_i32_611
  let v528 : BitVec 32 := Scalar.addi c0_i32_610 v527
  let v525 : BitVec 32 := Scalar.addi c0_i32_610 v524
  let c1_i32_613 : BitVec 32 := 1#32
  ⟨v528, v525, c1_i32_613⟩

def k0_chk37 (v511 : BitVec 32) : Prop :=
  ((k0_t17_loop v511).OK) ∧
  ((k0_t18_loop v511).OK)
theorem k0_t17_ok : ∀ (v511 : BitVec 32) (k0_hw37 : k0_chk37 v511), (k0_t17_loop v511).OK := fun v511 k0_hw37 => k0_hw37.1
theorem k0_t18_ok : ∀ (v511 : BitVec 32) (k0_hw37 : k0_chk37 v511), (k0_t18_loop v511).OK := fun v511 k0_hw37 => k0_hw37.2

def k0_off111 (d0 : Dev nD) (c4_i32_591 : BitVec 32) (c0_i32_615 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v512 : BitVec 32 := Scalar.addi v2 c4_i32_591
  let c8_i32_592 : BitVec 32 := 8#32
  let v513 : BitVec 32 := Scalar.remsi v512 c8_i32_592
  let c256_i32_614 : BitVec 32 := 256#32
  let v529 : BitVec 32 := Scalar.muli v513 c256_i32_614
  let v530 : BitVec 32 := Scalar.addi v529 c0_i32_615
  let v531 : Index := Scalar.indexCast v530
  let c0_616 : Index := 0#32
  ![v531.toNat, 0]
def k0_off112 (d0 : Dev nD) (c4_i32_620 : BitVec 32) (c0_i32_623 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v539 : BitVec 32 := Scalar.addi v2 c4_i32_620
  let c8_i32_621 : BitVec 32 := 8#32
  let v540 : BitVec 32 := Scalar.remsi v539 c8_i32_621
  let c256_i32_622 : BitVec 32 := 256#32
  let v541 : BitVec 32 := Scalar.muli v540 c256_i32_622
  let v542 : BitVec 32 := Scalar.addi v541 c0_i32_623
  let c0_i32_635 : BitVec 32 := 0#32
  ![v542.toNat, 0]
def k0_dev19 (d0 : Dev nD) : Nat :=
  let c0_i32_632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_631 : BitVec 32 := 1#32
  let v543 : BitVec 32 := Scalar.muli v6 c1_i32_631
  let v544 : BitVec 32 := Scalar.addi c0_i32_632 v543
  v544.toNat
def k0_off113 (d0 : Dev nD) (c3_i32_497 : BitVec 32) (c0_i32_500 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v433 : BitVec 32 := Scalar.addi v2 c3_i32_497
  let c8_i32_498 : BitVec 32 := 8#32
  let v434 : BitVec 32 := Scalar.remsi v433 c8_i32_498
  let c256_i32_499 : BitVec 32 := 256#32
  let v435 : BitVec 32 := Scalar.muli v434 c256_i32_499
  let v436 : BitVec 32 := Scalar.addi v435 c0_i32_500
  let c512_i32_647 : BitVec 32 := 512#32
  ![v436.toNat, 512]
def k0_off114 (d0 : Dev nD) (c3_i32_593 : BitVec 32) (c0_i32_649 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v514 : BitVec 32 := Scalar.addi v2 c3_i32_593
  let c1_i32_594 : BitVec 32 := 1#32
  let v515 : BitVec 32 := Scalar.addi v514 c1_i32_594
  let c8_i32_595 : BitVec 32 := 8#32
  let v516 : BitVec 32 := Scalar.remsi v515 c8_i32_595
  let c256_i32_648 : BitVec 32 := 256#32
  let v559 : BitVec 32 := Scalar.muli v516 c256_i32_648
  let v560 : BitVec 32 := Scalar.addi v559 c0_i32_649
  let v561 : Index := Scalar.indexCast v560
  let c512_650 : Index := 512#32
  ![v561.toNat, 512]
def k0_dev20 (d0 : Dev nD) : Nat :=
  let c0_i32_667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_666 : BitVec 32 := 1#32
  let v573 : BitVec 32 := Scalar.muli v4 c1_i32_666
  let v574 : BitVec 32 := Scalar.addi c0_i32_667 v573
  v574.toNat
def k0_dev21 (d0 : Dev nD) : Nat :=
  let c0_i32_702 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_701 : BitVec 32 := 1#32
  let v603 : BitVec 32 := Scalar.muli v6 c1_i32_701
  let v604 : BitVec 32 := Scalar.addi c0_i32_702 v603
  v604.toNat
def k0_dev22 (d0 : Dev nD) : Nat :=
  let c0_i32_737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_736 : BitVec 32 := 1#32
  let v633 : BitVec 32 := Scalar.muli v4 c1_i32_736
  let v634 : BitVec 32 := Scalar.addi c0_i32_737 v633
  v634.toNat
def k0_dev23 (d0 : Dev nD) : Nat :=
  let c0_i32_776 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_775 : BitVec 32 := 1#32
  let v668 : BitVec 32 := Scalar.muli v6 c1_i32_775
  let v669 : BitVec 32 := Scalar.addi c0_i32_776 v668
  v669.toNat
def k0_dev24 (d0 : Dev nD) : Nat :=
  let c0_i32_811 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_810 : BitVec 32 := 1#32
  let v698 : BitVec 32 := Scalar.muli v4 c1_i32_810
  let v699 : BitVec 32 := Scalar.addi c0_i32_811 v698
  v699.toNat
def k0_dev25 (d0 : Dev nD) : Nat :=
  let c0_i32_846 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_845 : BitVec 32 := 1#32
  let v728 : BitVec 32 := Scalar.muli v6 c1_i32_845
  let v729 : BitVec 32 := Scalar.addi c0_i32_846 v728
  v729.toNat
def k0_dev26 (d0 : Dev nD) : Nat :=
  let c0_i32_881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_880 : BitVec 32 := 1#32
  let v758 : BitVec 32 := Scalar.muli v4 c1_i32_880
  let v759 : BitVec 32 := Scalar.addi c0_i32_881 v758
  v759.toNat
def k0_dev27 (d0 : Dev nD) : Nat :=
  let c0_i32_920 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_919 : BitVec 32 := 1#32
  let v793 : BitVec 32 := Scalar.muli v6 c1_i32_919
  let v794 : BitVec 32 := Scalar.addi c0_i32_920 v793
  v794.toNat
def k0_dev28 (d0 : Dev nD) : Nat :=
  let c0_i32_955 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_954 : BitVec 32 := 1#32
  let v823 : BitVec 32 := Scalar.muli v4 c1_i32_954
  let v824 : BitVec 32 := Scalar.addi c0_i32_955 v823
  v824.toNat
def k0_dev29 (d0 : Dev nD) : Nat :=
  let c0_i32_990 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_989 : BitVec 32 := 1#32
  let v853 : BitVec 32 := Scalar.muli v6 c1_i32_989
  let v854 : BitVec 32 := Scalar.addi c0_i32_990 v853
  v854.toNat
def k0_dev30 (d0 : Dev nD) : Nat :=
  let c0_i32_1025 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1024 : BitVec 32 := 1#32
  let v883 : BitVec 32 := Scalar.muli v4 c1_i32_1024
  let v884 : BitVec 32 := Scalar.addi c0_i32_1025 v883
  v884.toNat
def k0_dev31 (d0 : Dev nD) : Nat :=
  let c0_i32_1062 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1061 : BitVec 32 := 1#32
  let v918 : BitVec 32 := Scalar.muli v6 c1_i32_1061
  let v919 : BitVec 32 := Scalar.addi c0_i32_1062 v918
  v919.toNat
def k0_dev32 (d0 : Dev nD) : Nat :=
  let c0_i32_1095 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1094 : BitVec 32 := 1#32
  let v947 : BitVec 32 := Scalar.muli v4 c1_i32_1094
  let v948 : BitVec 32 := Scalar.addi c0_i32_1095 v947
  v948.toNat
def k0_dev33 (d0 : Dev nD) : Nat :=
  let c0_i32_1128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1127 : BitVec 32 := 1#32
  let v976 : BitVec 32 := Scalar.muli v6 c1_i32_1127
  let v977 : BitVec 32 := Scalar.addi c0_i32_1128 v976
  v977.toNat
def k0_dev34 (d0 : Dev nD) : Nat :=
  let c0_i32_1161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1160 : BitVec 32 := 1#32
  let v1005 : BitVec 32 := Scalar.muli v4 c1_i32_1160
  let v1006 : BitVec 32 := Scalar.addi c0_i32_1161 v1005
  v1006.toNat
def k0_dev35 (d0 : Dev nD) : Nat :=
  let c0_i32_1493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1492 : BitVec 32 := 1#32
  let v1163 : BitVec 32 := Scalar.muli v6 c1_i32_1492
  let v1164 : BitVec 32 := Scalar.addi c0_i32_1493 v1163
  v1164.toNat
def k0_dev36 (d0 : Dev nD) : Nat :=
  let c0_i32_1517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1516 : BitVec 32 := 1#32
  let v1181 : BitVec 32 := Scalar.muli v4 c1_i32_1516
  let v1182 : BitVec 32 := Scalar.addi c0_i32_1517 v1181
  v1182.toNat
def k0_dev37 (d0 : Dev nD) : Nat :=
  let c0_i32_1541 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1540 : BitVec 32 := 1#32
  let v1199 : BitVec 32 := Scalar.muli v6 c1_i32_1540
  let v1200 : BitVec 32 := Scalar.addi c0_i32_1541 v1199
  v1200.toNat
def k0_dev38 (d0 : Dev nD) : Nat :=
  let c0_i32_1565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1564 : BitVec 32 := 1#32
  let v1217 : BitVec 32 := Scalar.muli v4 c1_i32_1564
  let v1218 : BitVec 32 := Scalar.addi c0_i32_1565 v1217
  v1218.toNat
def k0_dev39 (d0 : Dev nD) : Nat :=
  let c0_i32_1589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1588 : BitVec 32 := 1#32
  let v1235 : BitVec 32 := Scalar.muli v6 c1_i32_1588
  let v1236 : BitVec 32 := Scalar.addi c0_i32_1589 v1235
  v1236.toNat
def k0_dev40 (d0 : Dev nD) : Nat :=
  let c0_i32_1613 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1612 : BitVec 32 := 1#32
  let v1253 : BitVec 32 := Scalar.muli v4 c1_i32_1612
  let v1254 : BitVec 32 := Scalar.addi c0_i32_1613 v1253
  v1254.toNat
def k0_dev41 (d0 : Dev nD) : Nat :=
  let c0_i32_1637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1636 : BitVec 32 := 1#32
  let v1271 : BitVec 32 := Scalar.muli v6 c1_i32_1636
  let v1272 : BitVec 32 := Scalar.addi c0_i32_1637 v1271
  v1272.toNat
def k0_dev42 (d0 : Dev nD) : Nat :=
  let c0_i32_1661 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1660 : BitVec 32 := 1#32
  let v1289 : BitVec 32 := Scalar.muli v4 c1_i32_1660
  let v1290 : BitVec 32 := Scalar.addi c0_i32_1661 v1289
  v1290.toNat
def k0_dev43 (d0 : Dev nD) : Nat :=
  let c0_i32_1685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1684 : BitVec 32 := 1#32
  let v1307 : BitVec 32 := Scalar.muli v6 c1_i32_1684
  let v1308 : BitVec 32 := Scalar.addi c0_i32_1685 v1307
  v1308.toNat
def k0_dev44 (d0 : Dev nD) : Nat :=
  let c0_i32_1708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1707 : BitVec 32 := 1#32
  let v1325 : BitVec 32 := Scalar.muli v4 c1_i32_1707
  let v1326 : BitVec 32 := Scalar.addi c0_i32_1708 v1325
  v1326.toNat
def k0_dev45 (d0 : Dev nD) : Nat :=
  let c0_i32_1732 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1731 : BitVec 32 := 1#32
  let v1343 : BitVec 32 := Scalar.muli v6 c1_i32_1731
  let v1344 : BitVec 32 := Scalar.addi c0_i32_1732 v1343
  v1344.toNat
def k0_dev46 (d0 : Dev nD) : Nat :=
  let c0_i32_1756 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1755 : BitVec 32 := 1#32
  let v1361 : BitVec 32 := Scalar.muli v4 c1_i32_1755
  let v1362 : BitVec 32 := Scalar.addi c0_i32_1756 v1361
  v1362.toNat
def k0_dev47 (d0 : Dev nD) : Nat :=
  let c0_i32_1780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1779 : BitVec 32 := 1#32
  let v1379 : BitVec 32 := Scalar.muli v6 c1_i32_1779
  let v1380 : BitVec 32 := Scalar.addi c0_i32_1780 v1379
  v1380.toNat
def k0_dev48 (d0 : Dev nD) : Nat :=
  let c0_i32_1803 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1802 : BitVec 32 := 1#32
  let v1397 : BitVec 32 := Scalar.muli v4 c1_i32_1802
  let v1398 : BitVec 32 := Scalar.addi c0_i32_1803 v1397
  v1398.toNat
def k0_dev49 (d0 : Dev nD) : Nat :=
  let c0_i32_1827 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1826 : BitVec 32 := 1#32
  let v1415 : BitVec 32 := Scalar.muli v6 c1_i32_1826
  let v1416 : BitVec 32 := Scalar.addi c0_i32_1827 v1415
  v1416.toNat
def k0_dev50 (d0 : Dev nD) : Nat :=
  let c0_i32_1851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1850 : BitVec 32 := 1#32
  let v1433 : BitVec 32 := Scalar.muli v4 c1_i32_1850
  let v1434 : BitVec 32 := Scalar.addi c0_i32_1851 v1433
  v1434.toNat
def k0_dev51 (d0 : Dev nD) : Nat :=
  let c0_i32_1875 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1874 : BitVec 32 := 1#32
  let v1451 : BitVec 32 := Scalar.muli v6 c1_i32_1874
  let v1452 : BitVec 32 := Scalar.addi c0_i32_1875 v1451
  v1452.toNat
def k0_dev52 (d0 : Dev nD) : Nat :=
  let c0_i32_1898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1897 : BitVec 32 := 1#32
  let v1469 : BitVec 32 := Scalar.muli v4 c1_i32_1897
  let v1470 : BitVec 32 := Scalar.addi c0_i32_1898 v1469
  v1470.toNat
def k0_dev53 (d0 : Dev nD) : Nat :=
  let c0_i32_1922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1921 : BitVec 32 := 1#32
  let v1487 : BitVec 32 := Scalar.muli v6 c1_i32_1921
  let v1488 : BitVec 32 := Scalar.addi c0_i32_1922 v1487
  v1488.toNat
def k0_dev54 (d0 : Dev nD) : Nat :=
  let c0_i32_1946 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1945 : BitVec 32 := 1#32
  let v1505 : BitVec 32 := Scalar.muli v4 c1_i32_1945
  let v1506 : BitVec 32 := Scalar.addi c0_i32_1946 v1505
  v1506.toNat
def k0_dev55 (d0 : Dev nD) : Nat :=
  let c0_i32_1970 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1969 : BitVec 32 := 1#32
  let v1523 : BitVec 32 := Scalar.muli v6 c1_i32_1969
  let v1524 : BitVec 32 := Scalar.addi c0_i32_1970 v1523
  v1524.toNat
def k0_dev56 (d0 : Dev nD) : Nat :=
  let c0_i32_1993 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1992 : BitVec 32 := 1#32
  let v1541 : BitVec 32 := Scalar.muli v4 c1_i32_1992
  let v1542 : BitVec 32 := Scalar.addi c0_i32_1993 v1541
  v1542.toNat
def k0_dev57 (d0 : Dev nD) : Nat :=
  let c0_i32_2017 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_2016 : BitVec 32 := 1#32
  let v1559 : BitVec 32 := Scalar.muli v6 c1_i32_2016
  let v1560 : BitVec 32 := Scalar.addi c0_i32_2017 v1559
  v1560.toNat
def k0_dev58 (d0 : Dev nD) : Nat :=
  let c0_i32_2041 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_2040 : BitVec 32 := 1#32
  let v1577 : BitVec 32 := Scalar.muli v4 c1_i32_2040
  let v1578 : BitVec 32 := Scalar.addi c0_i32_2041 v1577
  v1578.toNat
abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x1024 : Shape := ⟨2, ![65536, 1024]⟩
abbrev S2048 : Shape := ⟨1, ![2048]⟩
abbrev S_ : Shape := ⟨0, ![]⟩
abbrev S2048x1 : Shape := ⟨2, ![2048, 1]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S2048x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Common.lean ====
/-
The ring's vocabulary: the devices, the messages that go round the ring, the memory each of them covers, the
values it carries, and the schedule of the semaphores.

A MESSAGE is `(t, d, h)`: hop `t` (0 … 6 of the reduce-scatter, 7 … 13 of the all-gather), direction `d` (0 to the
next device, carrying columns 0 … 511; 1 to the previous one, carrying columns 512 … 1023), half `h` of a chunk of
256 rows. Device `c` sends, as message `(t, d, h)`, its segment of chunk `mv d (7 t) c`, to device `mv d 1 c`.

A device's result buffer is cut into 8 chunks × 2 column halves × 2 row halves: `oSeg k d h`. The landing buffer of
direction `d` is cut into 7 hops × 2 row halves: `lSeg d t h`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Batch
public import Idealize.ShloMosaic.Lib.Rounds
public import Idealize.ShloMosaic.Lib.Memref
public import Idealize.ShloMosaic.Lib.Pipeline.Launch
public import Idealize.ShloMosaic.Lib.Pipeline.Kit
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy, the ring's rounds, the counters of the row copies -/

abbrev UB : Type := URounds (GSem nD τ sig) (Fin 2)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The counters: the right half of the right factor. -/
def EC : UEmb Counters (MT nD τ sig Unit (Elt F) ℕ UU ℕ) :=
  ((UEmb.inr : UEmb Counters (UB × Counters)).trans (UEmb.inr : UEmb (UB × Counters) UU)).trans
    (uEmb (nD := nD) (sig := sig) (Ix := Unit) (Val := Elt F) (Name := ℕ) (U := UU) (Lvl := ℕ))
instance EC_landsIn : (EC : UEmb Counters 𝕄).LandsIn (upEmb : UEmb _ 𝕄) := by unfold EC; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

/-- The device `i` hops downstream of `c` in direction `d`. -/
def mv (d : Fin 2) (i : ℕ) (c : Dev nD) : Dev nD :=
  ⟨(c.val + (if d = 0 then i else 7 * i)) % 8, Nat.mod_lt _ (by decide)⟩

theorem mv_mv (d : Fin 2) (i j : ℕ) (c : Dev nD) : mv d i (mv d j c) = mv d (j + i) c := by
  apply Fin.ext; simp only [mv]; split <;> omega

theorem mv_congr (d : Fin 2) {i j : ℕ} (h : i % 8 = j % 8) (c : Dev nD) : mv d i c = mv d j c := by
  apply Fin.ext; simp only [mv]; split <;> omega

theorem mv_zero (d : Fin 2) {i : ℕ} (h : i % 8 = 0) (c : Dev nD) : mv d i c = c := by
  have := c.isLt
  apply Fin.ext; simp only [mv]; split <;> (simp only [nD] at this; omega)

/-- The ring's rotation in direction `d`. -/
def rot (d : Fin 2) : Dev nD ≃ Dev nD where
  toFun := mv d 1
  invFun := mv d 7
  left_inv c := by rw [mv_mv]; exact mv_zero d (by decide) c
  right_inv c := by rw [mv_mv]; exact mv_zero d (by decide) c

/-! ## Messages -/

abbrev Msg : Type := Fin 14 × Fin 2 × Fin 2

/-- The order in which a device sends its messages, and in which it waits for its sends. -/
def ord (e : Msg) : ℕ := 4 * e.1.val + 2 * e.2.2.val + e.2.1.val
/-- The order in which a device waits for the messages it receives. -/
def rord (e : Msg) : ℕ := if e.1.val = 13 then 52 + 2 * e.2.1.val + e.2.2.val else ord e

theorem ord_inj : ∀ e e' : Msg, ord e = ord e' → e = e' := by
  rintro ⟨t, d, h⟩ ⟨t', d', h'⟩ he
  simp only [ord] at he
  have := t.isLt; have := t'.isLt; have := d.isLt; have := d'.isLt; have := h.isLt; have := h'.isLt
  exact Prod.ext (Fin.ext (by dsimp only; omega)) (Prod.ext (Fin.ext (by dsimp only; omega)) (Fin.ext (by dsimp only; omega)))

theorem rord_inj : ∀ e e' : Msg, rord e = rord e' → e = e' := by
  rintro ⟨t, d, h⟩ ⟨t', d', h'⟩ he
  simp only [rord, ord] at he
  have := t.isLt; have := t'.isLt; have := d.isLt; have := d'.isLt; have := h.isLt; have := h'.isLt
  refine Prod.ext (Fin.ext ?_) (Prod.ext (Fin.ext ?_) (Fin.ext ?_)) <;> (dsimp only; split at he <;> split at he <;> omega)

theorem ord_lt (e : Msg) : ord e < 56 := by
  have := e.1.isLt; have := e.2.1.isLt; have := e.2.2.isLt; simp only [ord]; omega
theorem rord_lt (e : Msg) : rord e < 56 := by
  have := ord_lt e; have := e.2.1.isLt; have := e.2.2.isLt; simp only [rord]; split <;> omega

/-! ## Memrefs -/

abbrev xM : Memref sig .tc .hbm S8192x1024 .f32 := Memref.whole main_arg0
abbrev iM : Memref sig .tc .smem S2048 .i32 := Memref.whole cc0_stg0_0
abbrev oM : Memref sig .tc .vmem S2048x1024 .f32 := Memref.whole cc0_stg1_0
/-- The landing buffer of direction `d`. -/
def lM (d : Fin 2) : Memref sig .tc .vmem S7x256x512 .f32 := if d = 0 then Memref.whole cc0_scratch0 else Memref.whole cc0_scratch1

theorem oSeg_inb (k : Fin 8) (d h : Fin 2) :
    ∀ a, (![256 * k.val + 128 * h.val, 512 * d.val] : Fin 2 → ℕ) a + S128x512.size a ≤ S2048x1024.size a := by
  have := k.isLt; have := d.isLt; have := h.isLt
  intro a; fin_cases a <;> simp [S128x512, S2048x1024] <;> omega

abbrev oRect (k : Fin 8) (d h : Fin 2) : Rect S2048x1024 :=
  Rect.unit (s := S2048x1024) ![256 * k.val + 128 * h.val, 512 * d.val] S128x512.size (oSeg_inb k d h)
/-- Chunk `k`'s segment of direction `d`, half `h`, of the result buffer. -/
abbrev oSeg (k : Fin 8) (d h : Fin 2) : Memref sig .tc .vmem S128x512 .f32 := oM.slice (oRect k d h) (fun _ => rfl)

theorem lSeg_inb (t : ℕ) (h : Fin 2) :
    ∀ a, (![t % 7, 128 * h.val, 0] : Fin 3 → ℕ) a + S1x128x512.size a ≤ S7x256x512.size a := by
  have := h.isLt; have := Nat.mod_lt t (show 0 < 7 by decide)
  intro a; fin_cases a <;> simp [S1x128x512, S7x256x512] <;> omega

abbrev lRect (t : ℕ) (h : Fin 2) : Rect S7x256x512 :=
  Rect.unit (s := S7x256x512) ![t % 7, 128 * h.val, 0] S1x128x512.size (lSeg_inb t h)
/-- Hop `t`'s half `h` of the landing buffer of direction `d`. -/
abbrev lSeg (d : Fin 2) (t : ℕ) (h : Fin 2) : Memref sig .tc .vmem S128x512 .f32 :=
  ((lM d).slice (lRect t h) (fun _ => rfl)).squeeze S128x512 squeezes_S1x128x512_S128x512

/-! ## Semaphores and cells -/

abbrev barS : Sem sig := (SemArray.scalar (sig.barrier 0 rfl) : Sems sig S_).sem

/-- The number of message `e`'s send semaphore; its receive semaphore is 56 further on. -/
def sN (e : Msg) : ℕ :=
  if e.1.val < 7 then 7 + 28 * e.2.1.val + 4 * e.1.val + e.2.2.val else 119 + 28 * e.2.1.val + 4 * (e.1.val - 7) + e.2.2.val
theorem sN_lt (e : Msg) : sN e + 56 < 231 := by
  have := e.1.isLt; have := e.2.1.isLt; have := e.2.2.isLt; simp only [sN]; split <;> omega
def sS (e : Msg) : DmaSem sig := ⟨sN e, by have := sN_lt e; show _ < 231; omega⟩
def rS (e : Msg) : DmaSem sig := ⟨sN e + 56, sN_lt e⟩
/-- The message whose send semaphore has number `n`. -/
def dec (n : ℕ) : Msg :=
  let b := if n < 119 then n - 7 else n - 119
  (Fin.ofNat 14 ((b % 28) / 4 + if n < 119 then 0 else 7), Fin.ofNat 2 (b / 28), Fin.ofNat 2 (b % 4))
theorem dec_sN : ∀ e : Msg, dec (sN e) = e := by decide
/-- The numbers of the send semaphores. -/
abbrev IsSend (n : ℕ) : Prop := n < 63 ∨ (119 ≤ n ∧ n < 175)
theorem isSend_sN : ∀ e : Msg, IsSend (sN e) := by decide
theorem not_isSend_rN : ∀ e : Msg, ¬ IsSend (sN e + 56) := by decide
theorem sN_ge : ∀ e : Msg, 7 ≤ sN e := by decide
theorem sN_inj {e e' : Msg} (h : sN e = sN e') : e = e' := by rw [← dec_sN e, h, dec_sN]

abbrev barCell (c : Dev nD) : GSem nD τ sig := ((c : Thread nD τ), .reg barS)
abbrev sendCell (c : Dev nD) (e : Msg) : GSem nD τ sig := ((c : Thread nD τ), .dma (sS e))
abbrev recvCell (c : Dev nD) (e : Msg) : GSem nD τ sig := ((c : Thread nD τ), .dma (rS e))
/-- The semaphore of gather slot `σ`. -/
def gS (σ : Fin 5) : DmaSem sig := ⟨2 + σ.val, by have := σ.isLt; show _ < 231; omega⟩
abbrev gCell (c : Dev nD) (σ : Fin 5) : GSem nD τ sig := ((c : Thread nD τ), .dma (gS σ))

/-- What one message credits. -/
abbrev N : ℕ := (oSeg 0 0 0).view.dmaCredit
theorem N_pos : 0 < N := View.dmaCredit_pos _ (by decide)

/-! ## Values -/

abbrev Tile : Type := S128x512.Idx → Elt F .f32

/-- The one index of a vector of 2048 words. -/
def ix1 (r : ℕ) : S2048.Idx := fun a => ⟨r % 2048, by fin_cases a; exact Nat.mod_lt _ (by decide)⟩
/-- Row `r`, column `q` of a device's block of the table. -/
def ix2 (r q : ℕ) : S8192x1024.Idx := fun a => match a with
  | ⟨0, _⟩ => ⟨r % 8192, Nat.mod_lt _ (by decide)⟩
  | ⟨1, _⟩ => ⟨q % 1024, Nat.mod_lt _ (by decide)⟩
/-- Row `r`, column `q` of the result. -/
def ixO (r q : ℕ) : S2048x1024.Idx := fun a => match a with
  | ⟨0, _⟩ => ⟨r % 2048, Nat.mod_lt _ (by decide)⟩
  | ⟨1, _⟩ => ⟨q % 1024, Nat.mod_lt _ (by decide)⟩

/-- Device `c`'s block of the table, and its copy of the indices. -/
def tab (c : Dev nD) : S8192x1024.Idx → Elt F .f32 := m ((c : Thread nD τ).loc main_arg0)
def ixs (c : Dev nD) : S2048.Idx → BitVec 32 := m ((c : Thread nD τ).loc main_arg1)
/-- The index of row `r` of the result, and whether its table row is in device `c`'s block. -/
def word (c : Dev nD) (r : ℕ) : BitVec 32 := ixs m c (ix1 r)
def Owned (c : Dev nD) (r : ℕ) : Prop := k0_cond1 c (word m c r) = 1#1
instance (c : Dev nD) (r : ℕ) : Decidable (Owned m c r) := by unfold Owned; infer_instance

/-- What device `c` gathers: the rows its block holds, zeros elsewhere. -/
def gath (c : Dev nD) : S2048x1024.Idx → Elt F .f32 := fun j =>
  if Owned m c (j 0).val then tab m c (ix2 (k0_off3 c (word m c (j 0).val) 0) (j 1).val) else k0_pay1 (F := F) j

/-- Its segment. -/
def gathV (c : Dev nD) (k : Fin 8) (d h : Fin 2) : S128x512.Idx → Elt F .f32 := (oSeg k d h).view.read (Elt F) (gath m c)

/-- Chunk `k`'s segment after `s` additions round the ring. -/
def chain (d : Fin 2) (k : Fin 8) (h : Fin 2) : ℕ → FVec F S128x512 .f32
  | 0 => gathV m k k d h
  | s + 1 => addf (gathV m (mv d (s + 1) k) k d h) (chain d k h s)

/-! ## What a device holds of a buffer -/

/-- Device `c` holds memref `M` outright, at any contents. -/
def anyM (c : Dev nD) {sp : Space} {s : Shape} {e : EltTy} (M : Memref sig .tc sp s e) : sProp 𝕄 :=
  iprop(∃ f, M.view.loc (c : Thread nD τ) ↦[M.view.set]{fullShare} f)
instance anyM_storable (c : Dev nD) {sp : Space} {s : Shape} {e : EltTy} (M : Memref sig .tc sp s e) :
    BI.Storable (upEmb : UEmb _ 𝕄) (anyM (F := F) c M) := by unfold anyM; infer_instance
/-- Device `c` holds memref `M` outright, reading `v`. -/
abbrev own (c : Dev nD) {sp : Space} {s : Shape} {e : EltTy} (M : Memref sig .tc sp s e) (v : s.Idx → Elt F e) : sProp 𝕄 :=
  owns (c : Thread nD τ) M fullShare v

theorem own_any (c : Dev nD) {sp : Space} {s : Shape} {e : EltTy} (M : Memref sig .tc sp s e) (v : s.Idx → Elt F e) :
    (own c M v : sProp 𝕄) ⊢ anyM c M := by
  unfold anyM own owns
  iintro ⟨%f, -, H⟩; iexists f; iexact H

/-! ## What the messages carry -/

/-- The earlier holders of a segment whose stale copies travel with message `t`, before it is sent. -/
def stale (t : ℕ) : Finset ℕ := (Finset.range 7).filter fun i => i < t ∧ t ≤ i + 7

/-- Chunk `k`'s stale segments. -/
def stales (k : Fin 8) (d h : Fin 2) (t : ℕ) : sProp 𝕄 := bigSep (stale t) fun i => anyM (mv d i k) (oSeg k d h)
instance stales_storable (k : Fin 8) (d h : Fin 2) (t : ℕ) : BI.Storable (upEmb : UEmb _ 𝕄) (stales (F := F) k d h t) := by
  unfold stales; infer_instance

/-- What device `c` holds before it sends message `(t, d, h)`. -/
def car (c : Dev nD) (e : Msg) : sProp 𝕄 :=
  iprop(own c (oSeg (mv e.2.1 (7 * e.1.val) c) e.2.1 e.2.2) (chain m e.2.1 (mv e.2.1 (7 * e.1.val) c) e.2.2 (min e.1.val 7))
    ∗ stales (mv e.2.1 (7 * e.1.val) c) e.2.1 e.2.2 e.1.val)

/-- The chunk of the message `(t, d, h)` that device `c` receives. -/
abbrev rk (c : Dev nD) (e : Msg) : Fin 8 := mv e.2.1 (7 * (e.1.val + 1)) c

/-- What reaches device `c` with message `e`. -/
def recvPay (c : Dev nD) (e : Msg) : sProp 𝕄 :=
  iprop((if e.1.val < 7 then own c (lSeg e.2.1 e.1.val e.2.2) (chain m e.2.1 (rk c e) e.2.2 e.1.val)
      else own c (oSeg (rk c e) e.2.1 e.2.2) (chain m e.2.1 (rk c e) e.2.2 7))
    ∗ stales (rk c e) e.2.1 e.2.2 (e.1.val + 1))
/-- What device `c` gets back when message `e` has left: in the all-gather, the finished segment. -/
def sendPay (c : Dev nD) (e : Msg) : sProp 𝕄 :=
  if e.1.val < 7 then iprop(emp)
  else own c (oSeg (mv e.2.1 (7 * e.1.val) c) e.2.1 e.2.2) (chain m e.2.1 (mv e.2.1 (7 * e.1.val) c) e.2.2 7)
/-- What a neighbour's signal hands device `c`: the landing buffer it sends into in direction `d`. -/
def barPay (c : Dev nD) (d : Fin 2) : sProp 𝕄 := anyM (mv d 1 c) (lM d)

instance recvPay_storable (c : Dev nD) (e : Msg) : BI.Storable (upEmb : UEmb _ 𝕄) (recvPay m c e) := by
  unfold recvPay; split <;> infer_instance
instance sendPay_storable (c : Dev nD) (e : Msg) : BI.Storable (upEmb : UEmb _ 𝕄) (sendPay m c e) := by
  unfold sendPay; split <;> infer_instance
instance barPay_storable (c : Dev nD) (d : Fin 2) : BI.Storable (upEmb : UEmb _ 𝕄) (barPay (F := F) c d) := by
  unfold barPay; infer_instance

/-! ## The schedule -/

/-- One round, round 0. A barrier cell has a duty of one unit for each direction, a send or receive cell the duty 0 of
    one message's credit. -/
def Rd : Rounds.Schedule (GSem nD τ sig) (Fin 2) 𝕄 where
  duties g r := if r = 0 then (match g.2 with | .reg _ => Finset.univ | .dma _ => {0}) else ∅
  unitless _ := False
  amount g _ _ := match g.2 with | .reg _ => 1 | .dma _ => N
  payload g _ d := match g.2 with
    | .reg _ => barPay g.1.1 d
    | .dma q => if IsSend q.val then sendPay m g.1.1 (dec q.val) else recvPay m g.1.1 (dec (q.val - 56))
  amount_pos g _ _ _ := by
    rcases g with ⟨c, s | q⟩
    · exact Nat.one_pos
    · exact N_pos

instance Rd_payload_storable (g : GSem nD τ sig) (r : ℕ) (d : Fin 2) : BI.Storable (upEmb : UEmb _ 𝕄) ((Rd m).payload g r d) := by
  rcases g with ⟨c, s | q⟩
  · show BI.Storable upEmb (barPay c.1 d); infer_instance
  · show BI.Storable upEmb (if IsSend q.val then sendPay m c.1 (dec q.val) else recvPay m c.1 (dec (q.val - 56)))
    split <;> infer_instance

section Sched
variable (c : Dev nD) (e : Msg)

theorem duties_bar : (Rd m).duties (barCell c) 0 = Finset.univ := rfl
theorem duties_send : (Rd m).duties (sendCell c e) 0 = {0} := rfl
theorem duties_recv : (Rd m).duties (recvCell c e) 0 = {0} := rfl
theorem duties_later (g : GSem nD τ sig) : ∀ r, 1 ≤ r → (Rd m).duties g r = ∅ :=
  fun r hr => by dsimp only [Rd]; rw [if_neg (by omega)]
theorem amount_bar (d : Fin 2) : (Rd m).amount (barCell c) 0 d = 1 := rfl
theorem amount_dma (q : DmaSem sig) (d : Fin 2) : (Rd m).amount ((c : Thread nD τ), .dma q) 0 d = N := rfl
theorem expect_bar : (Rd m).expect (barCell c) 0 = 2 := rfl
theorem expect_dma (q : DmaSem sig) : (Rd m).expect ((c : Thread nD τ), .dma q) 0 = N := by
  show ∑ d ∈ ({0} : Finset (Fin 2)), N = N
  rw [Finset.sum_singleton]
theorem payload_bar (d : Fin 2) : (Rd m).payload (barCell c) 0 d = barPay c d := rfl
theorem payload_send (d : Fin 2) : (Rd m).payload (sendCell c e) 0 d = sendPay m c e := by
  show (if IsSend (sN e) then sendPay m c (dec (sN e)) else recvPay m c (dec (sN e - 56))) = _
  rw [if_pos (isSend_sN e), dec_sN]
theorem payload_recv (d : Fin 2) : (Rd m).payload (recvCell c e) 0 d = recvPay m c e := by
  show (if IsSend (sN e + 56) then sendPay m c (dec (sN e + 56)) else recvPay m c (dec (sN e + 56 - 56))) = _
  rw [if_neg (not_isSend_rN e), Nat.add_sub_cancel, dec_sN]
theorem rest_bar : bigSep ((Rd m).duties (barCell c) 0 \ ∅) (fun d => (Rd m).payload (barCell c) 0 d) = iprop(barPay c 0 ∗ barPay c 1) := by
  rw [Finset.sdiff_empty, duties_bar, bigSep_univ_eq_bigSepL [0, 1] (by decide) (by decide), bigSepL_cons_cons, bigSepL_singleton]
  rfl
theorem rest_send : bigSep ((Rd m).duties (sendCell c e) 0 \ ∅) (fun d => (Rd m).payload (sendCell c e) 0 d) = sendPay m c e := by
  rw [Finset.sdiff_empty, duties_send, bigSep_singleton, payload_send]
theorem rest_recv : bigSep ((Rd m).duties (recvCell c e) 0 \ ∅) (fun d => (Rd m).payload (recvCell c e) 0 d) = recvPay m c e := by
  rw [Finset.sdiff_empty, duties_recv, bigSep_singleton, payload_recv]

end Sched

/-! ## What a device owes; the levels -/

/-- What device `c` still owes after `ns` sends: every later message's credit to its receiver. -/
def owed (c : Dev nD) (ns : ℕ) : CellTallies nD τ sig Unit :=
  ∑ e ∈ Finset.univ.filter (fun e : Msg => ns ≤ ord e), tallyAt (recvCell (mv e.2.1 1 c) e) () N
/-- At launch it owes both neighbours' barrier cells a unit as well. -/
def O₁ (c : Dev nD) : CellTallies nD τ sig Unit := owed c 0 + tallyAt (barCell (mv 0 1 c)) () 1
def O₀ (c : Dev nD) : CellTallies nD τ sig Unit := O₁ c + tallyAt (barCell (mv 1 1 c)) () 1

theorem owed_step (c : Dev nD) (e : Msg) : owed c (ord e) = owed c (ord e + 1) + tallyAt (recvCell (mv e.2.1 1 c) e) () N := by
  unfold owed
  have h : Finset.univ.filter (fun e' : Msg => ord e ≤ ord e') = insert e (Finset.univ.filter (fun e' : Msg => ord e + 1 ≤ ord e')) := by
    ext e'
    simp only [Finset.mem_filter, Finset.mem_univ, true_and, Finset.mem_insert]
    constructor
    · intro h
      by_cases h' : ord e' = ord e
      · exact .inl (ord_inj _ _ h')
      · exact .inr (by omega)
    · rintro (rfl | h) <;> omega
  rw [h, Finset.sum_insert (by simp), add_comm]

theorem owed_last (c : Dev nD) : owed c 56 = 0 := by
  unfold owed
  rw [Finset.filter_false_of_mem (fun e _ => by have := ord_lt e; omega), Finset.sum_empty]

def L (g : GSem nD τ sig) : Finset Unit := if g.1.2 = .tc then {()} else ∅
/-- The level of a cell: a barrier cell 1, the receive cell of hop `t` is `t + 2`, every other 0. -/
def lv (g : GSem nD τ sig) (_ : Unit) : ℕ := match g.2 with
  | .reg _ => 1
  | .dma q => if IsSend q.val then 0 else (dec (q.val - 56)).1.val + 2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (e : Msg) : lv (recvCell c e) () = e.1.val + 2 := by
  show (if IsSend (sN e + 56) then 0 else (dec (sN e + 56 - 56)).1.val + 2) = _
  rw [if_neg (not_isSend_rN e), Nat.add_sub_cancel, dec_sN]
theorem lv_low (c : Dev nD) (q : DmaSem sig) (h : IsSend q.val) : lv ((c : Thread nD τ), .dma q) () = 0 := if_pos h

theorem owed_pos {c : Dev nD} {ns : ℕ} {g : GSem nD τ sig} {u : Unit} (h : 0 < owed c ns g u) :
    ∃ e : Msg, ns ≤ ord e ∧ g = recvCell (mv e.2.1 1 c) e := by
  unfold owed at h
  rw [Finset.sum_apply, Finsupp.finset_sum_apply] at h
  obtain ⟨e, he, h0⟩ := Finset.exists_ne_zero_of_sum_ne_zero (Nat.pos_iff_ne_zero.mp h)
  refine ⟨e, (Finset.mem_filter.mp he).2, ?_⟩
  rw [tallyAt_apply] at h0
  by_contra hn
  exact h0 (if_neg fun h' => hn h'.1)

theorem O₀_pos {c : Dev nD} {g : GSem nD τ sig} {u : Unit} (h : 0 < O₀ c g u) :
    (∃ e : Msg, g = recvCell (mv e.2.1 1 c) e) ∨ g = barCell (mv 0 1 c) ∨ g = barCell (mv 1 1 c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨e, -, he⟩ := owed_pos (c := c) (ns := 0) (g := g) (u := u) (by omega)
  exact hn.1 ⟨e, he⟩

/-- A wait on a cell below level `n` while owing only messages at levels above it. -/
theorem mayWait_owed (c : Dev nD) (sm : SemLoc sig) (n ns : ℕ) (hsm : lv ((c : Thread nD τ), sm) () ≤ n)
    (hns : ∀ e : Msg, ns ≤ ord e → n < e.1.val + 2) :
    (levAts L lv : sProp 𝕄) ⊢ MayWait (c : Thread nD τ) sm () (owed c ns) :=
  MayOwe.of_cut (L := L) (lev := lv) n
    (fun p hp => by rw [Finset.mem_singleton.mp hp, L_tc]; exact Finset.mem_singleton_self _)
    (fun g u hg => by obtain ⟨e, -, rfl⟩ := owed_pos hg; exact Finset.mem_singleton_self _)
    (fun p hp => by rw [Finset.mem_singleton.mp hp]; exact hsm)
    (fun g u hg => by obtain ⟨e, he, rfl⟩ := owed_pos hg; cases u; rw [lv_recv]; exact hns e he)

theorem mayWait_stage (c : Dev nD) (q : DmaSem sig) (hq : IsSend q.val) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨e, rfl⟩ | rfl | rfl <;> exact Finset.mem_singleton_self _)
      (fun p hp => by rw [Finset.mem_singleton.mp hp, lv_low c q hq])
      (fun g u hg => by
        cases u
        rcases O₀_pos hg with ⟨e, rfl⟩ | rfl | rfl
        · rw [lv_recv]; omega
        · exact Nat.one_pos
        · exact Nat.one_pos)
  · rw [MayWait_zero]; iintro -; iempintro

end Cert.Ring

end
-- ==== Proof.Views.lean ====
/-
A buffer held outright is its tiles held outright, and back: the result buffer in its 32 segments, each landing buffer
in its 14.
-/
module

public import proofs.«01_k».proof.Proof.Common

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Iterated conjunctions -/

section Big
variable {I : Type} {s : Finset I}
theorem big_mono {Φ Ψ : I → sProp 𝕄} (h : ∀ i ∈ s, Φ i ⊢ Ψ i) : (bigSep s Φ : sProp 𝕄) ⊢ bigSep s Ψ := BI.bigSep_mono h
theorem big_exists [DecidableEq I] {Y : I → Type} [∀ i, Nonempty (Y i)] (P : (i : I) → Y i → sProp 𝕄) :
    (bigSep s (fun i => iprop(∃ y, P i y)) : sProp 𝕄) ⊢ iprop(∃ y : (i : I) → Y i, bigSep s fun i => P i (y i)) := BI.bigSep_exists_pi s P
theorem big_pure [DecidableEq I] (p : I → Prop) (Φ : I → sProp 𝕄) :
    (bigSep s (fun i => iprop(⌜p i⌝ ∗ Φ i)) : sProp 𝕄) ⊢ iprop(⌜∀ i ∈ s, p i⌝ ∗ bigSep s Φ) := BI.bigSep_pure_sep s p Φ
theorem big_sep (Φ Ψ : I → sProp 𝕄) : (bigSep s (fun i => iprop(Φ i ∗ Ψ i)) : sProp 𝕄) = iprop(bigSep s Φ ∗ bigSep s Ψ) := bigSep_sep' s Φ Ψ

/-- Replacing one member of a family: the member, and the way back with another in its place. -/
theorem big_step [Fintype I] [DecidableEq I] (i : I) {Φ Ψ : I → sProp 𝕄} (h : ∀ j, j ≠ i → Φ j = Ψ j) :
    (bigSep Finset.univ Φ : sProp 𝕄) ⊢ iprop(Φ i ∗ (Ψ i -∗ bigSep Finset.univ Ψ)) := by
  have e1 : (bigSep Finset.univ Φ : sProp 𝕄) = iprop(Φ i ∗ bigSep (Finset.univ.erase i) Φ) := BI.bigSep_erase (Finset.mem_univ i)
  have e2 : (bigSep Finset.univ Ψ : sProp 𝕄) = iprop(Ψ i ∗ bigSep (Finset.univ.erase i) Ψ) := BI.bigSep_erase (Finset.mem_univ i)
  have e3 : (bigSep (Finset.univ.erase i) Φ : sProp 𝕄) = bigSep (Finset.univ.erase i) Ψ :=
    BI.bigSep_congr fun j hj => h j (Finset.ne_of_mem_erase hj)
  rw [e1, e2, e3]
  iintro ⟨H, Hr⟩
  isplitl [H]; · iexact H
  iintro H
  isplitl [H]; · iexact H
  iexact Hr
end Big

/-! ## Cutting a memref -/

section Cut

variable {T : Type} [Fintype T] [DecidableEq T] {sp : Space} {s : Shape} {e : EltTy}
variable (c : Dev nD) (M : Memref sig .tc sp s e) (r : T → Rect s)

theorem cut_disj (hd : ∀ t t', t ≠ t' → Disjoint (r t).set (r t').set) :
    ∀ t ∈ (Finset.univ : Finset T), ∀ t' ∈ (Finset.univ : Finset T), t ≠ t' →
      Disjoint ((M.view.slice (r t)).set) ((M.view.slice (r t')).set) := fun t _ t' _ h => by
  rw [View.set_slice, View.set_slice]
  exact (Finset.disjoint_map _).mpr (hd t t' h)

theorem cut_cover (hc : ∀ i, ∃ t, i ∈ (r t).set) :
    (Finset.univ : Finset T).biUnion (fun t => (M.view.slice (r t)).set) = M.view.set := by
  ext i
  simp only [Finset.mem_biUnion, Finset.mem_univ, true_and, View.set_slice]
  constructor
  · rintro ⟨t, ht⟩
    obtain ⟨x, -, rfl⟩ := Finset.mem_map.mp ht
    exact View.emb_mem_set _ x
  · intro hi
    obtain ⟨x, -, rfl⟩ := Finset.mem_map.mp hi
    obtain ⟨t, ht⟩ := hc x
    exact ⟨t, Finset.mem_map_of_mem _ ht⟩

/-- A buffer's elements at contents `f` are the tiles', each reading its part of `f`. -/
theorem cut_pts (hd : ∀ t t', t ≠ t' → Disjoint (r t).set (r t').set) (hc : ∀ i, ∃ t, i ∈ (r t).set)
    (f : Buf (Elt F) (M.view.loc (c : Thread nD τ))) :
    (M.view.loc (c : Thread nD τ) ↦[M.view.set]{fullShare} f : sProp 𝕄)
      = bigSep Finset.univ fun t => M.view.loc (c : Thread nD τ) ↦[(M.view.slice (r t)).set]{fullShare} f := by
  rw [← cut_cover M r hc]
  exact pointsTo_biUnion _ _ (cut_disj M r hd)

theorem any_cut (hd : ∀ t t', t ≠ t' → Disjoint (r t).set (r t').set) (hc : ∀ i, ∃ t, i ∈ (r t).set) :
    (anyM c M : sProp 𝕄) ⊢ bigSep Finset.univ fun t => iprop(∃ f, M.view.loc (c : Thread nD τ) ↦[(M.view.slice (r t)).set]{fullShare} f) := by
  have h : ∀ f : Buf (Elt F) (M.view.loc (c : Thread nD τ)), (M.view.loc (c : Thread nD τ) ↦[M.view.set]{fullShare} f : sProp 𝕄)
      ⊢ bigSep Finset.univ fun t => iprop(∃ f, M.view.loc (c : Thread nD τ) ↦[(M.view.slice (r t)).set]{fullShare} f) := fun f => by
    rw [cut_pts c M r hd hc f]
    exact big_mono fun t _ => by iintro H; iexists f; iexact H
  unfold anyM
  iintro ⟨%f, H⟩
  iapply (h f)
  iexact H

theorem any_join [Inhabited T] (hd : ∀ t t', t ≠ t' → Disjoint (r t).set (r t').set) (hc : ∀ i, ∃ t, i ∈ (r t).set) :
    (bigSep Finset.univ fun t => iprop(∃ f, M.view.loc (c : Thread nD τ) ↦[(M.view.slice (r t)).set]{fullShare} f) : sProp 𝕄) ⊢ anyM c M := by
  iintro H
  ihave H := (big_exists (F := F) (s := Finset.univ) (fun t (f : Buf (Elt F) (M.view.loc (c : Thread nD τ))) => iprop(M.view.loc (c : Thread nD τ) ↦[(M.view.slice (r t)).set]{fullShare} f))) $$ H
  icases H with ⟨%fs, H⟩
  ihave H := (pointsTo_biUnion_join (Finset.univ : Finset T) (fun t => (M.view.slice (r t)).set) fs (fs default) (cut_disj M r hd)) $$ H
  icases H with ⟨%g, -, H⟩
  unfold anyM
  iexists g
  rw [cut_cover M r hc]
  iexact H

theorem own_join [Inhabited T] (hd : ∀ t t', t ≠ t' → Disjoint (r t).set (r t').set) (hc : ∀ i, ∃ t, i ∈ (r t).set)
    (v : s.Idx → Elt F e) :
    (bigSep Finset.univ fun t => iprop(∃ f, ⌜(M.view.slice (r t)).read (Elt F) f = fun x => v ((r t).emb x)⌝ ∗ (M.view.loc (c : Thread nD τ) ↦[(M.view.slice (r t)).set]{fullShare} f)) : sProp 𝕄)
      ⊢ own c M v := by
  iintro H
  ihave H := (big_exists (F := F) (s := Finset.univ) (fun t (f : Buf (Elt F) (M.view.loc (c : Thread nD τ))) => iprop(⌜(M.view.slice (r t)).read (Elt F) f = fun x => v ((r t).emb x)⌝ ∗ (M.view.loc (c : Thread nD τ) ↦[(M.view.slice (r t)).set]{fullShare} f)))) $$ H
  icases H with ⟨%fs, H⟩
  ihave H := (big_pure (F := F) (s := Finset.univ) (fun t => (M.view.slice (r t)).read (Elt F) (fs t) = fun x => v ((r t).emb x)) (fun t => iprop(M.view.loc (c : Thread nD τ) ↦[(M.view.slice (r t)).set]{fullShare} fs t))) $$ H
  icases H with ⟨%hv, H⟩
  ihave H := (pointsTo_biUnion_join (Finset.univ : Finset T) (fun t => (M.view.slice (r t)).set) fs (fs default) (cut_disj M r hd)) $$ H
  icases H with ⟨%g, %hg, H⟩
  unfold own owns
  iexists g
  isplitr
  · ipureintro
    funext x
    obtain ⟨t, ht⟩ := hc x
    rw [← Rect.map_emb_univ] at ht
    obtain ⟨y, -, rfl⟩ := Finset.mem_map.mp ht
    have h1 : (M.view.slice (r t)).read (Elt F) g = (M.view.slice (r t)).read (Elt F) (fs t) :=
      View.read_congr fun i hi => hg t (Finset.mem_univ _) i hi
    exact (congrFun h1 y).trans (congrFun (hv t (Finset.mem_univ _)) y)
  · rw [cut_cover M r hc]; iexact H

end Cut

/-! ## The result buffer's segments -/

theorem mem_oRect {k : Fin 8} {d h : Fin 2} {i : S2048x1024.Idx} :
    i ∈ (oRect k d h).set ↔ (256 * k.val + 128 * h.val ≤ (i 0).val ∧ (i 0).val < 256 * k.val + 128 * h.val + 128)
      ∧ (512 * d.val ≤ (i 1).val ∧ (i 1).val < 512 * d.val + 512) := by
  rw [Rect.mem_set_unit]
  constructor
  · intro hh; exact ⟨hh 0, hh 1⟩
  · rintro ⟨h0, h1⟩ a; fin_cases a
    · exact h0
    · exact h1

theorem oRect_disj (t t' : Fin 8 × Fin 2 × Fin 2) (hn : t ≠ t') :
    Disjoint (oRect t.1 t.2.1 t.2.2).set (oRect t'.1 t'.2.1 t'.2.2).set := by
  rw [Finset.disjoint_left]
  intro i hi hi'
  rw [mem_oRect] at hi hi'
  apply hn
  have := t.2.2.isLt; have := t'.2.2.isLt
  exact Prod.ext (Fin.ext (by omega)) (Prod.ext (Fin.ext (by omega)) (Fin.ext (by omega)))

theorem oRect_cover (i : S2048x1024.Idx) : ∃ t : Fin 8 × Fin 2 × Fin 2, i ∈ (oRect t.1 t.2.1 t.2.2).set := by
  have h0 : (i 0).val < 2048 := (i 0).isLt
  have h1 : (i 1).val < 1024 := (i 1).isLt
  refine ⟨(⟨(i 0).val / 256, by omega⟩, ⟨(i 1).val / 512, by omega⟩, ⟨(i 0).val % 256 / 128, by omega⟩), ?_⟩
  rw [mem_oRect]
  dsimp only
  omega

theorem oSeg_set (k : Fin 8) (d h : Fin 2) : (oSeg k d h).view.set = (oRect k d h).set := View.set_slice_whole _ _

/-- The finished segments are the finished buffer. -/
theorem out_join (c : Dev nD) (v : S2048x1024.Idx → Elt F .f32) :
    (bigSep Finset.univ fun t : Fin 8 × Fin 2 × Fin 2 => own c (oSeg t.1 t.2.1 t.2.2) ((oSeg t.1 t.2.1 t.2.2).view.read (Elt F) v) : sProp 𝕄)
      ⊢ own c oM v :=
  own_join c oM (fun t : Fin 8 × Fin 2 × Fin 2 => oRect t.1 t.2.1 t.2.2) oRect_disj oRect_cover v

/-! ## The landing buffers' segments -/

theorem mem_lRect {t : ℕ} {h : Fin 2} {i : S7x256x512.Idx} :
    i ∈ (lRect t h).set ↔ (i 0).val = t % 7 ∧ (128 * h.val ≤ (i 1).val ∧ (i 1).val < 128 * h.val + 128) := by
  rw [Rect.mem_set_unit]
  constructor
  · intro hh
    have h0 := hh 0
    have h0' : t % 7 ≤ (i 0).val ∧ (i 0).val < t % 7 + 1 := h0
    exact ⟨by omega, hh 1⟩
  · rintro ⟨h0, h1⟩ a; fin_cases a
    · show t % 7 ≤ (i 0).val ∧ (i 0).val < t % 7 + 1
      omega
    · exact h1
    · have := (i 2).isLt
      exact ⟨Nat.zero_le _, by simpa using this⟩

theorem lRect_disj (t t' : Fin 7 × Fin 2) (hn : t ≠ t') : Disjoint (lRect t.1.val t.2).set (lRect t'.1.val t'.2).set := by
  rw [Finset.disjoint_left]
  intro i hi hi'
  rw [mem_lRect] at hi hi'
  apply hn
  have := t.1.isLt; have := t'.1.isLt
  exact Prod.ext (Fin.ext (by omega)) (Fin.ext (by omega))

theorem lRect_cover (i : S7x256x512.Idx) : ∃ t : Fin 7 × Fin 2, i ∈ (lRect t.1.val t.2).set := by
  have h0 : (i 0).val < 7 := (i 0).isLt
  have h1 : (i 1).val < 256 := (i 1).isLt
  refine ⟨(⟨(i 0).val, h0⟩, ⟨(i 1).val / 128, by omega⟩), ?_⟩
  rw [mem_lRect]
  dsimp only
  omega

theorem lSeg_set (d : Fin 2) (t : ℕ) (h : Fin 2) : (lSeg d t h).view.set = ((lM d).view.slice (lRect t h)).set :=
  View.set_reshape _ _

theorem land_cut (c : Dev nD) (d : Fin 2) :
    (anyM c (lM d) : sProp 𝕄) ⊢ bigSep Finset.univ fun t : Fin 7 × Fin 2 => anyM c (lSeg d t.1.val t.2) := by
  refine (any_cut c (lM d) (fun t : Fin 7 × Fin 2 => lRect t.1.val t.2) lRect_disj lRect_cover).trans (big_mono fun t _ => ?_)
  unfold anyM
  rw [lSeg_set]

theorem land_join (c : Dev nD) (d : Fin 2) :
    (bigSep Finset.univ fun t : Fin 7 × Fin 2 => anyM c (lSeg d t.1.val t.2) : sProp 𝕄) ⊢ anyM c (lM d) := by
  refine (big_mono fun t _ => ?_).trans (any_join c (lM d) (fun t : Fin 7 × Fin 2 => lRect t.1.val t.2) lRect_disj lRect_cover)
  unfold anyM
  rw [lSeg_set]

/-! ## The credit of a message -/

theorem amount_oSeg (k : Fin 8) (d h : Fin 2) (q : DmaSem sig) : (oSeg k d h).view.amount (.dma q) = N := rfl
theorem amount_lSeg (d : Fin 2) (t : ℕ) (h : Fin 2) (q : DmaSem sig) : (lSeg d t h).view.amount (.dma q) = N := by
  fin_cases d <;> rfl

end Cert.Ring

end
-- ==== Proof.Gather.lean ====
/-
The gather of one window: a device reads the window's indices and, for every row its block of the table holds, starts
a copy of the table row into its result buffer; then it waits as many times as it started copies.

The copies of window `σ` are one batch on the window's semaphore. `cnt` counts the copies started after `i` rows; the
rows handled and held by the block are out with the batch, the others stay at zero.
-/
module

public import proofs.«01_k».proof.Proof.Views
public import Idealize.SL.BI.BigOpNat

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Windows and rows -/

def nrow (σ : Fin 5) : ℕ := if σ = 0 ∨ σ = 4 then 256 else 512
/-- The result row that window `σ`'s row `i` is: the chunk behind, then the chunk ahead. -/
def rowOf (c : Dev nD) (σ : Fin 5) (i : ℕ) : ℕ :=
  if i < 256 then 256 * (mv 1 σ.val c).val + i else 256 * (mv 0 σ.val c).val + (i - 256)

theorem nrow_le (σ : Fin 5) : nrow σ ≤ 512 := by unfold nrow; split <;> omega

theorem rowOf_lt (c : Dev nD) (σ : Fin 5) (i : ℕ) (h : i < 512) : rowOf c σ i < 2048 := by
  have h1 := (mv 1 σ.val c).isLt; have h0 := (mv 0 σ.val c).isLt
  simp only [nD] at h1 h0
  unfold rowOf; split <;> omega

theorem two_chunks : ∀ (c : Dev nD) (σ : Fin 5), ¬(σ = 0 ∨ σ = 4) → (mv 1 σ.val c).val ≠ (mv 0 σ.val c).val := by decide

theorem rowOf_inj (c : Dev nD) (σ : Fin 5) {i j : ℕ} (hi : i < nrow σ) (hj : j < nrow σ) (h : rowOf c σ i = rowOf c σ j) : i = j := by
  by_cases hσ : σ = 0 ∨ σ = 4
  · unfold nrow at hi hj; rw [if_pos hσ] at hi hj
    unfold rowOf at h; rw [if_pos hi, if_pos hj] at h; omega
  · have hn := two_chunks c σ hσ
    unfold nrow at hi hj; rw [if_neg hσ] at hi hj
    unfold rowOf at h; split at h <;> split at h <;> omega

/-- The elements of result row `r`. -/
def rowSet (r : ℕ) : Finset S2048x1024.Idx := Finset.univ.filter fun j => (j 0).val = r
/-- The elements of window `σ`'s rows, less those of the rows before `i` that the block holds. -/
def rest (c : Dev nD) (σ : Fin 5) (i : ℕ) : Finset S2048x1024.Idx :=
  Finset.univ.filter fun j => ∃ i' < nrow σ, (j 0).val = rowOf c σ i' ∧ ¬(i' < i ∧ Owned m c (rowOf c σ i'))

theorem rest_owned (c : Dev nD) (σ : Fin 5) (i : ℕ) (hi : i < nrow σ) (h : Owned m c (rowOf c σ i)) :
    rest m c σ i = rowSet (rowOf c σ i) ∪ rest m c σ (i + 1) ∧ Disjoint (rowSet (rowOf c σ i)) (rest m c σ (i + 1)) := by
  constructor
  · ext j
    simp only [rest, rowSet, Finset.mem_filter, Finset.mem_univ, true_and, Finset.mem_union]
    constructor
    · rintro ⟨i', h1, h2, h3⟩
      by_cases he : i' = i
      · subst he; exact .inl h2
      · exact .inr ⟨i', h1, h2, fun hh => h3 ⟨by omega, hh.2⟩⟩
    · rintro (h1 | ⟨i', h1, h2, h3⟩)
      · exact ⟨i, hi, h1, fun hh => absurd hh.1 (lt_irrefl _)⟩
      · exact ⟨i', h1, h2, fun hh => h3 ⟨by omega, hh.2⟩⟩
  · rw [Finset.disjoint_left]
    intro j h1 h2
    simp only [rest, rowSet, Finset.mem_filter, Finset.mem_univ, true_and] at h1 h2
    obtain ⟨i', h3, h4, h5⟩ := h2
    have := rowOf_inj c σ hi h3 (h1.symm.trans h4)
    subst this
    exact h5 ⟨by omega, h⟩

theorem rest_not (c : Dev nD) (σ : Fin 5) (i : ℕ) (hi : i < nrow σ) (h : ¬ Owned m c (rowOf c σ i)) : rest m c σ i = rest m c σ (i + 1) := by
  ext j
  simp only [rest, Finset.mem_filter, Finset.mem_univ, true_and]
  constructor
  · rintro ⟨i', h1, h2, h3⟩
    refine ⟨i', h1, h2, fun hh => ?_⟩
    by_cases he : i' = i
    · subst he; exact h hh.2
    · exact h3 ⟨by omega, hh.2⟩
  · rintro ⟨i', h1, h2, h3⟩
    exact ⟨i', h1, h2, fun hh => h3 ⟨by omega, hh.2⟩⟩

/-! ## The batch -/

/-- What one row's copy credits. -/
abbrev Nr : ℕ := (oM.slice (Rect.unit (s := S2048x1024) ![0, 0] S1x1024.size inb_S2048x1024_S1x1024_0_0) (fun _ => rfl)).view.dmaCredit
theorem Nr_pos : 0 < Nr := View.dmaCredit_pos _ (by decide)

/-- Window `σ`'s row `i` is in the block. -/
abbrev hit (c : Dev nD) (σ : Fin 5) (i : ℕ) : Prop := Owned m c (rowOf c σ i)
/-- The copies started for window `σ`'s first `i` rows. -/
def cnt (c : Dev nD) (σ : Fin 5) : ℕ → ℕ
  | 0 => 0
  | i + 1 => cnt c σ i + if hit m c σ i then 1 else 0

theorem cnt_succ (c : Dev nD) (σ : Fin 5) (i : ℕ) : cnt m c σ (i + 1) = cnt m c σ i + if hit m c σ i then 1 else 0 := rfl
theorem cnt_zero (c : Dev nD) (σ : Fin 5) : cnt m c σ 0 = 0 := rfl
theorem cnt_mono (c : Dev nD) (σ : Fin 5) {i j : ℕ} (h : i ≤ j) : cnt m c σ i ≤ cnt m c σ j :=
  monotone_nat_of_le_succ (fun i => by rw [cnt_succ]; exact Nat.le_add_right _ _) h
theorem cnt_le (c : Dev nD) (σ : Fin 5) (i : ℕ) : cnt m c σ i ≤ i := by
  induction i with
  | zero => exact le_rfl
  | succ i ih => rw [cnt_succ]; split <;> omega
theorem cnt_lt (c : Dev nD) (σ : Fin 5) {i j : ℕ} (h : hit m c σ i) (hij : i < j) : cnt m c σ i < cnt m c σ j := by
  have := cnt_mono m c σ (i := i + 1) (j := j) hij
  rw [cnt_succ, if_pos h] at this
  omega

/-- The row whose copy is the batch's `t`-th. -/
def nth (c : Dev nD) (σ : Fin 5) (t : ℕ) : ℕ :=
  open Classical in if h : ∃ i, hit m c σ i ∧ cnt m c σ i = t then h.choose else 0

theorem nth_cnt (c : Dev nD) (σ : Fin 5) {i : ℕ} (h : hit m c σ i) : nth m c σ (cnt m c σ i) = i := by
  have he : ∃ j, hit m c σ j ∧ cnt m c σ j = cnt m c σ i := ⟨i, h, rfl⟩
  unfold nth
  rw [dif_pos he]
  obtain ⟨h1, h2⟩ := he.choose_spec
  rcases lt_trichotomy he.choose i with h3 | h3 | h3
  · exact absurd h2 (cnt_lt m c σ h1 h3).ne
  · exact h3
  · exact absurd h2 (cnt_lt m c σ h h3).ne'

/-- Device `c`'s elements `S` of its result buffer, at contents `f`. -/
abbrev oPts (c : Dev nD) (S : Finset S2048x1024.Idx) (f : S2048x1024.Idx → Elt F .f32) : sProp 𝕄 :=
  (oM : Memref sig .tc .vmem S2048x1024 .f32).view.loc (c : Thread nD τ) ↦[S]{fullShare} (f : Buf (Elt F) ((oM : Memref sig .tc .vmem S2048x1024 .f32).view.loc (c : Thread nD τ)))

/-- What the batch's copy `t` delivers. -/
def delAt (c : Dev nD) (σ : Fin 5) (t : ℕ) : sProp 𝕄 := oPts c (rowSet (rowOf c σ (nth m c σ t))) (gath m c)
def del (c : Dev nD) (σ : Fin 5) (t : Fin (cnt m c σ (nrow σ))) : sProp 𝕄 := delAt m c σ t.val
instance del_storable (c : Dev nD) (σ : Fin 5) (t : Fin (cnt m c σ (nrow σ))) : BI.Storable (upEmb : UEmb _ 𝕄) (del m c σ t) := by
  unfold del delAt; infer_instance

/-- Window `σ` after `i` of its rows, `u` units waited for. -/
def Iss (c : Dev nD) (σ : Fin 5) (i : ℕ) : sProp 𝕄 :=
  iprop(Batch EC (c : Thread nD τ) (.dma (gS σ)) () Nr (del m c σ) (cnt m c σ i) 0 ∗ oPts c (rest m c σ i) (k0_pay1 (F := F)))

/-- Window `σ` before its issue. -/
def Idle (c : Dev nD) (σ : Fin 5) : sProp 𝕄 :=
  iprop(semVal (gCell c σ) 0 ∗ oPts c (rest m c σ 0) (k0_pay1 (F := F)))

/-- The table at some share, and the indices. -/
def TI (c : Dev nD) : sProp 𝕄 :=
  iprop((∃ q : PosShare TreeShare, xM.view.loc (c : Thread nD τ) ↦[Finset.univ]{q} (tab m c : Buf (Elt F) (xM.view.loc (c : Thread nD τ))))
    ∗ (iM.view.loc (c : Thread nD τ) ↦[Finset.univ]{fullShare} (ixs m c : Buf (Elt F) (iM.view.loc (c : Thread nD τ)))))

theorem idle_issue (c : Dev nD) (σ : Fin 5) : (Idle m c σ : sProp 𝕄) ⊢ |={Set.univ}=> Iss m c σ 0 := by
  unfold Idle Iss
  rw [cnt_zero]
  iintro ⟨Hs, Hp⟩
  imod (batch_alloc' (EC : UEmb Counters 𝕄) (c := (c : Thread nD τ)) (sm := .dma (gS σ)) () Nr (del m c σ) (E := Set.univ)) $$ Hs with HB
  imodintro
  isplitl [HB]; · iexact HB
  iexact Hp

/-! ## What the waits give back -/

theorem oPts_union (c : Dev nD) {A B : Finset S2048x1024.Idx} (h : Disjoint A B) (f : S2048x1024.Idx → Elt F .f32) :
    (iprop(oPts c A f ∗ oPts c B f) : sProp 𝕄) ⊢ oPts c (A ∪ B) f := (pointsTo_union h).2

theorem bigSep_fin_range (n : ℕ) (f : ℕ → sProp 𝕄) : (bigSep (Finset.univ : Finset (Fin n)) (fun t => f t.val) : sProp 𝕄) = bigSep (Finset.range n) f := by
  have h : (Finset.range n) = (Finset.univ : Finset (Fin n)).map Fin.valEmbedding := by
    rw [Fin.map_valEmbedding_univ]; ext; simp
  rw [h]
  exact (BI.bigSep_map (Φ := f) Fin.valEmbedding).symm

theorem gath_collect (c : Dev nD) (σ : Fin 5) : ∀ i ≤ nrow σ,
    (iprop(bigSep (Finset.range (cnt m c σ i)) (delAt m c σ) ∗ oPts c (rest m c σ i) (gath m c)) : sProp 𝕄) ⊢ oPts c (rest m c σ 0) (gath m c) := by
  intro i
  induction i with
  | zero => intro _; iintro ⟨-, H⟩; iexact H
  | succ i ih =>
    intro hi
    refine BIBase.Entails.trans ?_ (ih (by omega))
    rw [cnt_succ]
    by_cases h : hit m c σ i
    · rw [if_pos h, (rest_owned m c σ i (by omega) h).1, Idealize.SL.BI.bigSep_range_succ]
      have hd : delAt m c σ (cnt m c σ i) = oPts c (rowSet (rowOf c σ i)) (gath m c) := by
        unfold delAt; rw [nth_cnt m c σ h]
      rw [hd]
      refine BIBase.Entails.trans ?_ (sep_mono_right (oPts_union c (rest_owned m c σ i (by omega) h).2 _))
      iintro ⟨⟨H1, H2⟩, H3⟩
      isplitl [H2]; · iexact H2
      isplitl [H1]; · iexact H1
      iexact H3
    · rw [if_neg h, add_zero, rest_not m c σ i (by omega) h]

theorem rest_zero_gath (c : Dev nD) (σ : Fin 5) :
    (oPts c (rest m c σ (nrow σ)) (k0_pay1 (F := F)) : sProp 𝕄) = oPts c (rest m c σ (nrow σ)) (gath m c) := by
  refine pointsTo_congr fun j hj => ?_
  simp only [rest, Finset.mem_filter, Finset.mem_univ, true_and] at hj
  obtain ⟨i', h1, h2, h3⟩ := hj
  have h4 : ¬ Owned m c (j 0).val := by rw [h2]; exact fun h => h3 ⟨h1, h⟩
  exact (if_neg h4).symm

/-- The batch drained: the window at the gathered values, its counter at zero. -/
theorem iss_collect (c : Dev nD) (σ : Fin 5) :
    (iprop(Batch EC (c : Thread nD τ) (.dma (gS σ)) () Nr (del m c σ) (cnt m c σ (nrow σ)) (Nr * cnt m c σ (nrow σ))
      ∗ oPts c (rest m c σ (nrow σ)) (k0_pay1 (F := F))) : sProp 𝕄)
      ⊢ |={Set.univ}=> iprop(oPts c (rest m c σ 0) (gath m c) ∗ semVal (gCell c σ) 0) := by
  iintro ⟨HB, Hp⟩
  imod (batch_collect' (EC : UEmb Counters 𝕄) (c := (c : Thread nD τ)) (sm := .dma (gS σ)) (ι := ()) (N := Nr) Nr_pos (D := del m c σ)) $$ HB with ⟨HD, Hs⟩
  imodintro
  isplitr [Hs]
  · iapply (gath_collect m c σ (nrow σ) le_rfl)
    isplitl [HD]
    · iapply (Entails.of_eq (bigSep_fin_range (cnt m c σ (nrow σ)) (delAt m c σ)))
      iexact HD
    · iapply (Entails.of_eq (rest_zero_gath m c σ)); iexact Hp
  · iexact Hs

/-! ## One row -/

theorem word_dev : ∀ c : Dev nD, Scalar.remsi (Scalar.divsi (Dev.word c) 1#32) 8#32 = BitVec.ofNat 32 c.val := by decide

theorem sub_lt (v : BitVec 32) (k : ℕ) (hk : k < 8) (h : v.sshiftRight 13 = BitVec.ofNat 32 k) : (v - BitVec.ofNat 32 k * 8192#32).toNat < 8192 := by
  have h1 := congrArg BitVec.toInt h
  rw [BitVec.toInt_sshiftRight, Int.shiftRight_eq_div_pow] at h1
  have h2 : (BitVec.ofNat 32 k).toInt = k := by
    rw [BitVec.toInt_eq_toNat_of_lt (by rw [BitVec.toNat_ofNat]; omega), BitVec.toNat_ofNat]; omega
  rw [h2] at h1
  have h3 : (v.toNat : ℤ) = v.toInt := by
    rw [BitVec.toInt_eq_toNat_cond] at h1 ⊢
    split at h1
    · rw [if_pos (by assumption)]
    · exfalso
      have := v.isLt
      omega
  have h4 : (BitVec.ofNat 32 k * 8192#32).toNat = 8192 * k := by
    rw [BitVec.toNat_mul, BitVec.toNat_ofNat, BitVec.toNat_ofNat]
    omega
  rw [BitVec.toNat_sub, h4]
  have := v.isLt
  omega

theorem chk_ok (c : Dev nD) (v : BitVec 32) : k0_chk1 c v := by
  intro h a
  have hc : c.val < 8 := c.isLt
  have h1 : v.sshiftRight 13 = BitVec.ofNat 32 c.val := by
    by_contra hne
    have h2 : k0_cond1 c v = 0#1 := by
      have h3 : Scalar.cmpi .eq (Scalar.shrsi v 13#32) (Scalar.remsi (Scalar.divsi (Dev.word c) 1#32) 8#32) = 0#1 := by
        rw [word_dev]
        show BitVec.ofBool (v.sshiftRight' 13#32 == BitVec.ofNat 32 c.val) = 0#1
        rw [show v.sshiftRight' 13#32 = v.sshiftRight 13 from rfl, beq_eq_false_iff_ne.mpr hne]
        rfl
      show Scalar.cmpi .ne (Scalar.extui (Scalar.cmpi .eq (Scalar.shrsi v 13#32) (Scalar.remsi (Scalar.divsi (Dev.word c) 1#32) 8#32))) 0#32 = 0#1
      rw [h3]; decide
    rw [h2] at h; exact absurd h (by decide)
  have h2 := sub_lt v c.val hc h1
  have h3 : k0_off3 c v = ![(v - BitVec.ofNat 32 c.val * 8192#32).toNat, 0] := by
    rw [← word_dev]; rfl
  rw [h3]
  fin_cases a
  · show (v - BitVec.ofNat 32 c.val * 8192#32).toNat + 1 ≤ 8192
    omega
  · show 0 + 1024 ≤ 1024
    omega

/-- One row: read the index; if the row is in the block, start its copy; go on at the comparison's bit. -/
def rowP {α : Type} (c : Dev nD) (v2 : BitVec 32) (q : DmaSem sig)
    (oI : Fin 1 → ℕ) (hI : ∀ a, oI a + S1.size a ≤ S2048.size a) (oO : Fin 2 → ℕ) (hO : ∀ a, oO a + S1x1024.size a ≤ S2048x1024.size a)
    (κ : BitVec 1 → Prog (TpuEff nD τ sig (Elt F) Λ₀ .tc) α) : Prog (TpuEff nD τ sig (Elt F) Λ₀ .tc) α := do
  let v : Elt F .i32 ← smemLoad iM (Rect.unit (s := S2048) oI S1.size hI) numel1_S1 rfl
  have hw : k0_chk1 c v := (← Prog.lift (TpuEff.assume (k0_chk1 c v) (k0_chk1.dec c v))).down
  if h : k0_cond1 c v = 1#1 then do
    Prog.lift (.enqueueDma (xM.slice (Rect.unit (s := S8192x1024) (k0_off3 c v) S1x1024.size (k0_off3_inb c v hw h)) (fun _ => rfl))
      (.here (oM.slice (Rect.unit (s := S2048x1024) oO S1x1024.size hO) (fun _ => rfl))) (.dma q)
      (View.wordExact_bits rfl) (View.wordExact_bits rfl) ⟨Or.inl rfl, trivial⟩)
    pure ⟨⟩
  else do
    pure ⟨⟩
  κ (Scalar.cmpi .eq (Scalar.shrsi v 13#32) v2)

abbrev rowDst (oO : Fin 2 → ℕ) (hO : ∀ a, oO a + S1x1024.size a ≤ S2048x1024.size a) : Memref sig .tc .vmem S1x1024 .f32 :=
  oM.slice (Rect.unit (s := S2048x1024) oO S1x1024.size hO) (fun _ => rfl)
abbrev rowSrc (oT : Fin 2 → ℕ) (hT : ∀ a, oT a + S1x1024.size a ≤ S8192x1024.size a) : Memref sig .tc .hbm S1x1024 .f32 :=
  xM.slice (Rect.unit (s := S8192x1024) oT S1x1024.size hT) (fun _ => rfl)

theorem rowDst_set (oO : Fin 2 → ℕ) (hO : ∀ a, oO a + S1x1024.size a ≤ S2048x1024.size a) (r : ℕ) (h : oO = ![r, 0]) :
    (rowDst oO hO).view.set = rowSet r := by
  subst h
  ext j
  rw [View.set_slice_whole, Rect.mem_set_unit]
  simp only [rowSet, Finset.mem_filter, Finset.mem_univ, true_and]
  constructor
  · intro hh
    have h0 : r ≤ (j 0).val ∧ (j 0).val < r + 1 := hh 0
    omega
  · intro h0 a
    have h1 : (j 1).val < 1024 := (j 1).isLt
    fin_cases a
    · show r ≤ (j 0).val ∧ (j 0).val < r + 1
      omega
    · show 0 ≤ (j 1).val ∧ (j 1).val < 0 + 1024
      omega

/-- A copied row is the gathered one. -/
theorem row_copied (c : Dev nD) (r : ℕ) (oO : Fin 2 → ℕ) (hO : ∀ a, oO a + S1x1024.size a ≤ S2048x1024.size a) (h : oO = ![r, 0])
    (hT : ∀ a, k0_off3 c (word m c r) a + S1x1024.size a ≤ S8192x1024.size a) (ho : Owned m c r)
    (f : S2048x1024.Idx → Elt F .f32) (j : S2048x1024.Idx) (hj : j ∈ rowSet r) :
    (rowDst oO hO).view.write (Elt F) f ((rowSrc (k0_off3 c (word m c r)) hT).view.read (Elt F) (tab m c)) Finset.univ j = gath m c j := by
  rw [← rowDst_set oO hO r h] at hj
  obtain ⟨y, -, rfl⟩ := Finset.mem_map.mp hj
  subst h
  have h0 : ((rowDst ![r, 0] hO).view.emb y 0).val = r := by
    have : (y 0).val < 1 := (y 0).isLt
    show r + 1 * (y 0).val = r
    omega
  have h1 : ((rowDst ![r, 0] hO).view.emb y 1).val = (y 1).val := by
    show 0 + 1 * (y 1).val = (y 1).val
    omega
  rw [View.write_emb_of_mem _ _ (Finset.mem_univ y)]
  unfold gath
  rw [h0, if_pos ho, h1]
  show tab m c ((rowSrc (k0_off3 c (word m c r)) hT).view.emb y) = _
  congr 1
  funext a
  apply Fin.ext
  have hy0 : (y 0).val < 1 := (y 0).isLt
  have hy1 : (y 1).val < 1024 := (y 1).isLt
  fin_cases a
  · show k0_off3 c (word m c r) 0 + 1 * (y 0).val = k0_off3 c (word m c r) 0 % 8192
    have : k0_off3 c (word m c r) 0 + 1 ≤ 8192 := hT 0
    rw [Nat.mod_eq_of_lt (by omega)]; omega
  · show 0 + 1 * (y 1).val = (y 1).val % 1024
    rw [Nat.mod_eq_of_lt hy1]; omega

theorem read_word (c : Dev nD) (r : ℕ) (hr : r < 2048) (oI : Fin 1 → ℕ) (hI : ∀ a, oI a + S1.size a ≤ S2048.size a) (h : oI = ![r]) (x : S1.Idx) :
    (iM.view.readAt (Elt F) (Rect.unit (s := S2048) oI S1.size hI) (ixs m c)) x = word m c r := by
  subst h
  show ixs m c _ = ixs m c (ix1 r)
  congr 1
  funext a
  apply Fin.ext
  have : (x 0).val < 1 := (x 0).isLt
  fin_cases a
  show r + 1 * (x 0).val = r % 2048
  rw [Nat.mod_eq_of_lt hr]; omega

/-- The row's bit is whether the block holds it. -/
theorem bit_val (c : Dev nD) (v v2 : BitVec 32) (hv2 : v2 = Scalar.remsi (Scalar.divsi (Dev.word c) 1#32) 8#32) :
    Scalar.cmpi .eq (Scalar.shrsi v 13#32) v2 = if k0_cond1 c v = 1#1 then 1#1 else 0#1 := by
  subst hv2
  have key : ∀ b : BitVec 1, b = if Scalar.cmpi .ne (Scalar.extui b) 0#32 = 1#1 then 1#1 else 0#1 := by decide
  exact key _

theorem wp_row {α : Type} {Q : α → sProp 𝕄} (c : Dev nD) (σ : Fin 5) (i : ℕ) (hi : i < nrow σ) (v2 : BitVec 32)
    (hv2 : v2 = Scalar.remsi (Scalar.divsi (Dev.word c) 1#32) 8#32) (q : DmaSem sig) (hq : q = gS σ)
    (oI : Fin 1 → ℕ) (hI : ∀ a, oI a + S1.size a ≤ S2048.size a) (oO : Fin 2 → ℕ) (hO : ∀ a, oO a + S1x1024.size a ≤ S2048x1024.size a)
    (hoI : oI = ![rowOf c σ i]) (hoO : oO = ![rowOf c σ i, 0]) (κ : BitVec 1 → Prog (TpuEff nD τ sig (Elt F) Λ₀ .tc) α) :
    (iprop(TI m c ∗ Iss m c σ i) : sProp 𝕄)
      ⊢ iprop((TI m c ∗ Iss m c σ (i + 1) -∗ wp frame (wpE (defs₀ (F := F)) 𝒱₀ (c : Thread nD τ) none) Set.univ (κ (if hit m c σ i then 1#1 else 0#1)) Q)
        -∗ wp frame (wpE (defs₀ (F := F)) 𝒱₀ (c : Thread nD τ) none) Set.univ (rowP c v2 q oI hI oO hO κ) Q) := by
  subst hq
  have hr : rowOf c σ i < 2048 := rowOf_lt c σ i (hi.trans_le (nrow_le σ))
  unfold rowP smemLoad smemLoadElt TI
  simp only [Prog.lift, Prog.bind_op, Prog.bind_ret, Prog.pure_eq_ret]
  iintro ⟨⟨⟨%p, Hx⟩, Hi⟩, HI⟩ Hk
  iapply (wp_load 𝒱₀ (c : Thread nD τ) none Set.univ (m := iM) (q := fullShare) (S := Finset.univ) (Finset.subset_univ _)) $$ Hi; iintro Hi
  rw [read_word m c _ hr oI hI hoI]
  rw [wp_assume_of 𝒱₀ (c : Thread nD τ) none Set.univ (chk_ok c _)]
  rw [bit_val c _ v2 hv2]
  by_cases h : k0_cond1 c (word m c (rowOf c σ i)) = 1#1
  · rw [dif_pos h]
    simp only [Prog.bind_op, Prog.bind_ret]
    have hh : hit m c σ i := h
    rw [if_pos h, if_pos hh]
    obtain ⟨hu, hd⟩ := rest_owned m c σ i hi hh
    have hlt := cnt_lt m c σ hh hi
    have hdel : del m c σ ⟨cnt m c σ i, hlt⟩ = oPts c (rowSet (rowOf c σ i)) (gath m c) := by
      show delAt m c σ (cnt m c σ i) = _
      unfold delAt; rw [nth_cnt m c σ hh]
    have hT := k0_off3_inb c (word m c (rowOf c σ i)) (chk_ok c _) h
    have hset : (rowSrc (k0_off3 c (word m c (rowOf c σ i))) hT).view.set ⊆ Finset.univ := Finset.subset_univ _
    unfold Iss
    rw [hu, cnt_succ, if_pos hh]
    icases HI with ⟨HB, Ho⟩
    ihave Ho := (show (oPts c (rowSet (rowOf c σ i) ∪ rest m c σ (i + 1)) (k0_pay1 (F := F)) : sProp 𝕄)
      ⊢ iprop(oPts c (rowSet (rowOf c σ i)) (k0_pay1 (F := F)) ∗ oPts c (rest m c σ (i + 1)) (k0_pay1 (F := F))) from (pointsTo_union hd).1) $$ Ho
    icases Ho with ⟨Hrow, Hrest⟩
    ihave Hx := (show (xM.view.loc (c : Thread nD τ) ↦[Finset.univ]{p} (tab m c : Buf (Elt F) (xM.view.loc (c : Thread nD τ))) : sProp 𝕄)
      ⊢ iprop((xM.view.loc (c : Thread nD τ) ↦[Finset.univ]{p.left} (tab m c : Buf (Elt F) (xM.view.loc (c : Thread nD τ))))
        ∗ (xM.view.loc (c : Thread nD τ) ↦[Finset.univ]{p.right} (tab m c : Buf (Elt F) (xM.view.loc (c : Thread nD τ))))) from (pointsTo_share (PosShare.mem_left_op_right p)).1) $$ Hx
    icases Hx with ⟨Hl, Hx⟩
    ihave Hl := (show (xM.view.loc (c : Thread nD τ) ↦[Finset.univ]{p.left} (tab m c : Buf (Elt F) (xM.view.loc (c : Thread nD τ))) : sProp 𝕄)
      ⊢ (xM.view.loc (c : Thread nD τ) ↦[(rowSrc (k0_off3 c (word m c (rowOf c σ i))) hT).view.set]{p.left} (tab m c : Buf (Elt F) (xM.view.loc (c : Thread nD τ)))) from
        BIBase.Entails.trans (pointsTo_split_subset hset).1 sep_elim_left) $$ Hl
    iapply (wp_dmaBatch (EC : UEmb Counters 𝕄) 𝒱₀ (c : Thread nD τ) none (src := rowSrc (k0_off3 c (word m c (rowOf c σ i))) hT) (dst := rowDst oO hO)
      (fs := tab m c) (fd := k0_pay1 (F := F)) (q := p.left) (Sd := rowSet (rowOf c σ i)) (D := del m c σ) (j := cnt m c σ i) (u := 0) () Nr rfl (by rw [rowDst_set oO hO _ hoO]) hlt (Nat.zero_le _)
      (by
        rw [hdel]
        refine BIBase.Entails.trans sep_elim_left (Entails.of_eq (pointsTo_congr fun j hj => ?_))
        exact row_copied m c _ oO hO hoO hT hh (k0_pay1 (F := F)) j hj)) $$ [Hl Hrow HB]
    · isplitl [Hl]; · iexact Hl
      isplitl [Hrow]; · iexact Hrow
      iexact HB
    iintro HB
    iapply Hk
    isplitl [Hx Hi]
    · isplitl [Hx]; · iexists p.right; iexact Hx
      iexact Hi
    isplitl [HB]; · iexact HB
    iexact Hrest
  · rw [dif_neg h]
    simp only [Prog.bind_op, Prog.bind_ret]
    have hh : ¬ hit m c σ i := h
    rw [if_neg h, if_neg hh]
    have he : Iss m c σ (i + 1) = Iss m c σ i := by
      unfold Iss; rw [cnt_succ, if_neg hh, add_zero, rest_not m c σ i hi hh]
    rw [he]
    iapply Hk
    isplitl [Hx Hi]
    · isplitl [Hx]; · iexists p; iexact Hx
      iexact Hi
    iexact HI

/-! ## Four rows; a whole chunk -/

def quadP (c : Dev nD) (v2 : BitVec 32) (q : DmaSem sig)
    (i0 i1 i2 i3 : Fin 1 → ℕ) (h0 : ∀ a, i0 a + S1.size a ≤ S2048.size a) (h1 : ∀ a, i1 a + S1.size a ≤ S2048.size a)
    (h2 : ∀ a, i2 a + S1.size a ≤ S2048.size a) (h3 : ∀ a, i3 a + S1.size a ≤ S2048.size a)
    (o0 o1 o2 o3 : Fin 2 → ℕ) (k0 : ∀ a, o0 a + S1x1024.size a ≤ S2048x1024.size a) (k1 : ∀ a, o1 a + S1x1024.size a ≤ S2048x1024.size a)
    (k2 : ∀ a, o2 a + S1x1024.size a ≤ S2048x1024.size a) (k3 : ∀ a, o3 a + S1x1024.size a ≤ S2048x1024.size a) (acc : BitVec 32) :
    Prog (TpuEff nD τ sig (Elt F) Λ₀ .tc) (BitVec 32) :=
  rowP c v2 q i0 h0 o0 k0 fun b0 => rowP c v2 q i1 h1 o1 k1 fun b1 => rowP c v2 q i2 h2 o2 k2 fun b2 => rowP c v2 q i3 h3 o3 k3 fun b3 =>
  pure (Scalar.addi (Scalar.addi (Scalar.addi (Scalar.addi acc (Scalar.extui b0)) (Scalar.extui b1)) (Scalar.extui b2)) (Scalar.extui b3))

/-- Offsets of window `σ`'s rows `i … i + 3`. -/
abbrev RowsAt (c : Dev nD) (σ : Fin 5) (i : ℕ) (i0 i1 i2 i3 : Fin 1 → ℕ) (o0 o1 o2 o3 : Fin 2 → ℕ) : Prop :=
  ((i0 = ![rowOf c σ i] ∧ o0 = ![rowOf c σ i, 0]) ∧ (i1 = ![rowOf c σ (i + 1)] ∧ o1 = ![rowOf c σ (i + 1), 0]))
    ∧ ((i2 = ![rowOf c σ (i + 2)] ∧ o2 = ![rowOf c σ (i + 2), 0]) ∧ (i3 = ![rowOf c σ (i + 3)] ∧ o3 = ![rowOf c σ (i + 3), 0]))

/-- A trip that handles window `σ`'s rows `i … i + 3`. -/
def Quad (c : Dev nD) (v2 : BitVec 32) (σ : Fin 5) (i : ℕ) (acc : BitVec 32) (p : Prog (TpuEff nD τ sig (Elt F) Λ₀ .tc) (BitVec 32)) : Prop :=
  ∃ (i0 i1 i2 i3 : Fin 1 → ℕ) (o0 o1 o2 o3 : Fin 2 → ℕ), RowsAt c σ i i0 i1 i2 i3 o0 o1 o2 o3 ∧
    ∃ h0 h1 h2 h3 k0 k1 k2 k3, p = quadP c v2 (gS σ) i0 i1 i2 i3 h0 h1 h2 h3 o0 o1 o2 o3 k0 k1 k2 k3 acc

theorem bit_add (p : Prop) [Decidable p] (k : ℕ) :
    Scalar.addi (BitVec.ofNat 32 k) (Scalar.extui (if p then 1#1 else 0#1)) = BitVec.ofNat 32 (k + if p then 1 else 0) := by
  have h : Scalar.extui (if p then 1#1 else 0#1) = BitVec.ofNat 32 (if p then 1 else 0) := by split <;> rfl
  rw [h]
  exact (BitVec.ofNat_add _ _).symm

theorem wp_quad (c : Dev nD) (v2 : BitVec 32) (hv2 : v2 = Scalar.remsi (Scalar.divsi (Dev.word c) 1#32) 8#32) (σ : Fin 5) (b i : ℕ) (hb : b ≤ i) (hi : i + 4 ≤ nrow σ)
    (acc : BitVec 32) (p : Prog (TpuEff nD τ sig (Elt F) Λ₀ .tc) (BitVec 32)) (hp : Quad c v2 σ i acc p) :
    (iprop(⌜acc = BitVec.ofNat 32 (cnt m c σ i - cnt m c σ b)⌝ ∗ TI m c ∗ Iss m c σ i) : sProp 𝕄)
      ⊢ wp frame (wpE (defs₀ (F := F)) 𝒱₀ (c : Thread nD τ) none) Set.univ p
        (fun r => iprop(⌜r = BitVec.ofNat 32 (cnt m c σ (i + 4) - cnt m c σ b)⌝ ∗ TI m c ∗ Iss m c σ (i + 4))) := by
  obtain ⟨i0, i1, i2, i3, o0, o1, o2, o3, ⟨⟨⟨ha0, hb0⟩, ha1, hb1⟩, ⟨ha2, hb2⟩, ha3, hb3⟩, h0, h1, h2, h3, k0, k1, k2, k3, rfl⟩ := hp
  unfold quadP
  iintro ⟨%hacc, HT⟩
  iapply (wp_row m c σ i (by omega) v2 hv2 _ rfl _ _ _ _ ha0 hb0) $$ HT; iintro HT
  iapply (wp_row m c σ (i + 1) (by omega) v2 hv2 _ rfl _ _ _ _ ha1 hb1) $$ HT; iintro HT
  iapply (wp_row m c σ (i + 2) (by omega) v2 hv2 _ rfl _ _ _ _ ha2 hb2) $$ HT; iintro HT
  iapply (wp_row m c σ (i + 3) (by omega) v2 hv2 _ rfl _ _ _ _ ha3 hb3) $$ HT; iintro HT
  simp only [Prog.pure_eq_ret]
  iapply (le_wp_ret _ _ _)
  isplitr
  · ipureintro
    rw [hacc, bit_add, bit_add, bit_add, bit_add]
    have := cnt_mono m c σ hb
    simp only [cnt_succ]
    congr 1
    omega
  · iexact HT

/-- The issue of one chunk: 64 trips of four rows. The result is the number of copies it started. -/
theorem wp_issue (c : Dev nD) (v2 : BitVec 32) (hv2 : v2 = Scalar.remsi (Scalar.divsi (Dev.word c) 1#32) 8#32) (σ : Fin 5) (b : ℕ) (hb : b + 256 ≤ nrow σ)
    (l : Scf.Loop 32) (ok : l.OK) (ht : l.trips = 64) (f : Fin l.trips → BitVec 32 → Prog (TpuEff nD τ sig (Elt F) Λ₀ .tc) (BitVec 32))
    (hf : ∀ t acc, Quad c v2 σ (b + 4 * t.val) acc (f t acc)) :
    (iprop(TI m c ∗ Iss m c σ b) : sProp 𝕄)
      ⊢ wp frame (wpE (defs₀ (F := F)) 𝒱₀ (c : Thread nD τ) none) Set.univ (Scf.Loop.for l ok 0#32 f)
        (fun r => iprop(⌜r = BitVec.ofNat 32 (cnt m c σ (b + 256) - cnt m c σ b)⌝ ∗ TI m c ∗ Iss m c σ (b + 256))) := by
  iintro HT
  iapply (Scf.wp_for frame (wpE (defs₀ (F := F)) 𝒱₀ (c : Thread nD τ) none) Set.univ l.lb l.ub l.st ok 0#32 f
    (fun k acc => iprop(⌜acc = BitVec.ofNat 32 (cnt m c σ (b + 4 * k) - cnt m c σ b)⌝ ∗ TI m c ∗ Iss m c σ (b + 4 * k)))
    (fun k acc => by
      have hk : k.val < 64 := ht ▸ k.isLt
      exact wp_quad m c v2 hv2 σ b (b + 4 * k.val) (by omega) (by omega) acc _ (hf k acc)))
  isplitl [HT]
  · isplitr
    · ipureintro; rw [Nat.mul_zero, Nat.add_zero, Nat.sub_self]
    · iexact HT
  · rw [show Scf.trips l.lb l.ub l.st = 64 from ht]
    iintro %acc H
    iexact H

/-- A function of the kernel's arguments, at them. -/
abbrev ap.{u} {β : Sort u} (f : (arg0 : Memref sig .tc .hbm S8192x1024 .f32) → arg0.IsWhole → (arg1 : Memref sig .tc .smem S2048 .i32) → arg1.IsWhole →
    (arg2 : Memref sig .tc .vmem S2048x1024 .f32) → arg2.IsWhole → (arg3 : Memref sig .tc .vmem S7x256x512 .f32) → arg3.IsWhole →
    (arg4 : Memref sig .tc .vmem S7x256x512 .f32) → arg4.IsWhole → DmaSems sig S5 → DmaSems sig S2x7x4 → DmaSems sig S2x7x4 →
    DmaSems sig S2x7x4 → DmaSems sig S2x7x4 → β) : β :=
  f xM (Memref.isWhole_whole _) iM (Memref.isWhole_whole _) oM (Memref.isWhole_whole _) (Memref.whole cc0_scratch0) (Memref.isWhole_whole _)
    (Memref.whole cc0_scratch1) (Memref.isWhole_whole _) cc0_scratch2 cc0_scratch3 cc0_scratch4 cc0_scratch5 cc0_scratch6

/-! ## The kernel's eight issue loops -/

section Trips
variable (c : Dev nD) (v2 va vb vd ve vf : BitVec 32)

theorem trip1 (t : Fin k0_t1_loop.trips) (acc : BitVec 32) : Quad c v2 0 (0 + 4 * t.val) acc (ap (k0_t1_body (F := F)) c v2 va vb t acc) :=
  ⟨k0_off1 c t, k0_off4 c t, k0_off7 c t, k0_off10 c t, k0_off2 c t, k0_off5 c t, k0_off8 c t, k0_off11 c t,
    by revert c t; decide +kernel, k0_off1_inb c t, k0_off4_inb c t, k0_off7_inb c t, k0_off10_inb c t, k0_off2_inb c t, k0_off5_inb c t, k0_off8_inb c t, k0_off11_inb c t,
    by unfold ap k0_t1_body; rw [k0_part1_eq_skeleton]; rfl⟩
theorem trip4 (t : Fin k0_t4_loop.trips) (acc : BitVec 32) : Quad c v2 1 (0 + 4 * t.val) acc (ap (k0_t4_body (F := F)) c v2 va vb vd t acc) :=
  ⟨k0_off15 c t, k0_off18 c t, k0_off21 c t, k0_off24 c t, k0_off16 c t, k0_off19 c t, k0_off22 c t, k0_off25 c t,
    by revert c t; decide +kernel, k0_off15_inb c t, k0_off18_inb c t, k0_off21_inb c t, k0_off24_inb c t, k0_off16_inb c t, k0_off19_inb c t, k0_off22_inb c t, k0_off25_inb c t,
    by unfold ap k0_t4_body; rw [k0_part2_eq_skeleton]; rfl⟩
theorem trip5 (t : Fin k0_t5_loop.trips) (acc : BitVec 32) : Quad c v2 1 (256 + 4 * t.val) acc (ap (k0_t5_body (F := F)) c v2 va vb vd t acc) :=
  ⟨k0_off27 c t, k0_off30 c t, k0_off33 c t, k0_off36 c t, k0_off28 c t, k0_off31 c t, k0_off34 c t, k0_off37 c t,
    by revert c t; decide +kernel, k0_off27_inb c t, k0_off30_inb c t, k0_off33_inb c t, k0_off36_inb c t, k0_off28_inb c t, k0_off31_inb c t, k0_off34_inb c t, k0_off37_inb c t,
    by unfold ap k0_t5_body; rw [k0_part3_eq_skeleton]; rfl⟩
theorem trip8 (t : Fin k0_t8_loop.trips) (acc : BitVec 32) : Quad c v2 2 (0 + 4 * t.val) acc (ap (k0_t8_body (F := F)) c v2 va vb vd ve t acc) :=
  ⟨k0_off43 c t, k0_off46 c t, k0_off49 c t, k0_off52 c t, k0_off44 c t, k0_off47 c t, k0_off50 c t, k0_off53 c t,
    by revert c t; decide +kernel, k0_off43_inb c t, k0_off46_inb c t, k0_off49_inb c t, k0_off52_inb c t, k0_off44_inb c t, k0_off47_inb c t, k0_off50_inb c t, k0_off53_inb c t,
    by unfold ap k0_t8_body; rw [k0_part4_eq_skeleton]; rfl⟩
theorem trip9 (t : Fin k0_t9_loop.trips) (acc : BitVec 32) : Quad c v2 2 (256 + 4 * t.val) acc (ap (k0_t9_body (F := F)) c v2 va vb vd ve t acc) :=
  ⟨k0_off55 c t, k0_off58 c t, k0_off61 c t, k0_off64 c t, k0_off56 c t, k0_off59 c t, k0_off62 c t, k0_off65 c t,
    by revert c t; decide +kernel, k0_off55_inb c t, k0_off58_inb c t, k0_off61_inb c t, k0_off64_inb c t, k0_off56_inb c t, k0_off59_inb c t, k0_off62_inb c t, k0_off65_inb c t,
    by unfold ap k0_t9_body; rw [k0_part5_eq_skeleton]; rfl⟩
theorem trip12 (t : Fin k0_t12_loop.trips) (acc : BitVec 32) : Quad c v2 3 (0 + 4 * t.val) acc (ap (k0_t12_body (F := F)) c v2 va vb vd ve vf t acc) :=
  ⟨k0_off71 c t, k0_off74 c t, k0_off77 c t, k0_off80 c t, k0_off72 c t, k0_off75 c t, k0_off78 c t, k0_off81 c t,
    by revert c t; decide +kernel, k0_off71_inb c t, k0_off74_inb c t, k0_off77_inb c t, k0_off80_inb c t, k0_off72_inb c t, k0_off75_inb c t, k0_off78_inb c t, k0_off81_inb c t,
    by unfold ap k0_t12_body; rw [k0_part6_eq_skeleton]; rfl⟩
theorem trip13 (t : Fin k0_t13_loop.trips) (acc : BitVec 32) : Quad c v2 3 (256 + 4 * t.val) acc (ap (k0_t13_body (F := F)) c v2 va vb vd ve vf t acc) :=
  ⟨k0_off83 c t, k0_off86 c t, k0_off89 c t, k0_off92 c t, k0_off84 c t, k0_off87 c t, k0_off90 c t, k0_off93 c t,
    by revert c t; decide +kernel, k0_off83_inb c t, k0_off86_inb c t, k0_off89_inb c t, k0_off92_inb c t, k0_off84_inb c t, k0_off87_inb c t, k0_off90_inb c t, k0_off93_inb c t,
    by unfold ap k0_t13_body; rw [k0_part7_eq_skeleton]; rfl⟩
theorem trip16 (t : Fin k0_t16_loop.trips) (acc : BitVec 32) : Quad c v2 4 (0 + 4 * t.val) acc (ap (k0_t16_body (F := F)) c v2 va vb vd ve t acc) :=
  ⟨k0_off99 c t, k0_off102 c t, k0_off105 c t, k0_off108 c t, k0_off100 c t, k0_off103 c t, k0_off106 c t, k0_off109 c t,
    by revert c t; decide +kernel, k0_off99_inb c t, k0_off102_inb c t, k0_off105_inb c t, k0_off108_inb c t, k0_off100_inb c t, k0_off103_inb c t, k0_off106_inb c t, k0_off109_inb c t,
    by unfold ap k0_t16_body; rw [k0_part8_eq_skeleton]; rfl⟩

end Trips

end Cert.Ring

end
-- ==== Proof.Window.lean ====
/-
The waits for a window, and what a drained window is: segments of the result buffer at the gathered values.
-/
module

public import proofs.«01_k».proof.Proof.Gather

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ UU ℕ

variable (m : (ℓ : Loc nD τ sig) → Buf (Elt F) ℓ)

/-! ## The wait loops -/

/-- A wait loop of `v` trips, and the loop of no trips that follows it. -/
abbrev lMain (v : BitVec 32) : Scf.Loop 32 :=
  ⟨0#32, Scalar.addi 0#32 (Scalar.muli (Scalar.divsi (Scalar.subi v 0#32) 1#32) 1#32), 1#32⟩
abbrev lRest (v : BitVec 32) : Scf.Loop 32 :=
  ⟨Scalar.addi 0#32 (Scalar.muli (Scalar.divsi (Scalar.subi v 0#32) 1#32) 1#32), Scalar.addi 0#32 (Scalar.subi v 0#32), 1#32⟩

theorem loop_facts : ∀ k : Fin 513, ((lMain (BitVec.ofNat 32 k.val)).trips = k.val ∧ (lRest (BitVec.ofNat 32 k.val)).trips = 0)
    ∧ ((lMain (BitVec.ofNat 32 k.val)).OK ∧ (lRest (BitVec.ofNat 32 k.val)).OK) := by decide +kernel

/-- One wait: a row's worth on window `σ`'s semaphore. -/
def waitP (q : DmaSem sig) : Prog (TpuEff nD τ sig (Elt F) Λ₀ .tc) Unit := do
  Prog.lift (.waitDma2 q (rowSrc ![0, 0] inb_S8192x1024_S1x1024_0_0) (rowDst ![0, 0] inb_S2048x1024_S1x1024_0_0) (View.wordExact_bits rfl) (View.wordExact_bits rfl))
  pure ⟨⟩

/-- Device `c` owes `O`. -/
def owesAny (c : Dev nD) (O : CellTallies nD τ sig Unit) : sProp 𝕄 := iprop(∃ W, owes (c : Thread nD τ) O W)

theorem wp_drain {α : Type} {Q : α → sProp 𝕄} (c : Dev nD) (σ : Fin 5) (O : CellTallies nD τ sig Unit)
    (hmw : (levAts L lv : sProp 𝕄) ⊢ MayWait (c : Thread nD τ) (.dma (gS σ)) () O)
    (l : Scf.Loop 32) (ok : l.OK) (ht : l.trips = cnt m c σ (nrow σ)) (f : Fin l.trips → Unit → Prog (TpuEff nD τ sig (Elt F) Λ₀ .tc) Unit)
    (hf : ∀ t acc, f t acc = waitP (gS σ)) (kk : Unit → Prog (TpuEff nD τ sig (Elt F) Λ₀ .tc) α) :
    (iprop(levAts L lv ∗ owesAny c O ∗ Iss m c σ (nrow σ)) : sProp 𝕄)
      ⊢ iprop((owesAny c O ∗ oPts c (rest m c σ 0) (gath m c) ∗ semVal (gCell c σ) 0
            -∗ wp frame (wpE (defs₀ (F := F)) 𝒱₀ (c : Thread nD τ) none) Set.univ (kk ⟨⟩) Q)
        -∗ wp frame (wpE (defs₀ (F := F)) 𝒱₀ (c : Thread nD τ) none) Set.univ (Scf.Loop.for l ok ⟨⟩ f >>= kk) Q) := by
  unfold Iss owesAny
  iintro ⟨#Hlev, HO, HB, Hp⟩ Hk
  ihave HI := (show (iprop((∃ W, owes (c : Thread nD τ) O W) ∗ Batch EC (c : Thread nD τ) (.dma (gS σ)) () Nr (del m c σ) (cnt m c σ (nrow σ)) 0 ∗ levAts L lv) : sProp 𝕄)
    ⊢ (fun (k : ℕ) (_ : Unit) => iprop((∃ W, owes (c : Thread nD τ) O W) ∗ Batch EC (c : Thread nD τ) (.dma (gS σ)) () Nr (del m c σ) (cnt m c σ (nrow σ)) (k * Nr) ∗ levAts L lv)) 0 ⟨⟩
    from Entails.of_eq (by dsimp only; rw [Nat.zero_mul])) $$ [HO HB]
  · isplitl [HO]; · iexact HO
    isplitl [HB]; · iexact HB
    iexact Hlev
  iapply (Scf.wp_for_bind frame (wpE (defs₀ (F := F)) 𝒱₀ (c : Thread nD τ) none) Set.univ l.lb l.ub l.st ok ⟨⟩ f
    (fun k _ => iprop((∃ W, owes (c : Thread nD τ) O W) ∗ Batch EC (c : Thread nD τ) (.dma (gS σ)) () Nr (del m c σ) (cnt m c σ (nrow σ)) (k * Nr) ∗ levAts L lv))
    (fun k acc => by
      have hk : k.val < cnt m c σ (nrow σ) := ht ▸ k.isLt
      rw [hf]
      unfold waitP
      simp only [Prog.lift, Prog.bind_op, Prog.bind_ret, Prog.pure_eq_ret]
      iintro ⟨⟨%W, HO⟩, HB, #Hlev⟩
      ihave HMW := hmw $$ Hlev
      iapply (wp_waitBatchMulO (EC : UEmb Counters 𝕄) 𝒱₀ (c : Thread nD τ) none () (N := Nr) 1 (by rw [Nat.one_mul]; rfl)
        (D := del m c σ) (j := cnt m c σ (nrow σ)) (u := k.val * Nr) (by
          rw [Nat.one_mul, Nat.mul_comm Nr, ← Nat.succ_mul]; exact Nat.mul_le_mul_right _ hk)) $$ [HO HB HMW]
      · isplitl [HB]; · iexact HB
        isplitl [HO]; · iexact HO
        iexact HMW
      iintro ⟨HB, HO⟩
      iapply (le_wp_ret _ _ _)
      isplitl [HO]; · iexists _; iexact HO
      isplitl [HB]
      · rw [Nat.one_mul, ← Nat.succ_mul]; iexact HB
      · iexact Hlev)) $$ HI
  iintro %acc ⟨HO, HB, -⟩
  rw [show Scf.trips l.lb l.ub l.st = cnt m c σ (nrow σ) from ht, Nat.mul_comm]
  imod (iss_collect m c σ) $$ [HB Hp] with ⟨Hp, Hs⟩
  · isplitl [HB]; · iexact HB
    iexact Hp
  iapply Hk
  isplitl [HO]; · iexact HO
  isplitl [Hp]; · iexact Hp
  iexact Hs

/-! ## The windows' rows and the segments -/

/-- The window that holds hop `t`'s chunk, `mv d (7 t) c`. -/
def slot (t : ℕ) : ℕ := min t (8 - t)

/-- A segment whose chunk window `σ` covers. -/
abbrev InWin (σ : Fin 5) (e : Msg) : Prop := e.1.val ≤ 7 ∧ slot e.1.val = σ.val

/-- Device `c`'s segment of hop `t`'s chunk. -/
abbrev hSeg (c : Dev nD) (e : Msg) : Memref sig .tc .vmem S128x512 .f32 := oSeg (mv e.2.1 (7 * e.1.val) c) e.2.1 e.2.2
abbrev hVal (c : Dev nD) (e : Msg) : S128x512.Idx → Elt F .f32 := gathV m c (mv e.2.1 (7 * e.1.val) c) e.2.1 e.2.2

theorem win_chunk : ∀ (c : Dev nD) (σ : Fin 5) (k : Fin 8) (d : Fin 2),
    (k = mv 1 σ.val c ∨ k = mv 0 σ.val c) ↔ ∃ t : Fin 14, (t.val ≤ 7 ∧ slot t.val = σ.val) ∧ mv d (7 * t.val) c = k := by decide

theorem chunk_win : ∀ (c : Dev nD) (k : Fin 8), ∃ σ : Fin 5, k = mv 1 σ.val c ∨ k = mv 0 σ.val c := by decide

theorem win_unique : ∀ (c : Dev nD) (σ σ' : Fin 5) (k : Fin 8), (k = mv 1 σ.val c ∨ k = mv 0 σ.val c) → (k = mv 1 σ'.val c ∨ k = mv 0 σ'.val c) → σ = σ' := by decide

theorem hop_unique : ∀ (c : Dev nD) (d : Fin 2) (t t' : Fin 14), t.val ≤ 7 → t'.val ≤ 7 → mv d (7 * t.val) c = mv d (7 * t'.val) c → t = t' := by decide

theorem mem_rest (c : Dev nD) (σ : Fin 5) (j : S2048x1024.Idx) :
    j ∈ rest m c σ 0 ↔ ((j 0).val / 256 = (mv 1 σ.val c).val ∨ (j 0).val / 256 = (mv 0 σ.val c).val) := by
  simp only [rest, Finset.mem_filter, Finset.mem_univ, true_and, Nat.not_lt_zero, false_and, not_false_eq_true, and_true]
  constructor
  · rintro ⟨i, hi, hj⟩
    have := nrow_le σ
    unfold rowOf at hj
    split at hj <;> omega
  · by_cases hσ : σ = 0 ∨ σ = 4
    · have he : (mv 0 σ.val c).val = (mv 1 σ.val c).val := by
        revert c σ; decide
      rw [he, or_self]
      intro h
      refine ⟨(j 0).val % 256, ?_, ?_⟩
      · unfold nrow; rw [if_pos hσ]; omega
      · unfold rowOf; rw [if_pos (by omega)]; omega
    · rintro (h | h)
      · refine ⟨(j 0).val % 256, ?_, ?_⟩
        · unfold nrow; rw [if_neg hσ]; omega
        · unfold rowOf; rw [if_pos (by omega)]; omega
      · refine ⟨256 + (j 0).val % 256, ?_, ?_⟩
        · unfold nrow; rw [if_neg hσ]; omega
        · unfold rowOf; rw [if_neg (by omega)]; omega

/-- The buffer is the five windows' rows. -/
theorem windows_cut (c : Dev nD) (f : S2048x1024.Idx → Elt F .f32) :
    (oPts c Finset.univ f : sProp 𝕄) = bigSep Finset.univ fun σ : Fin 5 => oPts c (rest m c σ 0) f := by
  have h : (Finset.univ : Finset S2048x1024.Idx) = Finset.univ.biUnion fun σ : Fin 5 => rest m c σ 0 := by
    ext j
    simp only [Finset.mem_univ, Finset.mem_biUnion, true_and, true_iff]
    have hj : (j 0).val < 2048 := (j 0).isLt
    obtain ⟨σ, hσ⟩ := chunk_win c ⟨(j 0).val / 256, by omega⟩
    refine ⟨σ, (mem_rest m c σ j).mpr ?_⟩
    rcases hσ with h | h
    · exact .inl (congrArg Fin.val h)
    · exact .inr (congrArg Fin.val h)
  rw [h]
  refine pointsTo_biUnion _ _ fun σ _ σ' _ hn => ?_
  rw [Finset.disjoint_left]
  intro j h1 h2
  rw [mem_rest] at h1 h2
  have hj : (j 0).val < 2048 := (j 0).isLt
  refine hn (win_unique c σ σ' ⟨(j 0).val / 256, by omega⟩ ?_ ?_)
  · exact h1.imp (fun h => Fin.ext h) (fun h => Fin.ext h)
  · exact h2.imp (fun h => Fin.ext h) (fun h => Fin.ext h)

/-- An element's segment, by its indices. -/
theorem oRect_ids {k : Fin 8} {d h : Fin 2} {j : S2048x1024.Idx} :
    j ∈ (oRect k d h).set ↔ k.val = (j 0).val / 256 ∧ d.val = (j 1).val / 512 ∧ h.val = (j 0).val % 256 / 128 := by
  rw [mem_oRect]
  have := k.isLt; have := d.isLt; have := h.isLt
  have hj : (j 0).val < 2048 := (j 0).isLt
  have hj1 : (j 1).val < 1024 := (j 1).isLt
  constructor
  · rintro ⟨⟨h1, h2⟩, h3, h4⟩
    refine ⟨?_, ?_, ?_⟩ <;> omega
  · rintro ⟨h1, h2, h3⟩
    refine ⟨⟨?_, ?_⟩, ?_, ?_⟩ <;> omega

/-- A drained window is its segments. -/
theorem window_segs (c : Dev nD) (σ : Fin 5) :
    (oPts c (rest m c σ 0) (gath m c) : sProp 𝕄) ⊢ bigSep Finset.univ fun e : Msg => if InWin σ e then own c (hSeg c e) (hVal m c e) else iprop(emp) := by
  have hm : ∀ (e : Msg) (j : S2048x1024.Idx), j ∈ (if InWin σ e then (hSeg c e).view.set else ∅) ↔ InWin σ e ∧ j ∈ (oRect (mv e.2.1 (7 * e.1.val) c) e.2.1 e.2.2).set := by
    intro e j
    split
    · rw [oSeg_set]; exact ⟨fun h => ⟨by assumption, h⟩, fun h => h.2⟩
    · exact ⟨fun h => absurd h (Finset.notMem_empty _), fun h => absurd h.1 (by assumption)⟩
  have h : rest m c σ 0 = Finset.univ.biUnion fun e : Msg => if InWin σ e then (hSeg c e).view.set else ∅ := by
    ext j
    rw [mem_rest]
    simp only [Finset.mem_biUnion, Finset.mem_univ, true_and]
    have hj : (j 0).val < 2048 := (j 0).isLt
    have hj1 : (j 1).val < 1024 := (j 1).isLt
    constructor
    · intro h
      obtain ⟨k, hk⟩ : ∃ k : Fin 8, k.val = (j 0).val / 256 := ⟨⟨(j 0).val / 256, by omega⟩, rfl⟩
      obtain ⟨d, hd⟩ : ∃ d : Fin 2, d.val = (j 1).val / 512 := ⟨⟨(j 1).val / 512, by omega⟩, rfl⟩
      obtain ⟨h', hh'⟩ : ∃ h' : Fin 2, h'.val = (j 0).val % 256 / 128 := ⟨⟨(j 0).val % 256 / 128, by omega⟩, rfl⟩
      rw [← hk] at h
      obtain ⟨t, ht, htk⟩ := (win_chunk c σ k d).mp (h.imp (fun h => Fin.ext h) (fun h => Fin.ext h))
      subst htk
      have hr : j ∈ (oRect (mv d (7 * t.val) c) d h').set := oRect_ids.mpr ⟨hk, hd, hh'⟩
      exact ⟨(t, d, h'), (hm (t, d, h') j).mpr ⟨ht, hr⟩⟩
    · rintro ⟨e, he⟩
      obtain ⟨h1, h2⟩ := (hm e j).mp he
      have := (win_chunk c σ (mv e.2.1 (7 * e.1.val) c) e.2.1).mpr ⟨e.1, h1, rfl⟩
      rw [← (oRect_ids.mp h2).1]
      exact this.imp (fun h => congrArg Fin.val h) (fun h => congrArg Fin.val h)
  rw [h]
  refine BIBase.Entails.trans (Entails.of_eq (pointsTo_biUnion _ _ fun e _ e' _ hn => ?_)) (big_mono fun e _ => ?_)
  · rw [Finset.disjoint_left]
    intro j h1 h2
    obtain ⟨p1, p2⟩ := (hm e j).mp h1
    obtain ⟨q1, q2⟩ := (hm e' j).mp h2
    obtain ⟨p3, p4, p5⟩ := oRect_ids.mp p2
    obtain ⟨q3, q4, q5⟩ := oRect_ids.mp q2
    have hd : e.2.1 = e'.2.1 := Fin.ext (p4.trans q4.symm)
    have hk : mv e.2.1 (7 * e.1.val) c = mv e'.2.1 (7 * e'.1.val) c := Fin.ext (p3.trans q3.symm)
    rw [← hd] at hk
    exact hn (Prod.ext (hop_unique c e.2.1 e.1 e'.1 p1.1 q1.1 hk) (Prod.ext hd (Fin.ext (p5.trans q5.symm))))
  · split
    · unfold own owns
      iintro H
      iexists (gath m c)
      isplitr
      · ipureintro; rfl
      · iexact H
    · rw [pointsTo_empty]

end Cert.Ring

end
-- ==== Proof.State.lean ====
/-
A device's state between two effects of the kernel's body, by six counters: `gi` blocks of 256 rows whose copies are
issued, `gw` windows waited for, `ns` messages sent, `nw` sends waited for, `nr` messages received, `na` received
messages added in. Each family of resources (windows, sends, receives, segments of the result) is a table indexed by
window or message; a step of the body changes one or two entries.
-/
module

public import proofs.«01_k».proof.Proof.Views
public import proofs.«01_k».proof.Proof.Window

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem big_insert {I : Type} [DecidableEq I] {s : Finset I} {i : I} (hi : i ∉ s) (Φ : I → sProp 𝕄) :
    (bigSep (insert i s) Φ : sProp 𝕄) = iprop(Φ i ∗ bigSep s Φ) := BI.bigSep_insert hi

/-! ## The cells' records -/

/-- A device's cells: its barrier, its sends, its receives. -/
abbrev KI : Type := Unit ⊕ (Msg ⊕ Msg)
instance : DecidableEq KI
  | .inl _, .inl _ => isTrue rfl
  | .inl _, .inr _ => isFalse (fun h => by cases h)
  | .inr _, .inl _ => isFalse (fun h => by cases h)
  | .inr (.inl a), .inr (.inl b) => if h : a = b then isTrue (by rw [h]) else isFalse (fun h' => h (by cases h'; rfl))
  | .inr (.inl _), .inr (.inr _) => isFalse (fun h => by cases h)
  | .inr (.inr _), .inr (.inl _) => isFalse (fun h => by cases h)
  | .inr (.inr a), .inr (.inr b) => if h : a = b then isTrue (by rw [h]) else isFalse (fun h' => h (by cases h'; rfl))
def kcell : Dev nD × KI → GSem nD τ sig
  | (c, .inl _) => barCell c
  | (c, .inr (.inl e)) => sendCell c e
  | (c, .inr (.inr e)) => recvCell c e

/-- Every cell's invariant, under the names `K`, and that every cell has reached round 0. -/
def records (K : Dev nD × KI → ℕ) : sProp 𝕄 :=
  iprop((bigSep Finset.univ fun p : Dev nD × KI => cellInv ER (Rd m) (K p) (kcell p))
    ∗ bigSep Finset.univ fun p : Dev nD × KI => reached ER (kcell p) 0)
instance records_persistent (K : Dev nD × KI → ℕ) : BI.Persistent (records m K) := by unfold records; infer_instance

theorem rec_at (K : Dev nD × KI → ℕ) (p : Dev nD × KI) :
    (records m K : sProp 𝕄) ⊢ iprop(cellInv ER (Rd m) (K p) (kcell p) ∗ reached ER (kcell p) 0) := by
  unfold records
  iintro ⟨HI, HR⟩
  isplitl [HI]
  · iapply (show (bigSep Finset.univ fun p : Dev nD × KI => (cellInv ER (Rd m) (K p) (kcell p) : sProp 𝕄)) ⊢ cellInv ER (Rd m) (K p) (kcell p) from bigSep_elim (Finset.mem_univ p)); iexact HI
  · iapply (show (bigSep Finset.univ fun p : Dev nD × KI => (reached ER (kcell p) 0 : sProp 𝕄)) ⊢ reached ER (kcell p) 0 from bigSep_elim (Finset.mem_univ p)); iexact HR

/-! ## The tables -/

theorem if_iff (p₁ p₂ : Prop) [Decidable p₁] [Decidable p₂] (h : p₁ ↔ p₂) {a b : sProp 𝕄} : (if p₁ then a else b) = if p₂ then a else b := by
  by_cases h₁ : p₁
  · rw [if_pos h₁, if_pos (h.mp h₁)]
  · rw [if_neg h₁, if_neg (fun h₂ => h₁ (h.mpr h₂))]

/-- The first block of window `σ`. -/
def stt (σ : Fin 5) : ℕ := 2 * σ.val - 1

/-- Window `σ`: waited for; or some of its rows issued; or none. -/
def GP (c : Dev nD) (gi gw : ℕ) (σ : Fin 5) : sProp 𝕄 :=
  if σ.val < gw then semVal (gCell c σ) 0
  else if gi ≤ stt σ then Idle m c σ else Iss m c σ (min (256 * (gi - stt σ)) (nrow σ))

/-- Message `e` on the sending side: waited for; or on its way; or to be sent. -/
def SSt (c : Dev nD) (ns nw : ℕ) (e : Msg) : sProp 𝕄 :=
  if ord e < nw then iprop(semVal (sendCell c e) 0 ∗ sendPay m c e)
  else if ord e < ns then iprop(atPos ER (sendCell c e) 0 ∅ 0 ∗ cred (tallyAt (sendCell c e) () N))
  else iprop(atPos ER (sendCell c e) 0 ∅ 0 ∗ dutyTok ER (sendCell c e) 0 (0 : Fin 2) ∗ dutyTok ER (recvCell (mv e.2.1 1 c) e) 0 (0 : Fin 2)
    ∗ if e.1.val < 7 then anyM (mv e.2.1 1 c) (lSeg e.2.1 e.1.val e.2.2) else iprop(emp))

/-- Message `e` on the receiving side: yet to come; or here, in the reduce-scatter in the landing buffer, added in or not. -/
def RSt (c : Dev nD) (nr na : ℕ) (e : Msg) : sProp 𝕄 :=
  if rord e < nr then iprop(semVal (recvCell c e) 0
    ∗ if e.1.val < 7 then (if rord e < na then anyM c (lSeg e.2.1 e.1.val e.2.2) else recvPay m c e)
      else if e.1.val = 13 then recvPay m c e else iprop(emp))
  else iprop(cred (tallyAt (recvCell c e) () N) ∗ atPos ER (recvCell c e) 0 ∅ 0)

/-- The segment message `e` is sent from: sent; or still the gathered one; or absent; or ready to be sent. -/
def TSt (c : Dev nD) (gw ns nr na : ℕ) (e : Msg) : sProp 𝕄 :=
  if ord e < ns then iprop(emp)
  else if (1 ≤ e.1.val ∧ e.1.val ≤ 7) ∧ 4 + na ≤ ord e then (if slot e.1.val < gw then own c (hSeg c e) (hVal m c e) else iprop(emp))
  else if 8 ≤ e.1.val ∧ 4 + nr ≤ ord e then iprop(emp)
  else if e.1.val = 0 ∧ gw = 0 then iprop(emp)
  else car m c e

def St (K : Dev nD × KI → ℕ) (c : Dev nD) (gi gw ns nw nr na : ℕ) : sProp 𝕄 :=
  iprop((records m K ∗ levAts L lv) ∗ owesAny c (owed c ns) ∗ TI m c ∗ semVal (barCell c) 0
    ∗ bigSep Finset.univ (GP m c gi gw) ∗ bigSep Finset.univ (SSt m c ns nw)
    ∗ bigSep Finset.univ (RSt m c nr na) ∗ bigSep Finset.univ (TSt m c gw ns nr na))

/-! ## The tables' entries at a step -/

section Entries
variable (c : Dev nD) (gi gw ns nw nr na : ℕ) (e : Msg)

theorem ord_ne {e j : Msg} (h : j ≠ e) : ord j ≠ ord e := fun h' => h (ord_inj _ _ h')
theorem rord_ne {e j : Msg} (h : j ≠ e) : rord j ≠ rord e := fun h' => h (rord_inj _ _ h')
theorem rord_low {e : Msg} (h : e.1.val ≠ 13) : rord e = ord e := if_neg h
theorem rord_low_iff {e : Msg} {n : ℕ} (hn : n ≤ 28) : e.1.val < 7 → (rord e < n ↔ ord e < n) := fun h => by
  rw [rord_low (by omega)]

theorem SSt_done (h : ord e < nw) : (SSt m c ns nw e : sProp 𝕄) = iprop(semVal (sendCell c e) 0 ∗ sendPay m c e) := if_pos h
theorem SSt_sent (h : nw ≤ ord e) (h' : ord e < ns) :
    (SSt m c ns nw e : sProp 𝕄) = iprop(atPos ER (sendCell c e) 0 ∅ 0 ∗ cred (tallyAt (sendCell c e) () N)) := by
  unfold SSt; rw [if_neg (by omega), if_pos h']
theorem SSt_todo (h : nw ≤ ord e) (h' : ns ≤ ord e) :
    (SSt m c ns nw e : sProp 𝕄) = iprop(atPos ER (sendCell c e) 0 ∅ 0 ∗ dutyTok ER (sendCell c e) 0 (0 : Fin 2) ∗ dutyTok ER (recvCell (mv e.2.1 1 c) e) 0 (0 : Fin 2)
    ∗ if e.1.val < 7 then anyM (mv e.2.1 1 c) (lSeg e.2.1 e.1.val e.2.2) else iprop(emp)) := by
  unfold SSt; rw [if_neg (by omega), if_neg (by omega)]
theorem SSt_send (he : ord e = ns) (j : Msg) (hj : j ≠ e) : (SSt m c ns nw j : sProp 𝕄) = SSt m c (ns + 1) nw j := by
  have := ord_ne hj
  unfold SSt; rw [if_iff (ord j < ns) (ord j < ns + 1) (by omega)]
theorem SSt_wait (he : ord e = nw) (j : Msg) (hj : j ≠ e) : (SSt m c ns nw j : sProp 𝕄) = SSt m c ns (nw + 1) j := by
  have := ord_ne hj
  unfold SSt; rw [if_iff (ord j < nw) (ord j < nw + 1) (by omega)]

theorem RSt_todo (h : nr ≤ rord e) : (RSt m c nr na e : sProp 𝕄) = iprop(cred (tallyAt (recvCell c e) () N) ∗ atPos ER (recvCell c e) 0 ∅ 0) :=
  if_neg (by omega)
theorem RSt_here (h : rord e < nr) : (RSt m c nr na e : sProp 𝕄) = iprop(semVal (recvCell c e) 0
    ∗ if e.1.val < 7 then (if rord e < na then anyM c (lSeg e.2.1 e.1.val e.2.2) else recvPay m c e)
      else if e.1.val = 13 then recvPay m c e else iprop(emp)) := if_pos h
theorem RSt_recv (he : rord e = nr) (j : Msg) (hj : j ≠ e) : (RSt m c nr na j : sProp 𝕄) = RSt m c (nr + 1) na j := by
  have := rord_ne hj
  unfold RSt; rw [if_iff (rord j < nr) (rord j < nr + 1) (by omega)]
theorem RSt_add (he : rord e = na) (j : Msg) (hj : j ≠ e) : (RSt m c nr na j : sProp 𝕄) = RSt m c nr (na + 1) j := by
  have := rord_ne hj
  unfold RSt; rw [if_iff (rord j < na) (rord j < na + 1) (by omega)]

theorem TSt_sent (h : ord e < ns) : (TSt m c gw ns nr na e : sProp 𝕄) = iprop(emp) := if_pos h
theorem TSt_gath (h : ns ≤ ord e) (h1 : (1 ≤ e.1.val ∧ e.1.val ≤ 7) ∧ 4 + na ≤ ord e) (h2 : slot e.1.val < gw) :
    (TSt m c gw ns nr na e : sProp 𝕄) = own c (hSeg c e) (hVal m c e) := by
  unfold TSt; rw [if_neg (by omega), if_pos h1, if_pos h2]
theorem TSt_wait (h : ns ≤ ord e) (h1 : 8 ≤ e.1.val ∧ 4 + nr ≤ ord e) : (TSt m c gw ns nr na e : sProp 𝕄) = iprop(emp) := by
  unfold TSt; rw [if_neg (by omega), if_neg (by omega), if_pos h1]
theorem TSt_car (h : ns ≤ ord e) (h0 : gw ≠ 0) (h1 : 1 ≤ e.1.val → e.1.val ≤ 7 → ord e < 4 + na) (h8 : 8 ≤ e.1.val → ord e < 4 + nr) :
    (TSt m c gw ns nr na e : sProp 𝕄) = car m c e := by
  unfold TSt
  rw [if_neg (by omega), if_neg (fun h => by have := h1 h.1.1 h.1.2; omega), if_neg (fun h => by have := h8 h.1; omega), if_neg (fun h => h0 h.2)]
theorem TSt_send (he : ord e = ns) (j : Msg) (hj : j ≠ e) : (TSt m c gw ns nr na j : sProp 𝕄) = TSt m c gw (ns + 1) nr na j := by
  have := ord_ne hj
  unfold TSt; rw [if_iff (ord j < ns) (ord j < ns + 1) (by omega)]
theorem TSt_add (he : ord e = 4 + na) (j : Msg) (hj : j ≠ e) : (TSt m c gw ns nr na j : sProp 𝕄) = TSt m c gw ns nr (na + 1) j := by
  have := ord_ne hj
  unfold TSt; rw [if_iff ((1 ≤ j.1.val ∧ j.1.val ≤ 7) ∧ 4 + na ≤ ord j) ((1 ≤ j.1.val ∧ j.1.val ≤ 7) ∧ 4 + (na + 1) ≤ ord j) (by omega)]
theorem TSt_recv (he : ord e = 4 + nr) (j : Msg) (hj : j ≠ e) : (TSt m c gw ns nr na j : sProp 𝕄) = TSt m c gw ns (nr + 1) na j := by
  have := ord_ne hj
  unfold TSt; rw [if_iff (8 ≤ j.1.val ∧ 4 + nr ≤ ord j) (8 ≤ j.1.val ∧ 4 + (nr + 1) ≤ ord j) (by omega)]
/-- A receive in the reduce-scatter, or the last ones of the all-gather, change no segment. -/
theorem TSt_keep (h : nr < 28 ∨ 56 ≤ ns) : (TSt m c gw ns nr na : Msg → sProp 𝕄) = TSt m c gw ns (nr + 1) na := by
  funext j
  have := ord_lt j
  have h4 : ord j = 4 * j.1.val + 2 * j.2.2.val + j.2.1.val := rfl
  by_cases hs : ord j < ns
  · rw [TSt_sent m c gw ns nr na j hs, TSt_sent m c gw ns (nr + 1) na j hs]
  · unfold TSt; rw [if_iff (8 ≤ j.1.val ∧ 4 + nr ≤ ord j) (8 ≤ j.1.val ∧ 4 + (nr + 1) ≤ ord j) (by omega)]

/-- The window whose block `gi` is. -/
abbrev Blk (σ : Fin 5) (gi : ℕ) : Prop := stt σ ≤ gi ∧ gi < stt σ + (if σ = 0 ∨ σ = 4 then 1 else 2)

theorem blk_nums : ∀ (gi : Fin 8) (σ : Fin 5), Blk σ gi.val →
    (∀ σ' : Fin 5, σ' ≠ σ → (gi.val ≤ stt σ' ↔ gi.val + 1 ≤ stt σ') ∧ (¬gi.val ≤ stt σ' → min (256 * (gi.val - stt σ')) (nrow σ') = min (256 * (gi.val + 1 - stt σ')) (nrow σ')))
      ∧ (256 * (gi.val - stt σ) + 256 ≤ nrow σ ∧ ¬gi.val + 1 ≤ stt σ ∧ min (256 * (gi.val + 1 - stt σ)) (nrow σ) = 256 * (gi.val - stt σ) + 256
        ∧ min (256 * (gi.val - stt σ)) (nrow σ) = 256 * (gi.val - stt σ)) := by decide

theorem blk_lt {σ : Fin 5} {gi : ℕ} (h : Blk σ gi) : gi < 8 := by
  obtain ⟨h1, h2⟩ := h
  revert h2; unfold stt; have := σ.isLt
  split <;> rename_i hs
  · rcases hs with rfl | rfl <;> (intro h2; revert h2; simp <;> omega)
  · have : σ.val ≠ 4 := fun h => hs (.inr (Fin.ext h))
    omega

theorem GP_issue {σ : Fin 5} (hb : Blk σ gi) (j : Fin 5) (hj : j ≠ σ) : (GP m c gi gw j : sProp 𝕄) = GP m c (gi + 1) gw j := by
  obtain ⟨h1, h2⟩ := (blk_nums ⟨gi, blk_lt hb⟩ σ hb).1 j hj
  dsimp only at h1 h2
  unfold GP
  by_cases hg : gi ≤ stt j
  · rw [if_pos hg, if_pos (h1.mp hg)]
  · rw [if_neg hg, if_neg (fun h => hg (h1.mpr h)), h2 hg]

/-- Window `σ` as its block `gi` is about to be issued, and after. -/
theorem GP_before {σ : Fin 5} (hb : Blk σ gi) (hw : gw ≤ σ.val) : (GP m c gi gw σ : sProp 𝕄) ⊢ |={Set.univ}=> Iss m c σ (256 * (gi - stt σ)) := by
  obtain ⟨-, -, -, h4⟩ := (blk_nums ⟨gi, blk_lt hb⟩ σ hb).2
  dsimp only at h4
  unfold GP
  rw [if_neg (by omega)]
  by_cases hg : gi ≤ stt σ
  · rw [if_pos hg, show gi - stt σ = 0 by omega]
    exact idle_issue m c σ
  · rw [if_neg hg, h4]
    iintro H; imodintro; iexact H
theorem GP_after {σ : Fin 5} (hb : Blk σ gi) (hw : gw ≤ σ.val) : (GP m c (gi + 1) gw σ : sProp 𝕄) = Iss m c σ (256 * (gi - stt σ) + 256) := by
  obtain ⟨-, h2, h3, -⟩ := (blk_nums ⟨gi, blk_lt hb⟩ σ hb).2
  dsimp only at h2 h3
  unfold GP
  rw [if_neg (by omega), if_neg h2, h3]

/-- Window `gw`, all issued, as it is about to be waited for, and after. -/
theorem GP_full {σ : Fin 5} (hw : gw = σ.val) (hi : stt σ + nrow σ / 256 ≤ gi) : (GP m c gi gw σ : sProp 𝕄) = Iss m c σ (nrow σ) := by
  have : nrow σ = 256 ∨ nrow σ = 512 := by
    unfold nrow; split
    · exact .inl rfl
    · exact .inr rfl
  unfold GP
  rw [if_neg (by omega), if_neg (by omega), Nat.min_eq_right (by omega)]
theorem GP_drained {σ : Fin 5} (hw : gw = σ.val) : (GP m c gi (gw + 1) σ : sProp 𝕄) = semVal (gCell c σ) 0 := if_pos (by omega)
theorem GP_drain {σ : Fin 5} (hw : gw = σ.val) (j : Fin 5) (hj : j ≠ σ) : (GP m c gi gw j : sProp 𝕄) = GP m c gi (gw + 1) j := by
  have : j.val ≠ gw := fun h => hj (Fin.ext (h.trans hw))
  unfold GP; rw [if_iff (j.val < gw) (j.val < gw + 1) (by omega)]

/-- Window `gw`'s segments join the others. -/
theorem TSt_drain {σ : Fin 5} (hw : gw = σ.val) (hs : ns ≤ 4 * gw) (ha : na ≤ 4 * (gw - 1)) (j : Msg) :
    (iprop(TSt m c gw ns nr na j ∗ if InWin σ j then own c (hSeg c j) (hVal m c j) else emp) : sProp 𝕄) ⊢ TSt m c (gw + 1) ns nr na j := by
  have h4 : ord j = 4 * j.1.val + 2 * j.2.2.val + j.2.1.val := rfl
  have hσ := σ.isLt
  by_cases hin : InWin σ j
  · rw [if_pos hin]
    obtain ⟨h7, hsl⟩ := hin
    have hsl' : min j.1.val (8 - j.1.val) = σ.val := hsl
    have hge : gw ≤ j.1.val := by omega
    have ho : ns ≤ ord j := by omega
    by_cases h0 : j.1.val = 0
    · have hg0 : gw = 0 := by omega
      rw [TSt_car m c (gw + 1) ns nr na j ho (by omega) (by omega) (by omega)]
      unfold TSt car
      rw [if_neg (by omega), if_neg (by omega), if_neg (by omega), if_pos ⟨h0, hg0⟩]
      have hmv : mv j.2.1 (7 * j.1.val) c = c := mv_zero _ (by omega) c
      have hst : (stales c j.2.1 j.2.2 j.1.val : sProp 𝕄) = iprop(emp) := by
        unfold stales; rw [h0]; exact BI.bigSep_empty
      show iprop(emp ∗ own c (oSeg (mv j.2.1 (7 * j.1.val) c) j.2.1 j.2.2) (gathV m c (mv j.2.1 (7 * j.1.val) c) j.2.1 j.2.2)) ⊢ _
      rw [hmv, hst, h0]
      iintro ⟨-, H⟩
      isplitl [H]
      · iexact H
      · iempintro
    · have hc : (1 ≤ j.1.val ∧ j.1.val ≤ 7) ∧ 4 + na ≤ ord j := ⟨⟨by omega, h7⟩, by omega⟩
      rw [TSt_gath m c (gw + 1) ns nr na j ho hc (by omega)]
      unfold TSt
      rw [if_neg (by omega), if_pos hc, if_neg (by omega)]
      iintro ⟨-, H⟩; iexact H
  · rw [if_neg hin]
    have he : (TSt m c gw ns nr na j : sProp 𝕄) = TSt m c (gw + 1) ns nr na j := by
      have hsl : j.1.val ≤ 7 → slot j.1.val ≠ gw := fun h h' => hin ⟨h, h'.trans hw⟩
      have hs0 : j.1.val = 0 → slot j.1.val = 0 := fun h => by rw [h]; rfl
      unfold TSt
      by_cases hc : (1 ≤ j.1.val ∧ j.1.val ≤ 7) ∧ 4 + na ≤ ord j
      · rw [if_pos hc, if_pos hc, if_iff (slot j.1.val < gw) (slot j.1.val < gw + 1) (by have := hsl hc.1.2; omega)]
      · rw [if_neg hc, if_neg hc, if_iff (j.1.val = 0 ∧ gw = 0) (j.1.val = 0 ∧ gw + 1 = 0) (by
          constructor
          · rintro ⟨h1, h2⟩; exact absurd ((hs0 h1).trans h2.symm) (hsl (by omega))
          · rintro ⟨-, h2⟩; omega)]
    rw [he]
    iintro ⟨H, -⟩; iexact H

end Entries

/-! ## What a message carries, at its two ends -/

section Pay
variable (c : Dev nD) (e : Msg)

theorem rk_mv : rk (mv e.2.1 1 c) e = mv e.2.1 (7 * e.1.val) c := by
  unfold rk; rw [mv_mv]; exact mv_congr _ (by omega) c

theorem stale_low {t : ℕ} (h : t < 7) : stale (t + 1) = insert t (stale t) ∧ t ∉ stale t := by
  revert t; unfold stale; decide
theorem stale_high : ∀ t : Fin 14, 7 ≤ t.val → stale t.val = insert (t.val - 7) (stale (t.val + 1)) ∧ t.val - 7 ∉ stale (t.val + 1) := by
  unfold stale; decide

/-- A reduce-scatter message: the neighbour's landing segment written, and the sent segment stale. -/
theorem pay_low (ht : e.1.val < 7) (fs : Buf (Elt F) ((hSeg c e).view.loc (c : Thread nD τ)))
    (fd : Buf (Elt F) ((lSeg e.2.1 e.1.val e.2.2).view.loc (mv e.2.1 1 c : Thread nD τ)))
    (hfs : (hSeg c e).view.read (Elt F) fs = chain m e.2.1 (mv e.2.1 (7 * e.1.val) c) e.2.2 (min e.1.val 7)) :
    (iprop((((lSeg e.2.1 e.1.val e.2.2).view.loc (mv e.2.1 1 c : Thread nD τ) ↦[(lSeg e.2.1 e.1.val e.2.2).view.set]{fullShare}
          ((lSeg e.2.1 e.1.val e.2.2).view.write (Elt F) fd ((hSeg c e).view.read (Elt F) fs) Finset.univ))
        ∗ stales (mv e.2.1 (7 * e.1.val) c) e.2.1 e.2.2 e.1.val)
      ∗ ((hSeg c e).view.loc (c : Thread nD τ) ↦[(hSeg c e).view.set]{fullShare} fs)) : sProp 𝕄) ⊢ recvPay m (mv e.2.1 1 c) e := by
  unfold recvPay
  rw [if_pos ht, rk_mv, hfs, Nat.min_eq_left (by omega)]
  unfold stales
  rw [(stale_low ht).1, big_insert (stale_low ht).2, mv_mv, mv_zero e.2.1 (i := 7 * e.1.val + e.1.val) (by omega) c]
  iintro ⟨⟨Hd, Hst⟩, Hs⟩
  isplitl [Hd]
  · unfold own owns
    iexists _
    isplitr
    rotate_left
    · iexact Hd
    · ipureintro; exact View.read_write_univ _ _
  isplitl [Hs]
  · unfold anyM; iexists fs; iexact Hs
  · iexact Hst

/-- An all-gather message: the neighbour's stale segment written. -/
theorem pay_high (ht : 7 ≤ e.1.val) (fs : Buf (Elt F) ((hSeg c e).view.loc (c : Thread nD τ)))
    (fd : Buf (Elt F) ((hSeg c e).view.loc (mv e.2.1 1 c : Thread nD τ)))
    (hfs : (hSeg c e).view.read (Elt F) fs = chain m e.2.1 (mv e.2.1 (7 * e.1.val) c) e.2.2 (min e.1.val 7)) :
    (iprop(((hSeg c e).view.loc (mv e.2.1 1 c : Thread nD τ) ↦[(hSeg c e).view.set]{fullShare}
          ((hSeg c e).view.write (Elt F) fd ((hSeg c e).view.read (Elt F) fs) Finset.univ))
        ∗ stales (mv e.2.1 (7 * e.1.val) c) e.2.1 e.2.2 (e.1.val + 1)) : sProp 𝕄) ⊢ recvPay m (mv e.2.1 1 c) e := by
  unfold recvPay
  rw [if_neg (by omega), rk_mv, hfs, Nat.min_eq_right ht]
  iintro ⟨Hd, Hst⟩
  isplitl [Hd]
  · unfold own owns
    iexists _
    isplitr
    rotate_left
    · iexact Hd
    · ipureintro; exact View.read_write_univ _ _
  · iexact Hst

/-- What an all-gather message leaves behind: the finished segment. -/
theorem send_back (ht : 7 ≤ e.1.val) (fs : Buf (Elt F) ((hSeg c e).view.loc (c : Thread nD τ)))
    (hfs : (hSeg c e).view.read (Elt F) fs = chain m e.2.1 (mv e.2.1 (7 * e.1.val) c) e.2.2 (min e.1.val 7)) :
    ((hSeg c e).view.loc (c : Thread nD τ) ↦[(hSeg c e).view.set]{fullShare} fs : sProp 𝕄) ⊢ sendPay m c e := by
  unfold sendPay own owns
  rw [if_neg (by omega)]
  iintro H
  iexists fs
  isplitr
  · ipureintro; rw [hfs, Nat.min_eq_right ht]
  · iexact H

/-- Of the stale segments of an all-gather message, the one it is written over. -/
theorem stales_high (ht : 7 ≤ e.1.val) :
    (stales (mv e.2.1 (7 * e.1.val) c) e.2.1 e.2.2 e.1.val : sProp 𝕄)
      ⊢ iprop(anyM (mv e.2.1 1 c) (hSeg c e) ∗ stales (mv e.2.1 (7 * e.1.val) c) e.2.1 e.2.2 (e.1.val + 1)) := by
  unfold stales
  rw [(stale_high e.1 ht).1, big_insert (stale_high e.1 ht).2, mv_mv, mv_congr e.2.1 (i := 7 * e.1.val + (e.1.val - 7)) (j := 1) (by omega) c]

/-- An all-gather message that is passed on. -/
theorem recv_car (t : Fin 14) (ht : 7 ≤ e.1.val) (htt : t.val = e.1.val + 1) : (recvPay m c e : sProp 𝕄) = car m c (t, e.2.1, e.2.2) := by
  unfold recvPay car
  rw [if_neg (by omega)]
  dsimp only
  rw [htt, Nat.min_eq_right (by omega)]

end Pay

end Cert.Ring

end
-- ==== Proof.Steps.lean ====
/-
The steps of the body: each theorem takes the state before one effect to the state after it, for the effect as the
kernel prints it; what is printed (offsets, semaphores, the neighbour) enters by an equation.
-/
module

public import proofs.«01_k».proof.Proof.State

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A program of device `c`, run to `Q`. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A step, from the frame it leaves to the rest of the run. -/
theorem cps {P P' R R' : sProp 𝕄} (h : P' ⊢ R) (core : iprop(P ∗ (P' -∗ R)) ⊢ R') : P ⊢ R' := by
  refine BIBase.Entails.trans ?_ core
  iintro H
  isplitl [H]; · iexact H
  iintro H; iapply h; iexact H

section Core

variable {m}
variable {K : Dev nD × KI → ℕ} {c : Dev nD} {gi gw ns nw nr na : ℕ} {α : Type} {Q : α → sProp (MT nD τ sig Unit (Elt F) ℕ UU ℕ)}

/-! ## Sends -/

theorem send_low (e : Msg) (he : ord e = ns) (ht : e.1.val < 7) (hw : nw ≤ ns) (h0 : gw ≠ 0) (ha : 1 ≤ e.1.val → ns < 4 + na)
    {n : Dev nD} (hn : n = mv e.2.1 1 c) {ss rs : DmaSem sig} (hss : ss = sS e) (hrs : rs = rS e)
    {src : Memref sig .tc .vmem S128x512 .f32} (hsrc : src = hSeg c e)
    {dst : Memref sig (Dev.tc n : Thread nD τ).2.kind .vmem S128x512 .f32} (hdst : dst = lSeg e.2.1 e.1.val e.2.2)
    {hsc : dst.view.ref.isScScratch = false} {hw1 : src.view.WordExact} {hw2 : dst.view.WordExact}
    {hty : DmaTarget.Typed .vmem (.dma rs) (.remote (Dev.tc n : Thread nD τ) dst (.dma ss) hsc)}
    {k : PUnit → Prog (TpuEff nD τ sig (Elt F) Λ₀ .tc) α}
    (h : St m K c gi gw (ns + 1) nw nr na ⊢ Run c (k ⟨⟩) Q) :
    St m K c gi gw ns nw nr na ⊢ Run c (.op (.enqueueDma src (.remote (Dev.tc n : Thread nD τ) dst (.dma ss) hsc) (.dma rs) hw1 hw2 hty) k) Q := by
  subst hn hss hrs hsrc hdst
  refine cps h ?_
  have hS := big_step (F := F) e (SSt_send m c ns nw e he)
  have hT := big_step (F := F) e (TSt_send m c gw ns nr na e he)
  rw [SSt_todo m c ns nw e (by omega) (by omega), SSt_sent m c (ns + 1) nw e (by omega) (by omega), if_pos ht] at hS
  rw [TSt_car m c gw ns nr na e (by omega) h0 (by omega) (by omega), TSt_sent m c gw (ns + 1) nr na e (by omega)] at hT
  unfold St Run
  iintro ⟨⟨⟨#HR, #Hlev⟩, HO, HTI, Hb, HG, HS, HV, HT⟩, Hk⟩
  ihave HS := hS $$ HS
  icases HS with ⟨⟨Hat, Hd1, Hd2, Hl⟩, HS⟩
  ihave HT := hT $$ HT
  icases HT with ⟨Hc, HT⟩
  ihave HR1 := (rec_at m K (c, .inr (.inl e))) $$ HR
  ihave HR2 := (rec_at m K (mv e.2.1 1 c, .inr (.inr e))) $$ HR
  icases HR1 with ⟨#HI1, #Hr1⟩
  icases HR2 with ⟨#HI2, #Hr2⟩
  unfold car own owns anyM owesAny
  icases Hc with ⟨⟨%fs, %hfs, Hsrc⟩, Hst⟩
  icases Hl with ⟨%fd, Hdst⟩
  icases HO with ⟨%W, HO⟩
  iapply (Rounds.wp_send_landing_pointsTo_with 𝒱₀ ER (Rd m) (c : Thread nD τ) none (κ₁ := K (c, .inr (.inl e))) (κ₂ := K (mv e.2.1 1 c, .inr (.inr e)))
    (src := hSeg c e) (dst := lSeg e.2.1 e.1.val e.2.2) (c' := (mv e.2.1 1 c : Thread nD τ)) (sS := .dma (sS e)) (sem := .dma (rS e))
    (r₁ := 0) (r₂ := 0) (d₁ := (0 : Fin 2)) (d₂ := (0 : Fin 2)) (fs := fs) (fd := fd) (F := stales (mv e.2.1 (7 * e.1.val) c) e.2.1 e.2.2 e.1.val)
    (by rw [duties_send]; exact Finset.mem_singleton_self _) (by rw [duties_recv]; exact Finset.mem_singleton_self _)
    () () N (amount_lSeg _ _ _ _) (amount_dma m c _ _) (amount_dma m _ _ _) (O₀ := owed c ns) (owed c (ns + 1)) (he ▸ owed_step c e) (W := W)
    (by rw [payload_send]; unfold sendPay; rw [if_pos ht])
    (by rw [payload_recv]; exact pay_low m c e ht fs fd hfs)) $$ [Hsrc Hdst Hst HO Hd1 Hd2]
  · isplitr; · iexact HI1
    isplitr; · iexact HI2
    isplitl [Hsrc]; · iexact Hsrc
    isplitl [Hdst Hst]
    · isplitl [Hdst]; · iexact Hdst
      iexact Hst
    isplitl [HO]; · iexact HO
    isplitl [Hd1]; · iexact Hd1
    isplitr; · iexact Hr1
    isplitl [Hd2]; · iexact Hd2
    iexact Hr2
  iintro ⟨Hcr, HO⟩
  iapply Hk
  isplitr
  · isplitr; · iexact HR
    iexact Hlev
  isplitl [HO]; · iexists W; iexact HO
  isplitl [HTI]; · iexact HTI
  isplitl [Hb]; · iexact Hb
  isplitl [HG]; · iexact HG
  isplitl [HS Hat Hcr]
  · iapply HS
    isplitl [Hat]; · iexact Hat
    iexact Hcr
  isplitl [HV]; · iexact HV
  iapply HT
  iempintro

theorem send_high (e : Msg) (he : ord e = ns) (ht : 7 ≤ e.1.val) (hw : nw ≤ ns) (h0 : gw ≠ 0) (ha : e.1.val = 7 → ns < 4 + na) (hr : 8 ≤ e.1.val → ns < 4 + nr)
    {n : Dev nD} (hn : n = mv e.2.1 1 c) {ss rs : DmaSem sig} (hss : ss = sS e) (hrs : rs = rS e)
    {src : Memref sig .tc .vmem S128x512 .f32} (hsrc : src = hSeg c e)
    {dst : Memref sig (Dev.tc n : Thread nD τ).2.kind .vmem S128x512 .f32} (hdst : dst = hSeg c e)
    {hsc : dst.view.ref.isScScratch = false} {hw1 : src.view.WordExact} {hw2 : dst.view.WordExact}
    {hty : DmaTarget.Typed .vmem (.dma rs) (.remote (Dev.tc n : Thread nD τ) dst (.dma ss) hsc)}
    {k : PUnit → Prog (TpuEff nD τ sig (Elt F) Λ₀ .tc) α}
    (h : St m K c gi gw (ns + 1) nw nr na ⊢ Run c (k ⟨⟩) Q) :
    St m K c gi gw ns nw nr na ⊢ Run c (.op (.enqueueDma src (.remote (Dev.tc n : Thread nD τ) dst (.dma ss) hsc) (.dma rs) hw1 hw2 hty) k) Q := by
  subst hn hss hrs hsrc hdst
  refine cps h ?_
  have hS := big_step (F := F) e (SSt_send m c ns nw e he)
  have hT := big_step (F := F) e (TSt_send m c gw ns nr na e he)
  rw [SSt_todo m c ns nw e (by omega) (by omega), SSt_sent m c (ns + 1) nw e (by omega) (by omega), if_neg (by omega)] at hS
  rw [TSt_car m c gw ns nr na e (by omega) h0 (by omega) (by omega), TSt_sent m c gw (ns + 1) nr na e (by omega)] at hT
  unfold St Run
  iintro ⟨⟨⟨#HR, #Hlev⟩, HO, HTI, Hb, HG, HS, HV, HT⟩, Hk⟩
  ihave HS := hS $$ HS
  icases HS with ⟨⟨Hat, Hd1, Hd2, -⟩, HS⟩
  ihave HT := hT $$ HT
  icases HT with ⟨Hc, HT⟩
  ihave HR1 := (rec_at m K (c, .inr (.inl e))) $$ HR
  ihave HR2 := (rec_at m K (mv e.2.1 1 c, .inr (.inr e))) $$ HR
  icases HR1 with ⟨#HI1, #Hr1⟩
  icases HR2 with ⟨#HI2, #Hr2⟩
  unfold car
  icases Hc with ⟨Hc, Hst⟩
  ihave Hst := (stales_high (F := F) c e ht) $$ Hst
  unfold own owns anyM owesAny
  icases Hc with ⟨%fs, %hfs, Hsrc⟩
  icases Hst with ⟨⟨%fd, Hdst⟩, Hst⟩
  icases HO with ⟨%W, HO⟩
  iapply (Rounds.wp_send_pointsTo_with 𝒱₀ ER (Rd m) (c : Thread nD τ) none (κ₁ := K (c, .inr (.inl e))) (κ₂ := K (mv e.2.1 1 c, .inr (.inr e)))
    (src := hSeg c e) (dst := hSeg c e) (c' := (mv e.2.1 1 c : Thread nD τ)) (sS := .dma (sS e)) (sem := .dma (rS e))
    (r₁ := 0) (r₂ := 0) (d₁ := (0 : Fin 2)) (d₂ := (0 : Fin 2)) (fs := fs) (fd := fd) (F := stales (mv e.2.1 (7 * e.1.val) c) e.2.1 e.2.2 (e.1.val + 1))
    (by rw [duties_send]; exact Finset.mem_singleton_self _) (by rw [duties_recv]; exact Finset.mem_singleton_self _)
    () () N (amount_oSeg _ _ _ _) (amount_dma m c _ _) (amount_dma m _ _ _) (O₀ := owed c ns) (owed c (ns + 1)) (he ▸ owed_step c e) (W := W)
    (by rw [payload_send]; exact send_back m c e ht fs hfs)
    (by rw [payload_recv]; exact pay_high m c e ht fs fd hfs)) $$ [Hsrc Hdst Hst HO Hd1 Hd2]
  · isplitr; · iexact HI1
    isplitr; · iexact HI2
    isplitl [Hsrc]; · iexact Hsrc
    isplitl [Hdst Hst]
    · isplitl [Hdst]; · iexact Hdst
      iexact Hst
    isplitl [HO]; · iexact HO
    isplitl [Hd1]; · iexact Hd1
    isplitr; · iexact Hr1
    isplitl [Hd2]; · iexact Hd2
    iexact Hr2
  iintro ⟨Hcr, HO⟩
  iapply Hk
  isplitr
  · isplitr; · iexact HR
    iexact Hlev
  isplitl [HO]; · iexists W; iexact HO
  isplitl [HTI]; · iexact HTI
  isplitl [Hb]; · iexact Hb
  isplitl [HG]; · iexact HG
  isplitl [HS Hat Hcr]
  · iapply HS
    isplitl [Hat]; · iexact Hat
    iexact Hcr
  isplitl [HV]; · iexact HV
  iapply HT
  iempintro

/-! ## Waits -/

theorem wait_send (e : Msg) (he : ord e = nw) (hs : nw < ns)
    {q : DmaSem sig} (hq : q = sS e) {sp sp' : Space} {s s' : Shape} {et et' : EltTy} {src : Memref sig .tc sp s et} {dst : Memref sig .tc sp' s' et'}
    (hN : dst.view.dmaCredit = N) {hw1 : src.view.WordExact} {hw2 : dst.view.WordExact}
    {k : PUnit → Prog (TpuEff nD τ sig (Elt F) Λ₀ .tc) α}
    (h : St m K c gi gw ns (nw + 1) nr na ⊢ Run c (k ⟨⟩) Q) :
    St m K c gi gw ns nw nr na ⊢ Run c (.op (.waitDma2 q src dst hw1 hw2) k) Q := by
  subst hq
  refine cps h ?_
  have hS := big_step (F := F) e (SSt_wait m c ns nw e he)
  rw [SSt_sent m c ns nw e (by omega) (by omega), SSt_done m c ns (nw + 1) e (by omega)] at hS
  unfold St Run
  iintro ⟨⟨⟨#HR, #Hlev⟩, HO, HTI, Hb, HG, HS, HV, HT⟩, Hk⟩
  ihave HS := hS $$ HS
  icases HS with ⟨⟨Hat, Hcr⟩, HS⟩
  ihave HR1 := (rec_at m K (c, .inr (.inl e))) $$ HR
  icases HR1 with ⟨#HI1, -⟩
  unfold owesAny
  icases HO with ⟨%W, HO⟩
  ihave HMW := (mayWait_owed (F := F) c (.dma (sS e)) 0 ns (Nat.le_of_eq (lv_low c (sS e) (isSend_sN e))) (fun e' _ => by omega)) $$ Hlev
  iapply (Rounds.wp_wait_rest_token 𝒱₀ ER (Rd m) (c : Thread nD τ) none (κ := K (c, .inr (.inl e)))
      (wpE_waitDma2_eq 𝒱₀ (c : Thread nD τ) none Set.univ) (Set.mem_univ _) () (O := owed c ns) (W := W) (R := 0) (m := 0) (T := ∅)
      (by rw [Nat.zero_add, hN]; exact (expect_dma m c _).symm)) $$ [Hcr HO HMW Hat]
  · isplitr; · iexact HI1
    isplitl [Hcr]; · rw [hN]; iexact Hcr
    isplitl [HO]; · iexact HO
    isplitl [HMW]; · iexact HMW
    iexact Hat
  iintro ⟨HO, Hat, -, Hpay⟩
  ihave Hp := (Entails.of_eq (rest_send m c e)) $$ Hpay
  imod (Rounds.cell_close ER (Rd m) (Set.mem_univ (K (c, .inr (.inl e)))) (fun h => h) (R := 0 + 1) (duties_later m (sendCell c e))) $$ [Hat] with Hz
  · isplitr; · iexact HI1
    iexact Hat
  iapply Hk
  isplitr
  · isplitr; · iexact HR
    iexact Hlev
  isplitl [HO]; · iexists _; iexact HO
  isplitl [HTI]; · iexact HTI
  isplitl [Hb]; · iexact Hb
  isplitl [HG]; · iexact HG
  isplitl [HS Hz Hp]
  · iapply HS
    isplitl [Hz]; · iexact Hz
    iexact Hp
  isplitl [HV]; · iexact HV
  iexact HT

/-- A receive's wait, up to where its payload goes. -/
theorem wait_recv (e : Msg) (he : rord e = nr) (hna : na ≤ nr) (hns : ∀ e' : Msg, ns ≤ ord e' → e.1.val < e'.1.val)
    {q : DmaSem sig} (hq : q = rS e) {sp sp' : Space} {s s' : Shape} {et et' : EltTy} {src : Memref sig .tc sp s et} {dst : Memref sig .tc sp' s' et'}
    (hN : dst.view.dmaCredit = N) {hw1 : src.view.WordExact} {hw2 : dst.view.WordExact}
    {k : PUnit → Prog (TpuEff nD τ sig (Elt F) Λ₀ .tc) α}
    (hT : (iprop(bigSep Finset.univ (TSt m c gw ns nr na) ∗ recvPay m c e) : sProp 𝕄)
      ⊢ iprop(bigSep Finset.univ (TSt m c gw ns (nr + 1) na) ∗ if e.1.val < 7 then recvPay m c e else if e.1.val = 13 then recvPay m c e else emp))
    (h : St m K c gi gw ns nw (nr + 1) na ⊢ Run c (k ⟨⟩) Q) :
    St m K c gi gw ns nw nr na ⊢ Run c (.op (.waitDma2 q src dst hw1 hw2) k) Q := by
  subst hq
  refine cps h ?_
  have hV := big_step (F := F) e (RSt_recv m c nr na e he)
  rw [RSt_todo m c nr na e (by omega), RSt_here m c (nr + 1) na e (by omega), if_neg (show ¬rord e < na by omega)] at hV
  unfold St Run
  iintro ⟨⟨⟨#HR, #Hlev⟩, HO, HTI, Hb, HG, HS, HV, HT⟩, Hk⟩
  ihave HV := hV $$ HV
  icases HV with ⟨⟨Hcr, Hat⟩, HV⟩
  ihave HR1 := (rec_at m K (c, .inr (.inr e))) $$ HR
  icases HR1 with ⟨#HI1, -⟩
  unfold owesAny
  icases HO with ⟨%W, HO⟩
  ihave HMW := (mayWait_owed (F := F) c (.dma (rS e)) (e.1.val + 2) ns (Nat.le_of_eq (lv_recv c e)) (fun e' he' => by have := hns e' he'; omega)) $$ Hlev
  iapply (Rounds.wp_wait_rest_token 𝒱₀ ER (Rd m) (c : Thread nD τ) none (κ := K (c, .inr (.inr e)))
      (wpE_waitDma2_eq 𝒱₀ (c : Thread nD τ) none Set.univ) (Set.mem_univ _) () (O := owed c ns) (W := W) (R := 0) (m := 0) (T := ∅)
      (by rw [Nat.zero_add, hN]; exact (expect_dma m c _).symm)) $$ [Hcr HO HMW Hat]
  · isplitr; · iexact HI1
    isplitl [Hcr]; · rw [hN]; iexact Hcr
    isplitl [HO]; · iexact HO
    isplitl [HMW]; · iexact HMW
    iexact Hat
  iintro ⟨HO, Hat, -, Hpay⟩
  ihave Hp := (Entails.of_eq (rest_recv m c e)) $$ Hpay
  imod (Rounds.cell_close ER (Rd m) (Set.mem_univ (K (c, .inr (.inr e)))) (fun h => h) (R := 0 + 1) (duties_later m (recvCell c e))) $$ [Hat] with Hz
  · isplitr; · iexact HI1
    iexact Hat
  ihave HT := hT $$ [HT Hp]
  · isplitl [HT]; · iexact HT
    iexact Hp
  icases HT with ⟨HT, Hp⟩
  iapply Hk
  isplitr
  · isplitr; · iexact HR
    iexact Hlev
  isplitl [HO]; · iexists _; iexact HO
  isplitl [HTI]; · iexact HTI
  isplitl [Hb]; · iexact Hb
  isplitl [HG]; · iexact HG
  isplitl [HS]; · iexact HS
  isplitl [HV Hz Hp]
  · iapply HV
    isplitl [Hz]; · iexact Hz
    iexact Hp
  iexact HT

theorem keep_low (e : Msg) (h : nr < 28 ∨ 56 ≤ ns) (hp : e.1.val < 7 ∨ e.1.val = 13) :
    (iprop(bigSep Finset.univ (TSt m c gw ns nr na) ∗ recvPay m c e) : sProp 𝕄)
      ⊢ iprop(bigSep Finset.univ (TSt m c gw ns (nr + 1) na) ∗ if e.1.val < 7 then recvPay m c e else if e.1.val = 13 then recvPay m c e else emp) := by
  rw [TSt_keep m c gw ns nr na h]
  rcases hp with hp | hp
  · rw [if_pos hp]
  · rw [if_neg (by omega), if_pos hp]

theorem keep_mid (e e' : Msg) (he : rord e = nr) (ht : 7 ≤ e.1.val) (h13 : e.1.val < 13) (he' : e' = ((e'.1, e.2.1, e.2.2) : Msg)) (htt : e'.1.val = e.1.val + 1)
    (h0 : gw ≠ 0) (hs : ns ≤ nr + 4) :
    (iprop(bigSep Finset.univ (TSt m c gw ns nr na) ∗ recvPay m c e) : sProp 𝕄)
      ⊢ iprop(bigSep Finset.univ (TSt m c gw ns (nr + 1) na) ∗ if e.1.val < 7 then recvPay m c e else if e.1.val = 13 then recvPay m c e else emp) := by
  have ho : ord e' = 4 + nr := by
    rw [he', ← he, rord_low (by omega)]; unfold ord; dsimp only; omega
  have hT := big_step (F := F) e' (TSt_recv m c gw ns nr na e' ho)
  rw [TSt_wait m c gw ns nr na e' (by omega) ⟨by omega, by omega⟩, TSt_car m c gw ns (nr + 1) na e' (by omega) h0 (by omega) (by omega), he'] at hT
  rw [if_neg (by omega), if_neg (by omega), recv_car m c e e'.1 ht htt]
  iintro ⟨HT, Hc⟩
  ihave HT := hT $$ HT
  icases HT with ⟨-, HT⟩
  isplitl
  · iapply HT; iexact Hc
  · iempintro

end Core

end Cert.Ring

end
-- ==== Proof.Adds.lean ====
/-
The other steps: the windows' issues and waits, and the additions.
-/
module

public import proofs.«01_k».proof.Proof.Steps
public import Idealize.ShloMosaic.Lib.Pipeline.Value

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Core

variable {m}
variable {K : Dev nD × KI → ℕ} {c : Dev nD} {gi gw ns nw nr na : ℕ} {α : Type} {Q : α → sProp (MT nD τ sig Unit (Elt F) ℕ UU ℕ)}

/-! ## Windows -/

theorem step_issue (v2 : BitVec 32) (hv2 : v2 = Scalar.remsi (Scalar.divsi (Dev.word c) 1#32) 8#32) (σ : Fin 5) (hb : Blk σ gi) (hw : gw ≤ σ.val)
    (b : ℕ) (hbb : 256 * (gi - stt σ) = b)
    {l : Scf.Loop 32} {ok : l.OK} (ht : l.trips = 64) {f : Fin l.trips → BitVec 32 → Prog (TpuEff nD τ sig (Elt F) Λ₀ .tc) (BitVec 32)}
    (hf : ∀ t acc, Quad c v2 σ (b + 4 * t.val) acc (f t acc))
    {k : BitVec 32 → Prog (TpuEff nD τ sig (Elt F) Λ₀ .tc) α}
    (h : ∀ r, r = BitVec.ofNat 32 (cnt m c σ (b + 256) - cnt m c σ b) → St m K c (gi + 1) gw ns nw nr na ⊢ Run c (k r) Q) :
    St m K c gi gw ns nw nr na ⊢ Run c (Scf.Loop.for l ok 0#32 f >>= k) Q := by
  have hG := big_step (F := F) σ (GP_issue m c gi gw hb)
  have hb' := GP_before m c gi gw hb hw
  have hle := (blk_nums ⟨gi, blk_lt hb⟩ σ hb).2.1
  rw [GP_after m c gi gw hb hw] at hG
  dsimp only at hle
  rw [hbb] at hG hb' hle
  unfold St Run
  rw [wp_bind]
  iintro ⟨⟨#HR, #Hlev⟩, HO, HTI, Hb, HG, HS, HV, HT⟩
  ihave HG := hG $$ HG
  icases HG with ⟨Hσ, HG⟩
  imod hb' $$ Hσ with Hσ
  ihave Hwp := (wp_issue m c v2 hv2 σ b hle l ok ht f hf) $$ [HTI Hσ]
  · isplitl [HTI]; · iexact HTI
    iexact Hσ
  iapply (wp_wand _ _ _) $$ Hwp
  iintro %r ⟨%hr, HTI, Hσ⟩
  iapply (h r hr)
  unfold St
  isplitr
  · isplitr; · iexact HR
    iexact Hlev
  isplitl [HO]; · iexact HO
  isplitl [HTI]; · iexact HTI
  isplitl [Hb]; · iexact Hb
  isplitl [HG Hσ]; · iapply HG; iexact Hσ
  isplitl [HS]; · iexact HS
  isplitl [HV]; · iexact HV
  iexact HT

theorem step_drain (σ : Fin 5) (hw : gw = σ.val) (hi : stt σ + nrow σ / 256 ≤ gi) (hs : ns ≤ 4 * gw) (ha : na ≤ 4 * (gw - 1))
    {l : Scf.Loop 32} {ok : l.OK} (ht : l.trips = cnt m c σ (nrow σ)) {f : Fin l.trips → Unit → Prog (TpuEff nD τ sig (Elt F) Λ₀ .tc) Unit}
    (hf : ∀ t acc, f t acc = waitP (gS σ))
    {k : Unit → Prog (TpuEff nD τ sig (Elt F) Λ₀ .tc) α}
    (h : St m K c gi (gw + 1) ns nw nr na ⊢ Run c (k ⟨⟩) Q) :
    St m K c gi gw ns nw nr na ⊢ Run c (Scf.Loop.for l ok ⟨⟩ f >>= k) Q := by
  refine cps h ?_
  have hG := big_step (F := F) σ (GP_drain m c gi gw hw)
  rw [GP_full m c gi gw hw hi, GP_drained m c gi gw hw] at hG
  have hT : (iprop(bigSep Finset.univ (TSt m c gw ns nr na) ∗ bigSep Finset.univ fun e : Msg => if InWin σ e then own c (hSeg c e) (hVal m c e) else iprop(emp)) : sProp 𝕄)
      ⊢ bigSep Finset.univ (TSt m c (gw + 1) ns nr na) := by
    rw [← big_sep]
    exact big_mono fun e _ => TSt_drain m c gw ns nr na hw hs ha e
  unfold St Run
  iintro ⟨⟨⟨#HR, #Hlev⟩, HO, HTI, Hb, HG, HS, HV, HT⟩, Hk⟩
  ihave HG := hG $$ HG
  icases HG with ⟨Hσ, HG⟩
  iapply (wp_drain m c σ (owed c ns) (mayWait_owed (F := F) c (.dma (gS σ)) 0 ns
    (Nat.le_of_eq (lv_low c (gS σ) (Or.inl (show 2 + σ.val < 63 by have := σ.isLt; omega)))) (fun e' _ => by omega)) l ok ht f hf k) $$ [HO Hσ]
  · isplitr; · iexact Hlev
    isplitl [HO]; · iexact HO
    iexact Hσ
  iintro ⟨HO, Hp, Hz⟩
  ihave Hp := (window_segs m c σ) $$ Hp
  iapply Hk
  isplitr
  · isplitr; · iexact HR
    iexact Hlev
  isplitl [HO]; · iexact HO
  isplitl [HTI]; · iexact HTI
  isplitl [Hb]; · iexact Hb
  isplitl [HG Hz]; · iapply HG; iexact Hz
  isplitl [HS]; · iexact HS
  isplitl [HV]; · iexact HV
  iapply hT
  isplitl [HT]; · iexact HT
  iexact Hp

theorem step_none {P : sProp 𝕄} {l : Scf.Loop 32} {ok : l.OK} (ht : l.trips = 0) {f : Fin l.trips → Unit → Prog (TpuEff nD τ sig (Elt F) Λ₀ .tc) Unit}
    {k : Unit → Prog (TpuEff nD τ sig (Elt F) Λ₀ .tc) α} (h : P ⊢ Run c (k ⟨⟩) Q) : P ⊢ Run c (Scf.Loop.for l ok ⟨⟩ f >>= k) Q := by
  exact Scf.wp_for0_bind' frame (wpE (defs₀ (F := F)) 𝒱₀ (c : Thread nD τ) none) Set.univ l.lb l.ub l.st ok ⟨⟩ f ht k Q P h

/-! ## Additions -/

theorem load_seg (e : Msg) (hs : ns ≤ ord e) (h1 : (1 ≤ e.1.val ∧ e.1.val ≤ 7) ∧ 4 + na ≤ ord e) (h2 : slot e.1.val < gw)
    {off : Fin 2 → ℕ} (hoff : off = ![256 * (mv e.2.1 (7 * e.1.val) c).val + 128 * e.2.2.val, 512 * e.2.1.val])
    {inb : ∀ a, off a + S128x512.size a ≤ S2048x1024.size a} {hl : oM.view.LoadsAt (Rect.unit (s := S2048x1024) off S128x512.size inb).toLoadRect}
    {k : Vec F S128x512 .f32 → Prog (TpuEff nD τ sig (Elt F) Λ₀ .tc) α}
    (h : St m K c gi gw ns nw nr na ⊢ Run c (k (hVal m c e)) Q) :
    St m K c gi gw ns nw nr na ⊢ Run c (.op (.load oM (Rect.unit (s := S2048x1024) off S128x512.size inb).toLoadRect hl) k) Q := by
  subst hoff
  refine cps h ?_
  have hT := big_step (F := F) e (Φ := TSt m c gw ns nr na) (Ψ := TSt m c gw ns nr na) (fun _ _ => rfl)
  rw [TSt_gath m c gw ns nr na e hs h1 h2] at hT
  unfold St Run
  iintro ⟨⟨H1, HO, HTI, Hb, HG, HS, HV, HT⟩, Hk⟩
  ihave HT := hT $$ HT
  icases HT with ⟨Hp, HT⟩
  unfold own owns
  icases Hp with ⟨%f, %hf, Hp⟩
  iapply (wp_load_rect 𝒱₀ (c : Thread nD τ) none Set.univ (m := oM) (r := oRect (mv e.2.1 (7 * e.1.val) c) e.2.1 e.2.2) (q := fullShare) (f := f)
    (S := (oM.access (oRect (mv e.2.1 (7 * e.1.val) c) e.2.1 e.2.2)).set) subset_rfl) $$ Hp
  iintro Hp
  rw [show (oM.access (oRect (mv e.2.1 (7 * e.1.val) c) e.2.1 e.2.2)).read (Elt F) f = hVal m c e from hf]
  iapply Hk
  isplitl [H1]; · iexact H1
  isplitl [HO]; · iexact HO
  isplitl [HTI]; · iexact HTI
  isplitl [Hb]; · iexact Hb
  isplitl [HG]; · iexact HG
  isplitl [HS]; · iexact HS
  isplitl [HV]; · iexact HV
  iapply HT
  iexists f
  isplitr; · ipureintro; exact hf
  iexact Hp

theorem load_land (e : Msg) (ht : e.1.val < 7) (hr : rord e < nr) (ha : na ≤ rord e)
    {lm : Memref sig .tc .vmem S7x256x512 .f32} (hlm : lm = lM e.2.1) {off : Fin 3 → ℕ} (hoff : off = ![e.1.val % 7, 128 * e.2.2.val, 0])
    {inb : ∀ a, off a + S1x128x512.size a ≤ S7x256x512.size a} {hl : lm.view.LoadsAt (Rect.unit (s := S7x256x512) off S1x128x512.size inb).toLoadRect}
    {k : Vec F S1x128x512 .f32 → Prog (TpuEff nD τ sig (Elt F) Λ₀ .tc) α}
    (h : ∀ w : Vec F S1x128x512 .f32, shapeCast S128x512 w = chain m e.2.1 (rk c e) e.2.2 e.1.val → St m K c gi gw ns nw nr na ⊢ Run c (k w) Q) :
    St m K c gi gw ns nw nr na ⊢ Run c (.op (.load lm (Rect.unit (s := S7x256x512) off S1x128x512.size inb).toLoadRect hl) k) Q := by
  subst hoff hlm
  have hV := big_step (F := F) e (Φ := RSt m c nr na) (Ψ := RSt m c nr na) (fun _ _ => rfl)
  rw [RSt_here m c nr na e hr, if_pos ht, if_neg (by omega)] at hV
  unfold recvPay at hV
  rw [if_pos ht] at hV
  unfold St Run
  iintro ⟨H1, HO, HTI, Hb, HG, HS, HV, HT⟩
  ihave HV := hV $$ HV
  icases HV with ⟨⟨Hz, Hp, Hst⟩, HV⟩
  unfold own owns
  icases Hp with ⟨%f, %hf, Hp⟩
  iapply (wp_load_rect 𝒱₀ (c : Thread nD τ) none Set.univ (m := lM e.2.1) (r := lRect e.1.val e.2.2) (q := fullShare) (f := f)
    (S := (lSeg e.2.1 e.1.val e.2.2).view.set) (by rw [lSeg_set])) $$ Hp
  iintro Hp
  iapply (h (((lM e.2.1).access (lRect e.1.val e.2.2)).read (Elt F) f) hf)
  unfold St
  isplitl [H1]; · iexact H1
  isplitl [HO]; · iexact HO
  isplitl [HTI]; · iexact HTI
  isplitl [Hb]; · iexact Hb
  isplitl [HG]; · iexact HG
  isplitl [HS]; · iexact HS
  isplitl [HV Hz Hst Hp]
  · iapply HV
    isplitl [Hz]; · iexact Hz
    isplitl [Hp]
    · iexists f
      isplitr; · ipureintro; exact hf
      iexact Hp
    iexact Hst
  iexact HT

/-- The sum of a gathered segment and a landed one is the next link of the chain. -/
theorem chain_next (e : Msg) (t : Fin 14) (htt : t.val = e.1.val + 1) :
    addf (hVal m c (t, e.2.1, e.2.2)) (chain m e.2.1 (rk c e) e.2.2 e.1.val)
      = chain m e.2.1 (mv e.2.1 (7 * t.val) c) e.2.2 t.val := by
  show addf (gathV m c (mv e.2.1 (7 * t.val) c) e.2.1 e.2.2) (chain m e.2.1 (mv e.2.1 (7 * (e.1.val + 1)) c) e.2.2 e.1.val) = _
  rw [htt]
  show _ = addf (gathV m (mv e.2.1 (e.1.val + 1) (mv e.2.1 (7 * (e.1.val + 1)) c)) (mv e.2.1 (7 * (e.1.val + 1)) c) e.2.1 e.2.2) _
  rw [mv_mv, mv_zero e.2.1 (i := 7 * (e.1.val + 1) + (e.1.val + 1)) (by omega) c]

theorem pay_add {a : Vec F S128x512 .f32} {w : Vec F S1x128x512 .f32} {C : FVec F S128x512 .f32} (hw : shapeCast S128x512 w = C) :
    k0_pay2 a w = addf a C := by
  subst hw
  show addf (shapeCast S128x512 a) (shapeCast S128x512 w) = _
  rw [shapeCast_self]

theorem store_add (e : Msg) (t : Fin 14) (htt : t.val = e.1.val + 1) (ht : e.1.val < 7) (he : rord e = na) (hr : na < nr)
    (hs : ns ≤ 4 + na) (h2 : slot t.val < gw)
    {off : Fin 2 → ℕ} (hoff : off = ![256 * (mv e.2.1 (7 * t.val) c).val + 128 * e.2.2.val, 512 * e.2.1.val])
    {inb : ∀ a, off a + S128x512.size a ≤ S2048x1024.size a} {w : Vec F S128x512 .f32}
    {hx : (oM.access (Rect.unit (s := S2048x1024) off S128x512.size inb)).Stores Finset.univ} {hm}
    (hw : w = addf (hVal m c (t, e.2.1, e.2.2)) (chain m e.2.1 (rk c e) e.2.2 e.1.val))
    {k : PUnit → Prog (TpuEff nD τ sig (Elt F) Λ₀ .tc) α}
    (h : St m K c gi gw ns nw nr (na + 1) ⊢ Run c (k ⟨⟩) Q) :
    St m K c gi gw ns nw nr na ⊢ Run c (.op (.store oM (Rect.unit (s := S2048x1024) off S128x512.size inb) w Finset.univ hx hm) k) Q := by
  subst hoff
  refine cps h ?_
  have ho : ord ((t, e.2.1, e.2.2) : Msg) = 4 + na := by
    rw [← he, rord_low (by omega)]; unfold ord; dsimp only; omega
  have hT := big_step (F := F) _ (TSt_add m c gw ns nr na (t, e.2.1, e.2.2) ho)
  rw [TSt_gath m c gw ns nr na (t, e.2.1, e.2.2) (by omega) ⟨⟨by dsimp only; omega, by dsimp only; omega⟩, by omega⟩ h2,
    TSt_car m c gw ns nr (na + 1) (t, e.2.1, e.2.2) (by omega) (by omega) (fun _ _ => by omega) (fun h => by dsimp only at h; omega)] at hT
  have hV := big_step (F := F) e (RSt_add m c nr na e he)
  rw [RSt_here m c nr na e (by omega), RSt_here m c nr (na + 1) e (by omega), if_pos ht, if_neg (by omega), if_pos ht, if_pos (by omega)] at hV
  unfold recvPay at hV
  rw [if_pos ht] at hV
  unfold St Run
  iintro ⟨⟨H1, HO, HTI, Hb, HG, HS, HV, HT⟩, Hk⟩
  ihave HT := hT $$ HT
  icases HT with ⟨Hp, HT⟩
  ihave HV := hV $$ HV
  icases HV with ⟨⟨Hz, Hl, Hst⟩, HV⟩
  ihave Hl := (own_any c _ _) $$ Hl
  unfold own owns
  icases Hp with ⟨%f, %hf, Hp⟩
  iapply (wp_store 𝒱₀ (c : Thread nD τ) none Set.univ (m := oM) (r := oRect (mv e.2.1 (7 * t.val) c) e.2.1 e.2.2) (Mk := Finset.univ) (f := f)
    (S := (oM.access (oRect (mv e.2.1 (7 * t.val) c) e.2.1 e.2.2)).set) subset_rfl) $$ Hp
  iintro Hp
  iapply Hk
  isplitl [H1]; · iexact H1
  isplitl [HO]; · iexact HO
  isplitl [HTI]; · iexact HTI
  isplitl [Hb]; · iexact Hb
  isplitl [HG]; · iexact HG
  isplitl [HS]; · iexact HS
  isplitl [HV Hz Hl]
  · iapply HV
    isplitl [Hz]; · iexact Hz
    iexact Hl
  iapply HT
  unfold car own owns
  isplitl [Hp]
  · iexists _
    isplitr
    rotate_left
    · iexact Hp
    · ipureintro
      refine (View.read_write_univ _ _).trans (hw.trans ((chain_next e t htt).trans ?_))
      dsimp only
      rw [Nat.min_eq_left (by omega)]
  · rw [show rk c e = mv e.2.1 (7 * t.val) c by rw [htt], ← htt]
    iexact Hst

end Core

end Cert.Ring

end
-- ==== Proof.Forms.lean ====
/-
Each step in the form the kernel's text has it: the message is the next one the counters name, and what the text computes is
checked against it.
-/
module

public import proofs.«01_k».proof.Proof.Adds

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The `n`-th message sent. -/
def mS (n : ℕ) : Msg := (⟨n / 4 % 14, by omega⟩, ⟨n % 2, by omega⟩, ⟨n / 2 % 2, by omega⟩)
/-- The `n`-th message waited for. -/
def mR (n : ℕ) : Msg := if n < 52 then mS n else (13, ⟨(n - 52) / 2 % 2, by omega⟩, ⟨n % 2, by omega⟩)

theorem ord_mS : ∀ n : Fin 56, ord (mS n.val) = n.val := by decide
theorem rord_mR : ∀ n : Fin 56, rord (mR n.val) = n.val := by decide

/-- The number of copies the window's block of 256 rows from `b` starts. -/
def got (c : Dev nD) (σ : Fin 5) (b : ℕ) : BitVec 32 := BitVec.ofNat 32 (cnt m c σ (b + 256) - cnt m c σ b)

theorem cnt_row (c : Dev nD) (σ : Fin 5) : cnt m c σ (nrow σ) < 513 :=
  Nat.lt_succ_of_le ((cnt_le m c _ _).trans (by revert σ; decide))
theorem add_sub (a b : ℕ) (h : a ≤ b) : Scalar.addi (BitVec.ofNat 32 (a - 0)) (BitVec.ofNat 32 (b - a)) = BitVec.ofNat 32 b := by
  show BitVec.ofNat 32 (a - 0) + BitVec.ofNat 32 (b - a) = _
  rw [← BitVec.ofNat_add, Nat.sub_zero, Nat.add_sub_cancel' h]
theorem got_two (c : Dev nD) (σ : Fin 5) (h : nrow σ = 512) :
    Scalar.addi (got m c σ 0) (got m c σ 256) = BitVec.ofNat 32 (cnt m c σ (nrow σ)) := by
  have h1 := cnt_mono m c σ (show 256 ≤ 512 by decide)
  have h2 := cnt_zero m c σ
  unfold got
  rw [h, h2]
  exact add_sub _ _ h1
theorem got_one (c : Dev nD) (σ : Fin 5) (h : nrow σ = 256) : got m c σ 0 = BitVec.ofNat 32 (cnt m c σ (nrow σ)) := by
  have h2 := cnt_zero m c σ
  unfold got
  rw [h, h2, Nat.sub_zero]

/-- The sum the addition after the `na`-th makes. -/
def sumA (c : Dev nD) (n : ℕ) : FVec F S128x512 .f32 :=
  addf (hVal m c (mS (n + 4))) (chain m (mR n).2.1 (rk c (mR n)) (mR n).2.2 (mR n).1.val)

section Core

variable {m}
variable {K : Dev nD × KI → ℕ} {c : Dev nD} {gi gw ns nw nr na : ℕ} {α : Type} {Q : α → sProp (MT nD τ sig Unit (Elt F) ℕ UU ℕ)}

/-- Send the next message of the first half. -/
theorem sendL {k : PUnit → Prog (TpuEff nD τ sig (Elt F) Λ₀ .tc) α}
    (h : St m K c gi gw (ns + 1) nw nr na ⊢ Run c (k ⟨⟩) Q)
    (h1 : (ns < 28 ∧ nw ≤ ns ∧ gw ≠ 0) ∧ (4 ≤ ns → ns < 4 + na) := by decide)
    {off : Fin 2 → ℕ} {inb : ∀ a, off a + S128x512.size a ≤ S2048x1024.size a} {hs}
    (hoff : off = ![256 * (mv (mS ns).2.1 (7 * (mS ns).1.val) c).val + 128 * (mS ns).2.2.val, 512 * (mS ns).2.1.val] := by decide +kernel +revert)
    {n : Dev nD} (hn : n = mv (mS ns).2.1 1 c := by decide +kernel +revert)
    {ss rs : DmaSem sig} (hss : ss = sS (mS ns) := by rfl) (hrs : rs = rS (mS ns) := by rfl)
    {dst : Memref sig (Dev.tc n : Thread nD τ).2.kind .vmem S128x512 .f32} (hdst : dst = lSeg (mS ns).2.1 (mS ns).1.val (mS ns).2.2 := by rfl)
    {hsc : dst.view.ref.isScScratch = false} {hw1 : (oM.slice (Rect.unit (s := S2048x1024) off S128x512.size inb) hs).view.WordExact} {hw2 : dst.view.WordExact}
    {hty : DmaTarget.Typed .vmem (.dma rs) (.remote (Dev.tc n : Thread nD τ) dst (.dma ss) hsc)} :
    St m K c gi gw ns nw nr na ⊢ Run c (.op (.enqueueDma (oM.slice (Rect.unit (s := S2048x1024) off S128x512.size inb) hs) (.remote (Dev.tc n : Thread nD τ) dst (.dma ss) hsc) (.dma rs) hw1 hw2 hty) k) Q := by
  have ho : ord (mS ns) = ns := ord_mS ⟨ns, by omega⟩
  have ht : (mS ns).1.val = ns / 4 := by unfold mS; dsimp only; omega
  refine send_low (mS ns) ho (by omega) (by omega) (by omega) (by omega) hn hss hrs ?_ hdst h
  subst hoff; rfl

/-- Send the next message of the second half. -/
theorem sendH {k : PUnit → Prog (TpuEff nD τ sig (Elt F) Λ₀ .tc) α}
    (h : St m K c gi gw (ns + 1) nw nr na ⊢ Run c (k ⟨⟩) Q)
    (h1 : (28 ≤ ns ∧ ns < 56 ∧ nw ≤ ns ∧ gw ≠ 0) ∧ (ns < 32 → ns < 4 + na) ∧ (32 ≤ ns → ns < 4 + nr) := by decide)
    {off off' : Fin 2 → ℕ} {inb : ∀ a, off a + S128x512.size a ≤ S2048x1024.size a} {hs}
    {inb' : ∀ a, off' a + S128x512.size a ≤ S2048x1024.size a} {hs'}
    (hoff : off = ![256 * (mv (mS ns).2.1 (7 * (mS ns).1.val) c).val + 128 * (mS ns).2.2.val, 512 * (mS ns).2.1.val] := by decide +kernel +revert)
    (hoff' : off' = ![256 * (mv (mS ns).2.1 (7 * (mS ns).1.val) c).val + 128 * (mS ns).2.2.val, 512 * (mS ns).2.1.val] := by decide +kernel +revert)
    {n : Dev nD} (hn : n = mv (mS ns).2.1 1 c := by decide +kernel +revert)
    {ss rs : DmaSem sig} (hss : ss = sS (mS ns) := by rfl) (hrs : rs = rS (mS ns) := by rfl)
    {hsc : (oM.slice (Rect.unit (s := S2048x1024) off' S128x512.size inb') hs').view.ref.isScScratch = false}
    {hw1 : (oM.slice (Rect.unit (s := S2048x1024) off S128x512.size inb) hs).view.WordExact}
    {hw2 : (oM.slice (Rect.unit (s := S2048x1024) off' S128x512.size inb') hs').view.WordExact}
    {hty : DmaTarget.Typed .vmem (.dma rs) (.remote (Dev.tc n : Thread nD τ) (oM.slice (Rect.unit (s := S2048x1024) off' S128x512.size inb') hs') (.dma ss) hsc)} :
    St m K c gi gw ns nw nr na ⊢ Run c (.op (.enqueueDma (oM.slice (Rect.unit (s := S2048x1024) off S128x512.size inb) hs)
      (.remote (Dev.tc n : Thread nD τ) (oM.slice (Rect.unit (s := S2048x1024) off' S128x512.size inb') hs') (.dma ss) hsc) (.dma rs) hw1 hw2 hty) k) Q := by
  have ho : ord (mS ns) = ns := ord_mS ⟨ns, by omega⟩
  have ht : (mS ns).1.val = ns / 4 := by unfold mS; dsimp only; omega
  refine send_high (mS ns) ho (by omega) (by omega) (by omega) (by omega) (by omega) hn hss hrs ?_ ?_ h
  · subst hoff; rfl
  · subst hoff'; rfl

/-- Wait for the next message sent to have left. -/
theorem left {k : PUnit → Prog (TpuEff nD τ sig (Elt F) Λ₀ .tc) α}
    (h : St m K c gi gw ns (nw + 1) nr na ⊢ Run c (k ⟨⟩) Q)
    (h1 : nw < 56 ∧ nw < ns := by decide)
    {q : DmaSem sig} (hq : q = sS (mS nw) := by rfl) {src dst : Memref sig .tc .vmem S128x512 .f32} (hN : dst.view.dmaCredit = N := by rfl)
    {hw1 : src.view.WordExact} {hw2 : dst.view.WordExact} :
    St m K c gi gw ns nw nr na ⊢ Run c (.op (.waitDma2 q src dst hw1 hw2) k) Q :=
  wait_send (mS nw) (ord_mS ⟨nw, by omega⟩) h1.2 hq hN h

/-- Wait for the next message of the first half, or of the last step, to have arrived. -/
theorem recvL {k : PUnit → Prog (TpuEff nD τ sig (Elt F) Λ₀ .tc) α}
    (h : St m K c gi gw ns nw (nr + 1) na ⊢ Run c (k ⟨⟩) Q)
    (h1 : (nr < 28 ∨ 52 ≤ nr ∧ nr < 56 ∧ 56 ≤ ns) ∧ na ≤ nr ∧ (nr / 4 < ns / 4 ∨ ns = 56) := by decide)
    {q : DmaSem sig} (hq : q = rS (mR nr) := by rfl) {src dst : Memref sig .tc .vmem S128x512 .f32} (hN : dst.view.dmaCredit = N := by rfl)
    {hw1 : src.view.WordExact} {hw2 : dst.view.WordExact} :
    St m K c gi gw ns nw nr na ⊢ Run c (.op (.waitDma2 q src dst hw1 hw2) k) Q := by
  have ht : (mR nr).1.val = nr / 4 := by
    unfold mR mS; split
    · dsimp only; omega
    · show 13 = _; omega
  have hr : rord (mR nr) = nr := rord_mR ⟨nr, by omega⟩
  refine wait_recv (mR nr) hr (by omega) (fun e' he => ?_) hq hN (keep_low _ (by omega) (by omega)) h
  obtain ⟨t, d, h⟩ := e'
  have := t.isLt; have := d.isLt; have := h.isLt
  simp only [ord] at he
  dsimp only
  omega

/-- Wait for the next message of the second half to have arrived. -/
theorem recvH {k : PUnit → Prog (TpuEff nD τ sig (Elt F) Λ₀ .tc) α}
    (h : St m K c gi gw ns nw (nr + 1) na ⊢ Run c (k ⟨⟩) Q)
    (h1 : (28 ≤ nr ∧ nr < 52 ∧ gw ≠ 0 ∧ ns ≤ nr + 4) ∧ na ≤ nr ∧ nr / 4 < ns / 4 := by decide)
    {q : DmaSem sig} (hq : q = rS (mR nr) := by rfl) {src dst : Memref sig .tc .vmem S128x512 .f32} (hN : dst.view.dmaCredit = N := by rfl)
    {hw1 : src.view.WordExact} {hw2 : dst.view.WordExact} :
    St m K c gi gw ns nw nr na ⊢ Run c (.op (.waitDma2 q src dst hw1 hw2) k) Q := by
  have hr : rord (mR nr) = nr := rord_mR ⟨nr, by omega⟩
  have ht : (mR nr).1.val = nr / 4 := by
    unfold mR mS; rw [if_pos (by omega)]; dsimp only; omega
  refine wait_recv (mR nr) hr (by omega) (fun e' he => ?_) hq hN
    (keep_mid (mR nr) (⟨nr / 4 + 1, by omega⟩, (mR nr).2.1, (mR nr).2.2) hr (by omega) (by omega) rfl (by rw [ht]) (by omega) (by omega)) h
  obtain ⟨t, d, h⟩ := e'
  have := t.isLt; have := d.isLt; have := h.isLt
  simp only [ord] at he
  dsimp only
  omega

/-- The message the addition after the `na`-th feeds. -/
def mA (n : ℕ) : Msg := mS (n + 4)

/-- Load the segment to add to. -/
theorem loadO {k : Vec F S128x512 .f32 → Prog (TpuEff nD τ sig (Elt F) Λ₀ .tc) α}
    (h : St m K c gi gw ns nw nr na ⊢ Run c (k (hVal m c (mA na))) Q)
    (h1 : na < 28 ∧ ns ≤ 4 + na ∧ slot ((na + 4) / 4) < gw := by decide)
    {off : Fin 2 → ℕ} {inb : ∀ a, off a + S128x512.size a ≤ S2048x1024.size a}
    (hoff : off = ![256 * (mv (mA na).2.1 (7 * (mA na).1.val) c).val + 128 * (mA na).2.2.val, 512 * (mA na).2.1.val] := by decide +kernel +revert)
    {hl : oM.view.LoadsAt (Rect.unit (s := S2048x1024) off S128x512.size inb).toLoadRect} :
    St m K c gi gw ns nw nr na ⊢ Run c (.op (.load oM (Rect.unit (s := S2048x1024) off S128x512.size inb).toLoadRect hl) k) Q := by
  have ho : ord (mA na) = na + 4 := ord_mS ⟨na + 4, by omega⟩
  have ht : (mA na).1.val = (na + 4) / 4 := by unfold mA mS; dsimp only; omega
  exact load_seg (mA na) (by omega) ⟨⟨by omega, by omega⟩, by omega⟩ (by rw [ht]; exact h1.2.2) hoff h

/-- Load what arrived. -/
theorem loadA {k : Vec F S1x128x512 .f32 → Prog (TpuEff nD τ sig (Elt F) Λ₀ .tc) α}
    (h : ∀ w : Vec F S1x128x512 .f32, shapeCast S128x512 w = chain m (mR na).2.1 (rk c (mR na)) (mR na).2.2 (mR na).1.val →
      St m K c gi gw ns nw nr na ⊢ Run c (k w) Q)
    (h1 : na < 28 ∧ na < nr := by decide)
    {lm : Memref sig .tc .vmem S7x256x512 .f32} (hlm : lm = lM (mR na).2.1 := by rfl) {off : Fin 3 → ℕ}
    (hoff : off = ![(mR na).1.val % 7, 128 * (mR na).2.2.val, 0] := by rfl)
    {inb : ∀ a, off a + S1x128x512.size a ≤ S7x256x512.size a} {hl : lm.view.LoadsAt (Rect.unit (s := S7x256x512) off S1x128x512.size inb).toLoadRect} :
    St m K c gi gw ns nw nr na ⊢ Run c (.op (.load lm (Rect.unit (s := S7x256x512) off S1x128x512.size inb).toLoadRect hl) k) Q := by
  have hr : rord (mR na) = na := rord_mR ⟨na, by omega⟩
  have ht : (mR na).1.val = na / 4 := by
    unfold mR mS; rw [if_pos (by omega)]; dsimp only; omega
  exact load_land (mR na) (by omega) (by omega) (by omega) hlm hoff h

/-- Store the sum. -/
theorem storeO {k : PUnit → Prog (TpuEff nD τ sig (Elt F) Λ₀ .tc) α}
    (h : St m K c gi gw ns nw nr (na + 1) ⊢ Run c (k ⟨⟩) Q)
    {v : Vec F S128x512 .f32} (hv : v = sumA m c na := by rfl)
    (h1 : na < 28 ∧ na < nr ∧ ns ≤ 4 + na ∧ slot ((na + 4) / 4) < gw := by decide)
    {off : Fin 2 → ℕ} {inb : ∀ a, off a + S128x512.size a ≤ S2048x1024.size a}
    (hoff : off = ![256 * (mv (mA na).2.1 (7 * (mA na).1.val) c).val + 128 * (mA na).2.2.val, 512 * (mA na).2.1.val] := by decide +kernel +revert)
    {hx : (oM.access (Rect.unit (s := S2048x1024) off S128x512.size inb)).Stores Finset.univ} {hm} :
    St m K c gi gw ns nw nr na ⊢ Run c (.op (.store oM (Rect.unit (s := S2048x1024) off S128x512.size inb) v Finset.univ hx hm) k) Q := by
  have hr : rord (mR na) = na := rord_mR ⟨na, by omega⟩
  have ht : (mR na).1.val = na / 4 := by
    unfold mR mS; rw [if_pos (by omega)]; dsimp only; omega
  have ht' : (mA na).1.val = (na + 4) / 4 := by unfold mA mS; dsimp only; omega
  have hA : mA na = ((mA na).1, (mR na).2.1, (mR na).2.2) := by
    unfold mA mR mS; rw [if_pos (by omega)]; ext <;> dsimp only <;> omega
  have hv' : v = addf (hVal m c (mA na)) (chain m (mR na).2.1 (rk c (mR na)) (mR na).2.2 (mR na).1.val) := hv
  rw [hA] at hoff hv'
  exact store_add (mR na) (mA na).1 (by omega) (by omega) hr (by omega) (by omega) (by rw [ht']; exact h1.2.2.2) hoff hv' h

/-- One addition: both loads, the segment loaded again, and the store. -/
theorem add {k : Vec F S128x512 .f32 → Vec F S1x128x512 .f32 → Vec F S128x512 .f32 → PUnit → Prog (TpuEff nD τ sig (Elt F) Λ₀ .tc) α}
    (h : ∀ w, St m K c gi gw ns nw nr (na + 1) ⊢ Run c (k (hVal m c (mA na)) w (hVal m c (mA na)) ⟨⟩) Q)
    (h1 : na < 28 ∧ na < nr ∧ ns ≤ 4 + na ∧ slot ((na + 4) / 4) < gw := by decide)
    {off : Fin 2 → ℕ} {inb : ∀ a, off a + S128x512.size a ≤ S2048x1024.size a}
    (hoff : off = ![256 * (mv (mA na).2.1 (7 * (mA na).1.val) c).val + 128 * (mA na).2.2.val, 512 * (mA na).2.1.val] := by decide +kernel +revert)
    {lm : Memref sig .tc .vmem S7x256x512 .f32} (hlm : lm = lM (mR na).2.1 := by rfl) {off' : Fin 3 → ℕ}
    (hoff' : off' = ![(mR na).1.val % 7, 128 * (mR na).2.2.val, 0] := by rfl)
    {inb' : ∀ a, off' a + S1x128x512.size a ≤ S7x256x512.size a} {hl hl' hl''} {hx hm}
    {P : Vec F S128x512 .f32 → Vec F S1x128x512 .f32 → Vec F S128x512 .f32} (hP : P = k0_pay2 (F := F) := by rfl) :
    St m K c gi gw ns nw nr na ⊢ Run c (.op (.load oM (Rect.unit (s := S2048x1024) off S128x512.size inb).toLoadRect hl) fun v =>
      .op (.load lm (Rect.unit (s := S7x256x512) off' S1x128x512.size inb').toLoadRect hl') fun w =>
      .op (.load oM (Rect.unit (s := S2048x1024) off S128x512.size inb).toLoadRect hl'') fun u =>
      .op (.store oM (Rect.unit (s := S2048x1024) off S128x512.size inb) (P v w) Finset.univ hx hm) (k v w u)) Q := by
  refine loadO ?_ ⟨h1.1, h1.2.2⟩ hoff
  refine loadA (fun w hw => ?_) ⟨h1.1, h1.2.1⟩ hlm hoff'
  refine loadO ?_ ⟨h1.1, h1.2.2⟩ hoff
  exact storeO (h w) (by rw [hP]; exact pay_add hw) h1 hoff

/-- The rest of an addition, after the first load. -/
theorem addB {k : Vec F S1x128x512 .f32 → Vec F S128x512 .f32 → PUnit → Prog (TpuEff nD τ sig (Elt F) Λ₀ .tc) α}
    (h : ∀ w, St m K c gi gw ns nw nr (na + 1) ⊢ Run c (k w (hVal m c (mA na)) ⟨⟩) Q)
    (h1 : na < 28 ∧ na < nr ∧ ns ≤ 4 + na ∧ slot ((na + 4) / 4) < gw := by decide)
    {off : Fin 2 → ℕ} {inb : ∀ a, off a + S128x512.size a ≤ S2048x1024.size a}
    (hoff : off = ![256 * (mv (mA na).2.1 (7 * (mA na).1.val) c).val + 128 * (mA na).2.2.val, 512 * (mA na).2.1.val] := by decide +kernel +revert)
    {lm : Memref sig .tc .vmem S7x256x512 .f32} (hlm : lm = lM (mR na).2.1 := by rfl) {off' : Fin 3 → ℕ}
    (hoff' : off' = ![(mR na).1.val % 7, 128 * (mR na).2.2.val, 0] := by rfl)
    {inb' : ∀ a, off' a + S1x128x512.size a ≤ S7x256x512.size a} {hl' hl''} {hx hm}
    {P : Vec F S1x128x512 .f32 → Vec F S128x512 .f32} (hP : P = k0_pay2 (F := F) (hVal m c (mA na)) := by rfl) :
    St m K c gi gw ns nw nr na ⊢ Run c (
      .op (.load lm (Rect.unit (s := S7x256x512) off' S1x128x512.size inb').toLoadRect hl') fun w =>
      .op (.load oM (Rect.unit (s := S2048x1024) off S128x512.size inb).toLoadRect hl'') fun u =>
      .op (.store oM (Rect.unit (s := S2048x1024) off S128x512.size inb) (P w) Finset.univ hx hm) (k w u)) Q := by
  refine loadA (fun w hw => ?_) ⟨h1.1, h1.2.1⟩ hlm hoff'
  refine loadO ?_ ⟨h1.1, h1.2.2⟩ hoff
  exact storeO (h w) (by rw [hP]; exact pay_add hw) h1 hoff

/-- Issue the next block of 256 rows. -/
theorem issue (σ : Fin 5) (b : ℕ) {l : Scf.Loop 32} {f : Fin l.trips → BitVec 32 → Prog (TpuEff nD τ sig (Elt F) Λ₀ .tc) (BitVec 32)}
    (hf : ∀ t acc, Quad c (Scalar.remsi (Scalar.divsi (Dev.word c) 1#32) 8#32) σ (b + 4 * t.val) acc (f t acc))
    {k : BitVec 32 → Prog (TpuEff nD τ sig (Elt F) Λ₀ .tc) α} (h : St m K c (gi + 1) gw ns nw nr na ⊢ Run c (k (got m c σ b)) Q)
    (hb : Blk σ gi := by decide) (hw : gw ≤ σ.val := by decide) (hbb : 256 * (gi - stt σ) = b := by rfl)
    (ht : l.trips = 64 := by rfl) {ok : l.OK} :
    St m K c gi gw ns nw nr na ⊢ Run c (Scf.Loop.for l ok 0#32 f >>= k) Q :=
  step_issue _ rfl σ hb hw b hbb ht hf fun r hr => hr ▸ h

/-- Wait for the next window, its rows counted by `v`. -/
theorem drain {v : BitVec 32} (hv : v = BitVec.ofNat 32 (cnt m c ⟨gw % 5, by omega⟩ (nrow ⟨gw % 5, by omega⟩)))
    {k : Unit → Prog (TpuEff nD τ sig (Elt F) Λ₀ .tc) α} (h : St m K c gi (gw + 1) ns nw nr na ⊢ Run c (k ⟨⟩) Q)
    (h1 : gw < 5 ∧ stt ⟨gw % 5, by omega⟩ + nrow ⟨gw % 5, by omega⟩ / 256 ≤ gi ∧ ns ≤ 4 * gw ∧ na ≤ 4 * (gw - 1) := by decide)
    {l : Scf.Loop 32} {ok : l.OK} (hl : l = lMain v := by rfl) {f : Fin l.trips → Unit → Prog (TpuEff nD τ sig (Elt F) Λ₀ .tc) Unit}
    (hf : f = fun _ _ => waitP (gS ⟨gw % 5, by omega⟩) := by rfl) :
    St m K c gi gw ns nw nr na ⊢ Run c (Scf.Loop.for l ok ⟨⟩ f >>= k) Q := by
  have hle : cnt m c ⟨gw % 5, by omega⟩ (nrow ⟨gw % 5, by omega⟩) < 513 :=
    cnt_row m c _
  have ht := (loop_facts ⟨_, hle⟩).1.1
  subst hl
  dsimp only at ht
  rw [← hv] at ht
  exact step_drain ⟨gw % 5, by omega⟩ (Nat.mod_eq_of_lt h1.1).symm h1.2.1 h1.2.2.1 h1.2.2.2 ht (fun _ _ => by rw [hf]) h

/-- The loop that does not run. -/
theorem skip {v : BitVec 32} {n : ℕ} (hv : v = BitVec.ofNat 32 n) (hn : n < 513) {P : sProp 𝕄}
    {k : Unit → Prog (TpuEff nD τ sig (Elt F) Λ₀ .tc) α} (h : P ⊢ Run c (k ⟨⟩) Q)
    {l : Scf.Loop 32} {ok : l.OK} (hl : l = lRest v := by rfl) {f : Fin l.trips → Unit → Prog (TpuEff nD τ sig (Elt F) Λ₀ .tc) Unit} :
    P ⊢ Run c (Scf.Loop.for l ok ⟨⟩ f >>= k) Q := by
  have ht := (loop_facts ⟨n, hn⟩).1.2
  subst hl
  dsimp only at ht
  rw [← hv] at ht
  exact step_none ht h

/-- The end of a piece of the program. -/
theorem fin {P : sProp 𝕄} {a : α} (h : P ⊢ Q a) : P ⊢ Run (F := F) c (.ret a) Q := h.trans (le_wp_ret _ _ _ a Q)

/-- The end of a piece that returns a value known to satisfy `φ`. -/
theorem finP {P : sProp 𝕄} {a : α} {φ : α → Prop} (h : φ a) : P ⊢ Run (F := F) c (.ret a) (fun r => iprop(⌜φ r⌝ ∗ P)) := by
  refine fin ?_
  iintro H
  isplitr; · ipureintro; exact h
  iexact H

/-- One piece, then the rest. -/
theorem seq {P P' : sProp 𝕄} {β : Type} {p : Prog (TpuEff nD τ sig (Elt F) Λ₀ .tc) β} {k : β → Prog (TpuEff nD τ sig (Elt F) Λ₀ .tc) α}
    (h : P ⊢ Run c p (fun _ => P')) (h' : ∀ r, P' ⊢ Run c (k r) Q) : P ⊢ Run c (p >>= k) Q := by
  unfold Run
  rw [wp_bind]
  exact h.trans (wp_mono _ _ _ h')

theorem seqP {P P' : sProp 𝕄} {β : Type} {φ : β → Prop} {p : Prog (TpuEff nD τ sig (Elt F) Λ₀ .tc) β} {k : β → Prog (TpuEff nD τ sig (Elt F) Λ₀ .tc) α}
    (h : P ⊢ Run c p (fun r => iprop(⌜φ r⌝ ∗ P'))) (h' : ∀ r, φ r → (P' ⊢ Run c (k r) Q)) : P ⊢ Run c (p >>= k) Q := by
  unfold Run
  rw [wp_bind]
  refine h.trans (wp_mono _ _ _ fun r => ?_)
  iintro ⟨%hr, H⟩
  iapply (h' r hr); iexact H

/-- A check that holds. -/
theorem check {P : sProp 𝕄} {p : Prop} {d : Decidable p} {k : PLift p → Prog (TpuEff nD τ sig (Elt F) Λ₀ .tc) α} (hp : p)
    (h : P ⊢ Run c (k ⟨hp⟩) Q) : P ⊢ Run c (.op (.assume p d) k) Q := by
  unfold Run
  rw [wp_assume_of 𝒱₀ (c : Thread nD τ) none Set.univ hp]
  exact h

/-- The loops that wait for `v` rows are well formed. -/
theorem loops_ok {v : BitVec 32} {n : ℕ} (hv : v = BitVec.ofNat 32 n) (hn : n < 513) : (lMain v).OK ∧ (lRest v).OK := by
  have h := (loop_facts ⟨n, hn⟩).2
  dsimp only at h
  rw [← hv] at h
  exact h

end Core

end Cert.Ring

end
-- ==== Proof.Parts.lean ====
/-
The pieces of the kernel's text, from state to state.
-/
module

public import proofs.«01_k».proof.Proof.Forms

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ}

theorem part11 (K : Dev nD × KI → ℕ) (c : Dev nD) (v2 v4 v6) :
    St m K c 1 1 1 0 0 0 ⊢ Run c (ap (k0_part11 (F := F)) c v2 v4 v6) (fun _ => St m K c 1 1 3 0 0 0) := by
  unfold ap; rw [k0_part11_eq_skeleton]; unfold k0_part11_skel
  simp only [Prog.lift, Prog.bind_op, Prog.bind_ret, Prog.pure_eq_ret]
  refine sendL ?_
  refine sendL ?_
  exact fin .rfl

theorem part12 (K : Dev nD × KI → ℕ) (c : Dev nD) (v6) :
    St m K c 1 1 3 0 0 0 ⊢ Run c (ap (k0_part12 (F := F)) c (Scalar.remsi (Scalar.divsi (Dev.word c) 1#32) 8#32) v6) (fun r => iprop(⌜r.1 = got m c 1 0 ∧ r.2.1 = got m c 1 256⌝ ∗ St m K c 3 1 4 0 0 0)) := by
  unfold ap; rw [k0_part12_eq_skeleton]; unfold k0_part12_skel
  simp only [Prog.lift, Prog.bind_op, Prog.bind_ret, Prog.pure_eq_ret]
  refine sendL ?_
  refine issue 1 0 (trip4 c _ _ _ _) ?_
  refine issue 1 256 (trip5 c _ _ _ _) ?_
  refine check (loops_ok (got_two m c 1 rfl) (cnt_row m c 1)) ?_
  exact finP ⟨rfl, rfl⟩

theorem part13 (K : Dev nD × KI → ℕ) (c : Dev nD) (v2 v6 v87 v89) (hw) :
    St m K c 3 1 4 0 0 0 ⊢ Run c (ap (k0_part13 (F := F)) c v2 v6 (got m c 1 0) (got m c 1 256) hw v87 v89) (fun _ => St m K c 3 2 4 0 1 1) := by
  unfold ap; rw [k0_part13_eq_skeleton]; unfold k0_part13_skel
  simp only [Prog.lift, Prog.bind_op, Prog.bind_ret, Prog.pure_eq_ret]
  refine recvL ?_
  refine drain (got_two m c 1 rfl) ?_
  refine skip (got_two m c 1 rfl) (cnt_row m c 1) ?_
  clear hw
  refine add (fun w => ?_)
  exact fin .rfl

theorem part14 (K : Dev nD × KI → ℕ) (c : Dev nD) (v2 v4 v92) :
    St m K c 3 2 4 0 1 1 ⊢ Run c (ap (k0_part14 (F := F)) c v2 v4 v92) (fun _ => St m K c 3 2 5 0 2 2) := by
  unfold ap; rw [k0_part14_eq_skeleton]; unfold k0_part14_skel
  simp only [Prog.lift, Prog.bind_op, Prog.bind_ret, Prog.pure_eq_ret]
  refine sendL ?_
  refine recvL ?_
  refine add (fun w => ?_)
  exact fin .rfl

theorem part15 (K : Dev nD × KI → ℕ) (c : Dev nD) (v2 v6 v89 v149 c0_i32_175) :
    St m K c 3 2 5 0 2 2 ⊢ Run c (ap (k0_part15 (F := F)) c v2 v6 v89 v149 c0_i32_175) (fun _ => St m K c 3 2 6 0 3 3) := by
  unfold ap; rw [k0_part15_eq_skeleton]; unfold k0_part15_skel
  simp only [Prog.lift, Prog.bind_op, Prog.bind_ret, Prog.pure_eq_ret]
  refine sendL ?_
  refine recvL ?_
  refine add (fun w => ?_)
  exact fin .rfl

theorem part16 (K : Dev nD × KI → ℕ) (c : Dev nD) (v2 v4 v6 v92) :
    St m K c 3 2 6 0 3 3 ⊢ Run c (ap (k0_part16 (F := F)) c v2 v4 v6 v92) (fun _ => St m K c 3 2 7 0 4 4) := by
  unfold ap; rw [k0_part16_eq_skeleton]; unfold k0_part16_skel
  simp only [Prog.lift, Prog.bind_op, Prog.bind_ret, Prog.pure_eq_ret]
  refine sendL ?_
  refine recvL ?_
  refine add (fun w => ?_)
  exact fin .rfl

theorem part17 (K : Dev nD × KI → ℕ) (c : Dev nD) (v4 v205) :
    St m K c 3 2 7 0 4 4 ⊢ Run c (ap (k0_part17 (F := F)) c (Scalar.remsi (Scalar.divsi (Dev.word c) 1#32) 8#32) v4 v205) (fun r => iprop(⌜r.1 = got m c 2 0 ∧ r.2.1 = got m c 2 256⌝ ∗ St m K c 5 2 8 0 4 4)) := by
  unfold ap; rw [k0_part17_eq_skeleton]; unfold k0_part17_skel
  simp only [Prog.lift, Prog.bind_op, Prog.bind_ret, Prog.pure_eq_ret]
  refine sendL ?_
  refine issue 2 0 (trip8 c _ _ _ _ _) ?_
  refine issue 2 256 (trip9 c _ _ _ _ _) ?_
  refine check (loops_ok (got_two m c 2 rfl) (cnt_row m c 2)) ?_
  exact finP ⟨rfl, rfl⟩

theorem part18 (K : Dev nD × KI → ℕ) (c : Dev nD) (v2 v6) (hw) :
    St m K c 5 2 8 0 4 4 ⊢ Run c (ap (k0_part18 (F := F)) c v2 v6 (got m c 2 0) (got m c 2 256) hw) (fun r => iprop(⌜r.2.2 = sumA m c 4⌝ ∗ St m K c 5 3 8 0 5 4)) := by
  unfold ap; rw [k0_part18_eq_skeleton]; unfold k0_part18_skel
  simp only [Prog.lift, Prog.bind_op, Prog.bind_ret, Prog.pure_eq_ret]
  refine recvL ?_
  refine drain (got_two m c 2 rfl) ?_
  refine skip (got_two m c 2 rfl) (cnt_row m c 2) ?_
  clear hw
  refine loadO ?_
  refine loadA (fun w hw => ?_)
  exact finP (pay_add hw)

theorem part19 (K : Dev nD × KI → ℕ) (c : Dev nD) (v2 v4 v6 v236) :
    St m K c 5 3 8 0 5 4 ⊢ Run c (ap (k0_part19 (F := F)) c v2 v4 v6 v236 (sumA m c 4)) (fun r => iprop(⌜r.2 = hVal m c (mA 5)⌝ ∗ St m K c 5 3 9 0 6 5)) := by
  unfold ap; rw [k0_part19_eq_skeleton]; unfold k0_part19_skel
  simp only [Prog.lift, Prog.bind_op, Prog.bind_ret, Prog.pure_eq_ret]
  refine loadO ?_
  refine storeO ?_
  refine sendL ?_
  refine recvL ?_
  refine loadO ?_
  exact finP rfl

theorem part20 (K : Dev nD × KI → ℕ) (c : Dev nD) (v2 v4 v6 v280) :
    St m K c 5 3 9 0 6 5 ⊢ Run c (ap (k0_part20 (F := F)) c v2 v4 v6 v280 (hVal m c (mA 5))) (fun _ => St m K c 5 3 10 0 6 6) := by
  unfold ap; rw [k0_part20_eq_skeleton]; unfold k0_part20_skel
  simp only [Prog.lift, Prog.bind_op, Prog.bind_ret, Prog.pure_eq_ret]
  refine addB (fun w => ?_)
  refine sendL ?_
  exact fin .rfl

theorem part21 (K : Dev nD × KI → ℕ) (c : Dev nD) (v2 v4 v6 v233) :
    St m K c 5 3 10 0 6 6 ⊢ Run c (ap (k0_part21 (F := F)) c v2 v4 v6 v233) (fun _ => St m K c 5 3 11 0 7 7) := by
  unfold ap; rw [k0_part21_eq_skeleton]; unfold k0_part21_skel
  simp only [Prog.lift, Prog.bind_op, Prog.bind_ret, Prog.pure_eq_ret]
  refine recvL ?_
  refine add (fun w => ?_)
  refine sendL ?_
  exact fin .rfl

theorem part22 (K : Dev nD × KI → ℕ) (c : Dev nD) (v2 v4 v236) :
    St m K c 5 3 11 0 7 7 ⊢ Run c (ap (k0_part22 (F := F)) c v2 v4 v236) (fun _ => St m K c 5 3 12 0 8 8) := by
  unfold ap; rw [k0_part22_eq_skeleton]; unfold k0_part22_skel
  simp only [Prog.lift, Prog.bind_op, Prog.bind_ret, Prog.pure_eq_ret]
  refine recvL ?_
  refine add (fun w => ?_)
  refine sendL ?_
  exact fin .rfl

theorem part23 (K : Dev nD × KI → ℕ) (c : Dev nD) (v6 v362 c8_i32_416) :
    St m K c 5 3 12 0 8 8 ⊢ Run c (ap (k0_part23 (F := F)) c (Scalar.remsi (Scalar.divsi (Dev.word c) 1#32) 8#32) v6 v362 c8_i32_416) (fun r => iprop(⌜r.1 = got m c 3 0 ∧ r.2.1 = got m c 3 256⌝ ∗ St m K c 7 3 12 0 8 8)) := by
  unfold ap; rw [k0_part23_eq_skeleton]; unfold k0_part23_skel
  simp only [Prog.lift, Prog.bind_op, Prog.bind_ret, Prog.pure_eq_ret]
  refine issue 3 0 (trip12 c _ _ _ _ _ _) ?_
  refine issue 3 256 (trip13 c _ _ _ _ _ _) ?_
  refine check (loops_ok (got_two m c 3 rfl) (cnt_row m c 3)) ?_
  exact finP ⟨rfl, rfl⟩

theorem part24 (K : Dev nD × KI → ℕ) (c : Dev nD) (v2 v6 v375 v377) (hw) :
    St m K c 7 3 12 0 8 8 ⊢ Run c (ap (k0_part24 (F := F)) c v2 v6 (got m c 3 0) (got m c 3 256) hw v375 v377) (fun _ => St m K c 7 4 12 0 9 9) := by
  unfold ap; rw [k0_part24_eq_skeleton]; unfold k0_part24_skel
  simp only [Prog.lift, Prog.bind_op, Prog.bind_ret, Prog.pure_eq_ret]
  refine recvL ?_
  refine drain (got_two m c 3 rfl) ?_
  refine skip (got_two m c 3 rfl) (cnt_row m c 3) ?_
  clear hw
  refine add (fun w => ?_)
  exact fin .rfl

theorem part25 (K : Dev nD × KI → ℕ) (c : Dev nD) (v2 v4 v380) :
    St m K c 7 4 12 0 9 9 ⊢ Run c (ap (k0_part25 (F := F)) c v2 v4 v380) (fun _ => St m K c 7 4 13 0 10 10) := by
  unfold ap; rw [k0_part25_eq_skeleton]; unfold k0_part25_skel
  simp only [Prog.lift, Prog.bind_op, Prog.bind_ret, Prog.pure_eq_ret]
  refine sendL ?_
  refine recvL ?_
  refine add (fun w => ?_)
  exact fin .rfl

theorem part26 (K : Dev nD × KI → ℕ) (c : Dev nD) (v2 v6 v377) :
    St m K c 7 4 13 0 10 10 ⊢ Run c (ap (k0_part26 (F := F)) c v2 v6 v377) (fun _ => St m K c 7 4 14 0 11 11) := by
  unfold ap; rw [k0_part26_eq_skeleton]; unfold k0_part26_skel
  simp only [Prog.lift, Prog.bind_op, Prog.bind_ret, Prog.pure_eq_ret]
  refine sendL ?_
  refine recvL ?_
  refine add (fun w => ?_)
  exact fin .rfl

theorem part27 (K : Dev nD × KI → ℕ) (c : Dev nD) (v2 v4 v6 v380) :
    St m K c 7 4 14 0 11 11 ⊢ Run c (ap (k0_part27 (F := F)) c v2 v4 v6 v380) (fun _ => St m K c 7 4 15 0 12 12) := by
  unfold ap; rw [k0_part27_eq_skeleton]; unfold k0_part27_skel
  simp only [Prog.lift, Prog.bind_op, Prog.bind_ret, Prog.pure_eq_ret]
  refine sendL ?_
  refine recvL ?_
  refine add (fun w => ?_)
  exact fin .rfl

theorem part28 (K : Dev nD × KI → ℕ) (c : Dev nD) (v4 v494) :
    St m K c 7 4 15 0 12 12 ⊢ Run c (ap (k0_part28 (F := F)) c (Scalar.remsi (Scalar.divsi (Dev.word c) 1#32) 8#32) v4 v494) (fun r => iprop(⌜r.1 = got m c 4 0⌝ ∗ St m K c 8 4 16 0 12 12)) := by
  unfold ap; rw [k0_part28_eq_skeleton]; unfold k0_part28_skel
  simp only [Prog.lift, Prog.bind_op, Prog.bind_ret, Prog.pure_eq_ret]
  refine sendL ?_
  refine issue 4 0 (trip16 c _ _ _ _ _) ?_
  refine check (loops_ok (got_one m c 4 rfl) (cnt_row m c 4)) ?_
  exact finP rfl

theorem part29 (K : Dev nD × KI → ℕ) (c : Dev nD) (v2 v6 v513 c1_i32_603) (hw) :
    St m K c 8 4 16 0 12 12 ⊢ Run c (ap (k0_part29 (F := F)) c v2 v6 (got m c 4 0) hw v513 c1_i32_603) (fun _ => St m K c 8 5 16 0 13 13) := by
  unfold ap; rw [k0_part29_eq_skeleton]; unfold k0_part29_skel
  simp only [Prog.lift, Prog.bind_op, Prog.bind_ret, Prog.pure_eq_ret]
  refine recvL ?_
  refine drain (got_one m c 4 rfl) ?_
  refine skip (got_one m c 4 rfl) (cnt_row m c 4) ?_
  clear hw
  refine add (fun w => ?_)
  exact fin .rfl

theorem part30 (K : Dev nD × KI → ℕ) (c : Dev nD) (v2 v4 v516 v543) :
    St m K c 8 5 16 0 13 13 ⊢ Run c (ap (k0_part30 (F := F)) c v2 v4 v516 v543) (fun _ => St m K c 8 5 17 0 14 14) := by
  unfold ap; rw [k0_part30_eq_skeleton]; unfold k0_part30_skel
  simp only [Prog.lift, Prog.bind_op, Prog.bind_ret, Prog.pure_eq_ret]
  refine sendL ?_
  refine recvL ?_
  refine add (fun w => ?_)
  exact fin .rfl

theorem part31 (K : Dev nD × KI → ℕ) (c : Dev nD) (v4 v6 v513) :
    St m K c 8 5 17 0 14 14 ⊢ Run c (ap (k0_part31 (F := F)) c v4 v6 v513) (fun _ => St m K c 8 5 18 0 15 15) := by
  unfold ap; rw [k0_part31_eq_skeleton]; unfold k0_part31_skel
  simp only [Prog.lift, Prog.bind_op, Prog.bind_ret, Prog.pure_eq_ret]
  refine sendL ?_
  refine recvL ?_
  refine add (fun w => ?_)
  exact fin .rfl

theorem part32 (K : Dev nD × KI → ℕ) (c : Dev nD) (v2 v4 v6 v516 c4_i32_690) :
    St m K c 8 5 18 0 15 15 ⊢ Run c (ap (k0_part32 (F := F)) c v2 v4 v6 v516 c4_i32_690) (fun r => iprop(⌜r.2 = k0_pay17 (hVal m c (mA 15))⌝ ∗ St m K c 8 5 19 0 16 15)) := by
  unfold ap; rw [k0_part32_eq_skeleton]; unfold k0_part32_skel
  simp only [Prog.lift, Prog.bind_op, Prog.bind_ret, Prog.pure_eq_ret]
  refine sendL ?_
  refine recvL ?_
  refine loadO ?_
  exact finP rfl

theorem part33 (K : Dev nD × KI → ℕ) (c : Dev nD) (v2 v4 v6 v620) :
    St m K c 8 5 19 0 16 15 ⊢ Run c (ap (k0_part33 (F := F)) c v2 v4 v6 v620 (k0_pay17 (hVal m c (mA 15)))) (fun _ => St m K c 8 5 20 0 16 16) := by
  unfold ap; rw [k0_part33_eq_skeleton]; unfold k0_part33_skel
  simp only [Prog.lift, Prog.bind_op, Prog.bind_ret, Prog.pure_eq_ret]
  refine addB (fun w => ?_)
  refine sendL ?_
  exact fin .rfl

theorem part34 (K : Dev nD × KI → ℕ) (c : Dev nD) (v2 v6 v643) :
    St m K c 8 5 20 0 16 16 ⊢ Run c (ap (k0_part34 (F := F)) c v2 v6 v643) (fun _ => St m K c 8 5 21 0 17 17) := by
  unfold ap; rw [k0_part34_eq_skeleton]; unfold k0_part34_skel
  simp only [Prog.lift, Prog.bind_op, Prog.bind_ret, Prog.pure_eq_ret]
  refine recvL ?_
  refine add (fun w => ?_)
  refine sendL ?_
  exact fin .rfl

theorem part35 (K : Dev nD × KI → ℕ) (c : Dev nD) (v2 v4 v646) :
    St m K c 8 5 21 0 17 17 ⊢ Run c (ap (k0_part35 (F := F)) c v2 v4 v646) (fun _ => St m K c 8 5 21 0 18 18) := by
  unfold ap; rw [k0_part35_eq_skeleton]; unfold k0_part35_skel
  simp only [Prog.lift, Prog.bind_op, Prog.bind_ret, Prog.pure_eq_ret]
  refine recvL ?_
  refine add (fun w => ?_)
  exact fin .rfl

theorem part36 (K : Dev nD × KI → ℕ) (c : Dev nD) (v2 v6 v643) :
    St m K c 8 5 21 0 18 18 ⊢ Run c (ap (k0_part36 (F := F)) c v2 v6 v643) (fun _ => St m K c 8 5 22 0 19 19) := by
  unfold ap; rw [k0_part36_eq_skeleton]; unfold k0_part36_skel
  simp only [Prog.lift, Prog.bind_op, Prog.bind_ret, Prog.pure_eq_ret]
  refine sendL ?_
  refine recvL ?_
  refine add (fun w => ?_)
  exact fin .rfl

theorem part37 (K : Dev nD × KI → ℕ) (c : Dev nD) (v2 v4 v646) :
    St m K c 8 5 22 0 19 19 ⊢ Run c (ap (k0_part37 (F := F)) c v2 v4 v646) (fun _ => St m K c 8 5 23 0 20 20) := by
  unfold ap; rw [k0_part37_eq_skeleton]; unfold k0_part37_skel
  simp only [Prog.lift, Prog.bind_op, Prog.bind_ret, Prog.pure_eq_ret]
  refine sendL ?_
  refine recvL ?_
  refine add (fun w => ?_)
  exact fin .rfl

theorem part38 (K : Dev nD × KI → ℕ) (c : Dev nD) (v2 v4 v6) :
    St m K c 8 5 23 0 20 20 ⊢ Run c (ap (k0_part38 (F := F)) c v2 v4 v6) (fun r => iprop(⌜r.2.2.2 = k0_pay23 (hVal m c (mA 20))⌝ ∗ St m K c 8 5 24 0 21 20)) := by
  unfold ap; rw [k0_part38_eq_skeleton]; unfold k0_part38_skel
  simp only [Prog.lift, Prog.bind_op, Prog.bind_ret, Prog.pure_eq_ret]
  refine sendL ?_
  refine recvL ?_
  refine loadO ?_
  exact finP rfl

theorem part39 (K : Dev nD × KI → ℕ) (c : Dev nD) (v2 v4 v6 v771 v780) :
    St m K c 8 5 24 0 21 20 ⊢ Run c (ap (k0_part39 (F := F)) c v2 v4 v6 v771 v780 (k0_pay23 (hVal m c (mA 20)))) (fun _ => St m K c 8 5 25 0 22 21) := by
  unfold ap; rw [k0_part39_eq_skeleton]; unfold k0_part39_skel
  simp only [Prog.lift, Prog.bind_op, Prog.bind_ret, Prog.pure_eq_ret]
  refine addB (fun w => ?_)
  refine sendL ?_
  refine recvL ?_
  exact fin .rfl

theorem part40 (K : Dev nD × KI → ℕ) (c : Dev nD) (v2 v4 v6 v809 c0_i32_937) :
    St m K c 8 5 25 0 22 21 ⊢ Run c (ap (k0_part40 (F := F)) c v2 v4 v6 v809 c0_i32_937) (fun _ => St m K c 8 5 26 0 22 22) := by
  unfold ap; rw [k0_part40_eq_skeleton]; unfold k0_part40_skel
  simp only [Prog.lift, Prog.bind_op, Prog.bind_ret, Prog.pure_eq_ret]
  refine add (fun w => ?_)
  refine sendL ?_
  exact fin .rfl

theorem part41 (K : Dev nD × KI → ℕ) (c : Dev nD) (v2 v6 v768) :
    St m K c 8 5 26 0 22 22 ⊢ Run c (ap (k0_part41 (F := F)) c v2 v6 v768) (fun _ => St m K c 8 5 27 0 23 23) := by
  unfold ap; rw [k0_part41_eq_skeleton]; unfold k0_part41_skel
  simp only [Prog.lift, Prog.bind_op, Prog.bind_ret, Prog.pure_eq_ret]
  refine recvL ?_
  refine add (fun w => ?_)
  refine sendL ?_
  exact fin .rfl

theorem part42 (K : Dev nD × KI → ℕ) (c : Dev nD) (v2 v4 v771) :
    St m K c 8 5 27 0 23 23 ⊢ Run c (ap (k0_part42 (F := F)) c v2 v4 v771) (fun _ => St m K c 8 5 27 0 24 24) := by
  unfold ap; rw [k0_part42_eq_skeleton]; unfold k0_part42_skel
  simp only [Prog.lift, Prog.bind_op, Prog.bind_ret, Prog.pure_eq_ret]
  refine recvL ?_
  refine add (fun w => ?_)
  exact fin .rfl

theorem part43 (K : Dev nD × KI → ℕ) (c : Dev nD) (v2 v6) :
    St m K c 8 5 27 0 24 24 ⊢ Run c (ap (k0_part43 (F := F)) c v2 v6) (fun _ => St m K c 8 5 28 0 25 25) := by
  unfold ap; rw [k0_part43_eq_skeleton]; unfold k0_part43_skel
  simp only [Prog.lift, Prog.bind_op, Prog.bind_ret, Prog.pure_eq_ret]
  refine sendL ?_
  refine recvL ?_
  refine add (fun w => ?_)
  exact fin .rfl

theorem part44 (K : Dev nD × KI → ℕ) (c : Dev nD) (v2 v4 v6 v896) :
    St m K c 8 5 28 0 25 25 ⊢ Run c (ap (k0_part44 (F := F)) c v2 v4 v6 v896) (fun _ => St m K c 8 5 29 0 26 26) := by
  unfold ap; rw [k0_part44_eq_skeleton]; unfold k0_part44_skel
  simp only [Prog.lift, Prog.bind_op, Prog.bind_ret, Prog.pure_eq_ret]
  refine sendH ?_
  refine recvL ?_
  refine add (fun w => ?_)
  exact fin .rfl

theorem part45 (K : Dev nD × KI → ℕ) (c : Dev nD) (v4 v6 v893 v945) :
    St m K c 8 5 29 0 26 26 ⊢ Run c (ap (k0_part45 (F := F)) c v4 v6 v893 v945) (fun _ => St m K c 8 5 30 0 27 27) := by
  unfold ap; rw [k0_part45_eq_skeleton]; unfold k0_part45_skel
  simp only [Prog.lift, Prog.bind_op, Prog.bind_ret, Prog.pure_eq_ret]
  refine sendH ?_
  refine recvL ?_
  refine add (fun w => ?_)
  exact fin .rfl

theorem part46 (K : Dev nD × KI → ℕ) (c : Dev nD) (v2 v4 v6 v896 c9_i32_1117) :
    St m K c 8 5 30 0 27 27 ⊢ Run c (ap (k0_part46 (F := F)) c v2 v4 v6 v896 c9_i32_1117) (fun r => iprop(⌜r.2 = sumA m c 27⌝ ∗ St m K c 8 5 31 0 28 27)) := by
  unfold ap; rw [k0_part46_eq_skeleton]; unfold k0_part46_skel
  simp only [Prog.lift, Prog.bind_op, Prog.bind_ret, Prog.pure_eq_ret]
  refine sendH ?_
  refine recvL ?_
  refine loadO ?_
  refine loadA (fun w hw => ?_)
  exact finP (pay_add hw)

theorem part47 (K : Dev nD × KI → ℕ) (c : Dev nD) (v2 v4 v992) :
    St m K c 8 5 31 0 28 27 ⊢ Run c (ap (k0_part47 (F := F)) c v2 v4 v992 (sumA m c 27)) (fun _ => St m K c 8 5 32 1 28 28) := by
  unfold ap; rw [k0_part47_eq_skeleton]; unfold k0_part47_skel
  simp only [Prog.lift, Prog.bind_op, Prog.bind_ret, Prog.pure_eq_ret]
  refine loadO ?_
  refine storeO ?_
  refine sendH ?_
  refine left ?_
  exact fin .rfl

theorem part48 (K : Dev nD × KI → ℕ) (c : Dev nD) :
    St m K c 8 5 32 1 28 28 ⊢ Run c (ap (k0_part48 (F := F)) c) (fun _ => St m K c 8 5 32 5 28 28) := by
  unfold ap; rw [k0_part48_eq_skeleton]; unfold k0_part48_skel
  simp only [Prog.lift, Prog.bind_op, Prog.bind_ret, Prog.pure_eq_ret]
  refine left ?_
  refine left ?_
  refine left ?_
  refine left ?_
  exact fin .rfl

theorem part49 (K : Dev nD × KI → ℕ) (c : Dev nD) :
    St m K c 8 5 32 5 28 28 ⊢ Run c (ap (k0_part49 (F := F)) c) (fun _ => St m K c 8 5 32 8 28 28) := by
  unfold ap; rw [k0_part49_eq_skeleton]; unfold k0_part49_skel
  simp only [Prog.lift, Prog.bind_op, Prog.bind_ret, Prog.pure_eq_ret]
  refine left ?_
  refine left ?_
  refine left ?_
  exact fin .rfl

theorem part50 (K : Dev nD × KI → ℕ) (c : Dev nD) :
    St m K c 8 5 32 8 28 28 ⊢ Run c (ap (k0_part50 (F := F)) c) (fun _ => St m K c 8 5 32 12 28 28) := by
  unfold ap; rw [k0_part50_eq_skeleton]; unfold k0_part50_skel
  simp only [Prog.lift, Prog.bind_op, Prog.bind_ret, Prog.pure_eq_ret]
  refine left ?_
  refine left ?_
  refine left ?_
  refine left ?_
  exact fin .rfl

theorem part51 (K : Dev nD × KI → ℕ) (c : Dev nD) :
    St m K c 8 5 32 12 28 28 ⊢ Run c (ap (k0_part51 (F := F)) c) (fun _ => St m K c 8 5 32 15 28 28) := by
  unfold ap; rw [k0_part51_eq_skeleton]; unfold k0_part51_skel
  simp only [Prog.lift, Prog.bind_op, Prog.bind_ret, Prog.pure_eq_ret]
  refine left ?_
  refine left ?_
  refine left ?_
  exact fin .rfl

theorem part52 (K : Dev nD × KI → ℕ) (c : Dev nD) :
    St m K c 8 5 32 15 28 28 ⊢ Run c (ap (k0_part52 (F := F)) c) (fun _ => St m K c 8 5 32 19 28 28) := by
  unfold ap; rw [k0_part52_eq_skeleton]; unfold k0_part52_skel
  simp only [Prog.lift, Prog.bind_op, Prog.bind_ret, Prog.pure_eq_ret]
  refine left ?_
  refine left ?_
  refine left ?_
  refine left ?_
  exact fin .rfl

theorem part53 (K : Dev nD × KI → ℕ) (c : Dev nD) :
    St m K c 8 5 32 19 28 28 ⊢ Run c (ap (k0_part53 (F := F)) c) (fun _ => St m K c 8 5 32 22 28 28) := by
  unfold ap; rw [k0_part53_eq_skeleton]; unfold k0_part53_skel
  simp only [Prog.lift, Prog.bind_op, Prog.bind_ret, Prog.pure_eq_ret]
  refine left ?_
  refine left ?_
  refine left ?_
  exact fin .rfl

theorem part54 (K : Dev nD × KI → ℕ) (c : Dev nD) :
    St m K c 8 5 32 22 28 28 ⊢ Run c (ap (k0_part54 (F := F)) c) (fun _ => St m K c 8 5 32 26 28 28) := by
  unfold ap; rw [k0_part54_eq_skeleton]; unfold k0_part54_skel
  simp only [Prog.lift, Prog.bind_op, Prog.bind_ret, Prog.pure_eq_ret]
  refine left ?_
  refine left ?_
  refine left ?_
  refine left ?_
  exact fin .rfl

theorem part55 (K : Dev nD × KI → ℕ) (c : Dev nD) (v2 v6) :
    St m K c 8 5 32 26 28 28 ⊢ Run c (ap (k0_part55 (F := F)) c v2 v6) (fun _ => St m K c 8 5 32 28 29 28) := by
  unfold ap; rw [k0_part55_eq_skeleton]; unfold k0_part55_skel
  simp only [Prog.lift, Prog.bind_op, Prog.bind_ret, Prog.pure_eq_ret]
  refine left ?_
  refine left ?_
  refine recvH ?_
  exact fin .rfl

theorem part56 (K : Dev nD × KI → ℕ) (c : Dev nD) (v2 v4 v1163) :
    St m K c 8 5 32 28 29 28 ⊢ Run c (ap (k0_part56 (F := F)) c v2 v4 v1163) (fun _ => St m K c 8 5 34 28 30 28) := by
  unfold ap; rw [k0_part56_eq_skeleton]; unfold k0_part56_skel
  simp only [Prog.lift, Prog.bind_op, Prog.bind_ret, Prog.pure_eq_ret]
  refine sendH ?_
  refine recvH ?_
  refine sendH ?_
  exact fin .rfl

theorem part57 (K : Dev nD × KI → ℕ) (c : Dev nD) (v2 v4 v6) :
    St m K c 8 5 34 28 30 28 ⊢ Run c (ap (k0_part57 (F := F)) c v2 v4 v6) (fun _ => St m K c 8 5 35 28 32 28) := by
  unfold ap; rw [k0_part57_eq_skeleton]; unfold k0_part57_skel
  simp only [Prog.lift, Prog.bind_op, Prog.bind_ret, Prog.pure_eq_ret]
  refine recvH ?_
  refine sendH ?_
  refine recvH ?_
  exact fin .rfl

theorem part58 (K : Dev nD × KI → ℕ) (c : Dev nD) (v2 v4 v6 v1214) :
    St m K c 8 5 35 28 32 28 ⊢ Run c (ap (k0_part58 (F := F)) c v2 v4 v6 v1214) (fun _ => St m K c 8 5 36 28 33 28) := by
  unfold ap; rw [k0_part58_eq_skeleton]; unfold k0_part58_skel
  simp only [Prog.lift, Prog.bind_op, Prog.bind_ret, Prog.pure_eq_ret]
  refine sendH ?_
  refine recvH ?_
  exact fin .rfl

theorem part59 (K : Dev nD × KI → ℕ) (c : Dev nD) (v2 v4 v6) :
    St m K c 8 5 36 28 33 28 ⊢ Run c (ap (k0_part59 (F := F)) c v2 v4 v6) (fun _ => St m K c 8 5 38 28 34 28) := by
  unfold ap; rw [k0_part59_eq_skeleton]; unfold k0_part59_skel
  simp only [Prog.lift, Prog.bind_op, Prog.bind_ret, Prog.pure_eq_ret]
  refine sendH ?_
  refine recvH ?_
  refine sendH ?_
  exact fin .rfl

theorem part60 (K : Dev nD × KI → ℕ) (c : Dev nD) (v2 v4 v6 v1261 c0_i32_1623) :
    St m K c 8 5 38 28 34 28 ⊢ Run c (ap (k0_part60 (F := F)) c v2 v4 v6 v1261 c0_i32_1623) (fun _ => St m K c 8 5 39 28 36 28) := by
  unfold ap; rw [k0_part60_eq_skeleton]; unfold k0_part60_skel
  simp only [Prog.lift, Prog.bind_op, Prog.bind_ret, Prog.pure_eq_ret]
  refine recvH ?_
  refine sendH ?_
  refine recvH ?_
  exact fin .rfl

theorem part61 (K : Dev nD × KI → ℕ) (c : Dev nD) (v2 v4 v6) :
    St m K c 8 5 39 28 36 28 ⊢ Run c (ap (k0_part61 (F := F)) c v2 v4 v6) (fun _ => St m K c 8 5 40 28 37 28) := by
  unfold ap; rw [k0_part61_eq_skeleton]; unfold k0_part61_skel
  simp only [Prog.lift, Prog.bind_op, Prog.bind_ret, Prog.pure_eq_ret]
  refine sendH ?_
  refine recvH ?_
  exact fin .rfl

theorem part62 (K : Dev nD × KI → ℕ) (c : Dev nD) (v2 v4 v6) :
    St m K c 8 5 40 28 37 28 ⊢ Run c (ap (k0_part62 (F := F)) c v2 v4 v6) (fun _ => St m K c 8 5 42 28 38 28) := by
  unfold ap; rw [k0_part62_eq_skeleton]; unfold k0_part62_skel
  simp only [Prog.lift, Prog.bind_op, Prog.bind_ret, Prog.pure_eq_ret]
  refine sendH ?_
  refine recvH ?_
  refine sendH ?_
  exact fin .rfl

theorem part63 (K : Dev nD × KI → ℕ) (c : Dev nD) (v2 v4 v6) :
    St m K c 8 5 42 28 38 28 ⊢ Run c (ap (k0_part63 (F := F)) c v2 v4 v6) (fun _ => St m K c 8 5 43 28 40 28) := by
  unfold ap; rw [k0_part63_eq_skeleton]; unfold k0_part63_skel
  simp only [Prog.lift, Prog.bind_op, Prog.bind_ret, Prog.pure_eq_ret]
  refine recvH ?_
  refine sendH ?_
  refine recvH ?_
  exact fin .rfl

theorem part64 (K : Dev nD × KI → ℕ) (c : Dev nD) (v2 v4 v6) :
    St m K c 8 5 43 28 40 28 ⊢ Run c (ap (k0_part64 (F := F)) c v2 v4 v6) (fun _ => St m K c 8 5 45 28 41 28) := by
  unfold ap; rw [k0_part64_eq_skeleton]; unfold k0_part64_skel
  simp only [Prog.lift, Prog.bind_op, Prog.bind_ret, Prog.pure_eq_ret]
  refine sendH ?_
  refine recvH ?_
  refine sendH ?_
  exact fin .rfl

theorem part65 (K : Dev nD × KI → ℕ) (c : Dev nD) (v2 v4 v6) :
    St m K c 8 5 45 28 41 28 ⊢ Run c (ap (k0_part65 (F := F)) c v2 v4 v6) (fun _ => St m K c 8 5 46 28 43 28) := by
  unfold ap; rw [k0_part65_eq_skeleton]; unfold k0_part65_skel
  simp only [Prog.lift, Prog.bind_op, Prog.bind_ret, Prog.pure_eq_ret]
  refine recvH ?_
  refine sendH ?_
  refine recvH ?_
  exact fin .rfl

theorem part66 (K : Dev nD × KI → ℕ) (c : Dev nD) (v2 v4 v6) :
    St m K c 8 5 46 28 43 28 ⊢ Run c (ap (k0_part66 (F := F)) c v2 v4 v6) (fun _ => St m K c 8 5 47 28 44 28) := by
  unfold ap; rw [k0_part66_eq_skeleton]; unfold k0_part66_skel
  simp only [Prog.lift, Prog.bind_op, Prog.bind_ret, Prog.pure_eq_ret]
  refine sendH ?_
  refine recvH ?_
  exact fin .rfl

theorem part67 (K : Dev nD × KI → ℕ) (c : Dev nD) (v2 v6 v1433) :
    St m K c 8 5 47 28 44 28 ⊢ Run c (ap (k0_part67 (F := F)) c v2 v6 v1433) (fun _ => St m K c 8 5 49 28 45 28) := by
  unfold ap; rw [k0_part67_eq_skeleton]; unfold k0_part67_skel
  simp only [Prog.lift, Prog.bind_op, Prog.bind_ret, Prog.pure_eq_ret]
  refine sendH ?_
  refine recvH ?_
  refine sendH ?_
  exact fin .rfl

theorem part68 (K : Dev nD × KI → ℕ) (c : Dev nD) (v2 v4 v6) :
    St m K c 8 5 49 28 45 28 ⊢ Run c (ap (k0_part68 (F := F)) c v2 v4 v6) (fun _ => St m K c 8 5 50 28 47 28) := by
  unfold ap; rw [k0_part68_eq_skeleton]; unfold k0_part68_skel
  simp only [Prog.lift, Prog.bind_op, Prog.bind_ret, Prog.pure_eq_ret]
  refine recvH ?_
  refine sendH ?_
  refine recvH ?_
  exact fin .rfl

theorem part69 (K : Dev nD × KI → ℕ) (c : Dev nD) (v2 v4 v6 v1484) :
    St m K c 8 5 50 28 47 28 ⊢ Run c (ap (k0_part69 (F := F)) c v2 v4 v6 v1484) (fun _ => St m K c 8 5 51 28 48 28) := by
  unfold ap; rw [k0_part69_eq_skeleton]; unfold k0_part69_skel
  simp only [Prog.lift, Prog.bind_op, Prog.bind_ret, Prog.pure_eq_ret]
  refine sendH ?_
  refine recvH ?_
  exact fin .rfl

theorem part70 (K : Dev nD × KI → ℕ) (c : Dev nD) (v2 v4 v6) :
    St m K c 8 5 51 28 48 28 ⊢ Run c (ap (k0_part70 (F := F)) c v2 v4 v6) (fun _ => St m K c 8 5 53 28 49 28) := by
  unfold ap; rw [k0_part70_eq_skeleton]; unfold k0_part70_skel
  simp only [Prog.lift, Prog.bind_op, Prog.bind_ret, Prog.pure_eq_ret]
  refine sendH ?_
  refine recvH ?_
  refine sendH ?_
  exact fin .rfl

theorem part71 (K : Dev nD × KI → ℕ) (c : Dev nD) (v2 v4 v6 v1531 c0_i32_1980) :
    St m K c 8 5 53 28 49 28 ⊢ Run c (ap (k0_part71 (F := F)) c v2 v4 v6 v1531 c0_i32_1980) (fun _ => St m K c 8 5 54 28 51 28) := by
  unfold ap; rw [k0_part71_eq_skeleton]; unfold k0_part71_skel
  simp only [Prog.lift, Prog.bind_op, Prog.bind_ret, Prog.pure_eq_ret]
  refine recvH ?_
  refine sendH ?_
  refine recvH ?_
  exact fin .rfl

theorem part72 (K : Dev nD × KI → ℕ) (c : Dev nD) (v2 v4 v6) :
    St m K c 8 5 54 28 51 28 ⊢ Run c (ap (k0_part72 (F := F)) c v2 v4 v6) (fun _ => St m K c 8 5 55 28 52 28) := by
  unfold ap; rw [k0_part72_eq_skeleton]; unfold k0_part72_skel
  simp only [Prog.lift, Prog.bind_op, Prog.bind_ret, Prog.pure_eq_ret]
  refine sendH ?_
  refine recvH ?_
  exact fin .rfl

theorem part73 (K : Dev nD × KI → ℕ) (c : Dev nD) (v4 v6) :
    St m K c 8 5 55 28 52 28 ⊢ Run c (ap (k0_part73 (F := F)) c v4 v6) (fun _ => St m K c 8 5 56 28 55 28) := by
  unfold ap; rw [k0_part73_eq_skeleton]; unfold k0_part73_skel
  simp only [Prog.lift, Prog.bind_op, Prog.bind_ret, Prog.pure_eq_ret]
  refine sendH ?_
  refine recvL ?_
  refine recvL ?_
  refine recvL ?_
  exact fin .rfl

theorem part74 (K : Dev nD × KI → ℕ) (c : Dev nD) (v4) :
    St m K c 8 5 56 28 55 28 ⊢ Run c (ap (k0_part74 (F := F)) c v4) (fun _ => St m K c 8 5 56 31 56 28) := by
  unfold ap; rw [k0_part74_eq_skeleton]; unfold k0_part74_skel
  simp only [Prog.lift, Prog.bind_op, Prog.bind_ret, Prog.pure_eq_ret]
  refine recvL ?_
  refine left ?_
  refine left ?_
  refine left ?_
  exact fin .rfl

theorem part75 (K : Dev nD × KI → ℕ) (c : Dev nD) :
    St m K c 8 5 56 31 56 28 ⊢ Run c (ap (k0_part75 (F := F)) c) (fun _ => St m K c 8 5 56 35 56 28) := by
  unfold ap; rw [k0_part75_eq_skeleton]; unfold k0_part75_skel
  simp only [Prog.lift, Prog.bind_op, Prog.bind_ret, Prog.pure_eq_ret]
  refine left ?_
  refine left ?_
  refine left ?_
  refine left ?_
  exact fin .rfl

theorem part76 (K : Dev nD × KI → ℕ) (c : Dev nD) :
    St m K c 8 5 56 35 56 28 ⊢ Run c (ap (k0_part76 (F := F)) c) (fun _ => St m K c 8 5 56 40 56 28) := by
  unfold ap; rw [k0_part76_eq_skeleton]; unfold k0_part76_skel
  simp only [Prog.lift, Prog.bind_op, Prog.bind_ret, Prog.pure_eq_ret]
  refine left ?_
  refine left ?_
  refine left ?_
  refine left ?_
  refine left ?_
  exact fin .rfl

theorem part77 (K : Dev nD × KI → ℕ) (c : Dev nD) :
    St m K c 8 5 56 40 56 28 ⊢ Run c (ap (k0_part77 (F := F)) c) (fun _ => St m K c 8 5 56 44 56 28) := by
  unfold ap; rw [k0_part77_eq_skeleton]; unfold k0_part77_skel
  simp only [Prog.lift, Prog.bind_op, Prog.bind_ret, Prog.pure_eq_ret]
  refine left ?_
  refine left ?_
  refine left ?_
  refine left ?_
  exact fin .rfl

theorem part78 (K : Dev nD × KI → ℕ) (c : Dev nD) :
    St m K c 8 5 56 44 56 28 ⊢ Run c (ap (k0_part78 (F := F)) c) (fun _ => St m K c 8 5 56 48 56 28) := by
  unfold ap; rw [k0_part78_eq_skeleton]; unfold k0_part78_skel
  simp only [Prog.lift, Prog.bind_op, Prog.bind_ret, Prog.pure_eq_ret]
  refine left ?_
  refine left ?_
  refine left ?_
  refine left ?_
  exact fin .rfl

theorem part79 (K : Dev nD × KI → ℕ) (c : Dev nD) :
    St m K c 8 5 56 48 56 28 ⊢ Run c (ap (k0_part79 (F := F)) c) (fun _ => St m K c 8 5 56 52 56 28) := by
  unfold ap; rw [k0_part79_eq_skeleton]; unfold k0_part79_skel
  simp only [Prog.lift, Prog.bind_op, Prog.bind_ret, Prog.pure_eq_ret]
  refine left ?_
  refine left ?_
  refine left ?_
  refine left ?_
  exact fin .rfl

end Cert.Ring

end
-- ==== Proof.Start.lean ====
/-
The beginning of the body: the signals to both neighbours, the buffer of zeros, the first window, and the wait for the
neighbours.
-/
module

public import proofs.«01_k».proof.Proof.Parts

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What a device starts message `e` with, but for the landing segment it is sent to. -/
def SPre (c : Dev nD) (e : Msg) : sProp 𝕄 :=
  iprop(atPos ER (sendCell c e) 0 ∅ 0 ∗ dutyTok ER (sendCell c e) 0 (0 : Fin 2) ∗ dutyTok ER (recvCell (mv e.2.1 1 c) e) 0 (0 : Fin 2))

/-- What a device's body starts from. -/
def Pre (K : Dev nD × KI → ℕ) (c : Dev nD) : sProp 𝕄 :=
  iprop((records m K ∗ levAts L lv) ∗ owesAny c (O₀ c) ∗ TI m c
    ∗ (dutyTok ER (barCell (mv 1 1 c)) 0 (0 : Fin 2) ∗ dutyTok ER (barCell (mv 0 1 c)) 0 (1 : Fin 2) ∗ atPos ER (barCell c) 0 ∅ 0 ∗ cred (tallyAt (barCell c) () 2))
    ∗ (anyM c (lM 0) ∗ anyM c (lM 1)) ∗ (∃ f, oPts c Finset.univ f)
    ∗ (bigSep Finset.univ fun σ => semVal (gCell c σ) 0)
    ∗ bigSep Finset.univ (SPre c) ∗ bigSep Finset.univ (RSt m c 0 0))

/-- The landing segments of direction `d`, as messages. -/
def landE : Fin 2 × (Fin 7 × Fin 2) ↪ Msg where
  toFun p := (p.2.1.castLE (by decide), p.1, p.2.2)
  inj' := by decide
theorem landE_map : Finset.univ.map landE = Finset.univ.filter fun e : Msg => e.1.val < 7 := by decide +kernel

theorem land_segs (c : Dev nD) :
    (iprop(barPay c 0 ∗ barPay c 1) : sProp 𝕄) ⊢ bigSep Finset.univ fun e : Msg => if e.1.val < 7 then anyM (mv e.2.1 1 c) (lSeg e.2.1 e.1.val e.2.2) else iprop(emp) := by
  have h : (bigSep (Finset.univ.filter fun e : Msg => e.1.val < 7) fun e => anyM (mv e.2.1 1 c) (lSeg e.2.1 e.1.val e.2.2) : sProp 𝕄)
      = bigSep Finset.univ fun e : Msg => if e.1.val < 7 then anyM (mv e.2.1 1 c) (lSeg e.2.1 e.1.val e.2.2) else iprop(emp) := BI.bigSep_filter _ _ _
  rw [← h, ← landE_map, BI.bigSep_map, BI.bigSep_univ_prod, BI.bigSep_fin_two]
  show (iprop(barPay c 0 ∗ barPay c 1) : sProp 𝕄) ⊢ iprop((bigSep Finset.univ fun t : Fin 7 × Fin 2 => anyM (mv 0 1 c) (lSeg 0 t.1.val t.2))
    ∗ bigSep Finset.univ fun t : Fin 7 × Fin 2 => anyM (mv 1 1 c) (lSeg 1 t.1.val t.2))
  iintro ⟨H0, H1⟩
  isplitl [H0]
  · iapply (land_cut (mv 0 1 c) 0); unfold barPay; iexact H0
  · iapply (land_cut (mv 1 1 c) 1); unfold barPay; iexact H1

theorem sends_start (c : Dev nD) :
    (iprop(bigSep Finset.univ (SPre c) ∗ barPay c 0 ∗ barPay c 1) : sProp 𝕄) ⊢ bigSep Finset.univ (SSt m c 0 0) := by
  have h : (iprop(bigSep Finset.univ (SPre c) ∗ bigSep Finset.univ fun e : Msg => if e.1.val < 7 then anyM (mv e.2.1 1 c) (lSeg e.2.1 e.1.val e.2.2) else iprop(emp)) : sProp 𝕄)
      ⊢ bigSep Finset.univ (SSt m c 0 0) := by
    rw [← big_sep]
    refine big_mono fun e _ => ?_
    rw [SSt_todo m c 0 0 e (Nat.zero_le _) (Nat.zero_le _)]
    unfold SPre
    iintro ⟨⟨H1, H2, H3⟩, H4⟩
    isplitl [H1]; · iexact H1
    isplitl [H2]; · iexact H2
    isplitl [H3]; · iexact H3
    iexact H4
  iintro ⟨H1, H2⟩
  iapply h
  isplitl [H1]; · iexact H1
  iapply (land_segs c); iexact H2

theorem segs_start (c : Dev nD) : (bigSep Finset.univ (TSt m c 0 0 0 0) : sProp 𝕄) = iprop(emp) := by
  have h : (TSt m c 0 0 0 0 : Msg → sProp 𝕄) = fun _ => iprop(emp) := by
    funext e
    have h4 : ord e = 4 * e.1.val + 2 * e.2.2.val + e.2.1.val := rfl
    unfold TSt
    rw [if_neg (Nat.not_lt_zero _)]
    by_cases h1 : (1 ≤ e.1.val ∧ e.1.val ≤ 7) ∧ 4 + 0 ≤ ord e
    · rw [if_pos h1, if_neg (Nat.not_lt_zero _)]
    · rw [if_neg h1]
      by_cases h8 : 8 ≤ e.1.val ∧ 4 + 0 ≤ ord e
      · rw [if_pos h8]
      · rw [if_neg h8, if_pos ⟨by omega, rfl⟩]
  rw [h]
  exact BI.bigSep_emp_const _

theorem windows_start (c : Dev nD) :
    (iprop((bigSep Finset.univ fun σ => semVal (gCell c σ) 0) ∗ oPts c Finset.univ (k0_pay1 (F := F))) : sProp 𝕄) = bigSep Finset.univ (GP m c 0 0) := by
  rw [windows_cut m c, ← big_sep]
  refine congrArg _ (funext fun σ => ?_)
  unfold GP
  rw [if_neg (Nat.not_lt_zero _), if_pos (Nat.zero_le _)]
  rfl

/-- The result buffer's whole rectangle. -/
abbrev r0 : Rect S2048x1024 := Rect.unit (s := S2048x1024) ![0, 0] S2048x1024.size inb_S2048x1024_S2048x1024_0_0
theorem hz : (![0, 0] : Fin 2 → Nat) = fun _ => 0 := funext fun a => by fin_cases a <;> rfl
theorem write_out (f w : (cc0_stg1_0 : Ref sig .tc).ty.Contents (Elt F)) :
    (oM.access r0 : View sig .tc _ _ _).write (Elt F) f w Finset.univ = w :=
  Memref.write_access_unit_zero_univ (Elt F) cc0_stg1_0 hz _ f w
theorem back0 : ∀ c : Dev nD, mv 0 1 (mv 1 1 c) = c := by decide +kernel
theorem back1 : ∀ c : Dev nD, mv 1 1 (mv 0 1 c) = c := by decide +kernel
theorem dev1_eq : ∀ c : Dev nD, (⟨k0_dev1 c, k0_dev1_lt c⟩ : Dev nD) = mv 1 1 c := by decide +kernel
theorem dev2_eq : ∀ c : Dev nD, (⟨k0_dev2 c, k0_dev2_lt c⟩ : Dev nD) = mv 0 1 c := by decide +kernel

section Core

variable {m}
variable {K : Dev nD × KI → ℕ} {c : Dev nD} {α : Type} {Q : α → sProp (MT nD τ sig Unit (Elt F) ℕ UU ℕ)}

/-- All of a device's tables at the first message, the first window issued. -/
theorem state_start :
    (iprop((records m K ∗ levAts L lv) ∗ owesAny c (owed c 0) ∗ TI m c ∗ semVal (barCell c) 0 ∗ bigSep Finset.univ (GP m c 1 0)
      ∗ bigSep Finset.univ (SPre c) ∗ bigSep Finset.univ (RSt m c 0 0) ∗ barPay c 0 ∗ barPay c 1) : sProp (MT nD τ sig Unit (Elt F) ℕ UU ℕ))
      ⊢ St m K c 1 0 0 0 0 0 := by
  unfold St
  rw [segs_start]
  iintro ⟨HR, HO, HTI, Hb, HG, HS, HV, Hp⟩
  isplitl [HR]; · iexact HR
  isplitl [HO]; · iexact HO
  isplitl [HTI]; · iexact HTI
  isplitl [Hb]; · iexact Hb
  isplitl [HG]; · iexact HG
  isplitl [HS Hp]
  · iapply (sends_start m c)
    isplitl [HS]; · iexact HS
    iexact Hp
  isplitl [HV]; · iexact HV
  iempintro

theorem first_window :
    (bigSep Finset.univ (GP m c 0 0) : sProp (MT nD τ sig Unit (Elt F) ℕ UU ℕ)) ⊢ iprop(GP m c 0 0 0 ∗ (GP m c 1 0 0 -∗ bigSep Finset.univ (GP m c 1 0))) :=
  big_step (F := F) 0 (GP_issue m c 0 0 (by decide))

theorem first_issued : (GP m c 1 0 0 : sProp (MT nD τ sig Unit (Elt F) ℕ UU ℕ)) = Iss m c 0 (0 + 256) :=
  GP_after m c 0 0 (σ := 0) (by decide) (by decide)

/-- The first window's wait, and the piece's results. -/
theorem part9_end (K : Dev nD × KI → ℕ) (c : Dev nD) (v4 v6 v22 : BitVec 32) (hw : k0_chk5 (got m c 0 0)) :
    St m K c 1 0 0 0 0 0 ⊢ Run c (Scf.Loop.for (k0_t2_loop (got m c 0 0)) (k0_t2_ok _ hw) ⟨⟩ (ap (k0_t2_body (F := F)) (got m c 0 0) hw) >>= fun _ =>
        .ret (⟨c, Scalar.remsi (Scalar.divsi (Dev.word c) 1#32) 8#32, v4, v6, got m c 0 0, hw, v22, 1#32⟩ :
          Σ' (d0 : Dev nD) (v2 : BitVec 32) (v4 : BitVec 32) (v6 : BitVec 32) (v17 : BitVec 32) (k0_hw5 : k0_chk5 v17) (v22 : BitVec 32), BitVec 32))
      (fun r => iprop(⌜r.1 = c ∧ r.2.1 = Scalar.remsi (Scalar.divsi (Dev.word c) 1#32) 8#32 ∧ r.2.2.2.2.1 = got m c 0 0⌝ ∗ St m K c 1 1 0 0 0 0)) :=
  by
  refine drain (got_one m c 0 rfl) ?_
  exact finP ⟨rfl, rfl, rfl⟩

theorem part9 (K : Dev nD × KI → ℕ) (c : Dev nD) :
    Pre m K c ⊢ Run c (ap (k0_part9 (F := F))) (fun r => iprop(⌜r.1 = c ∧ r.2.1 = Scalar.remsi (Scalar.divsi (Dev.word c) 1#32) 8#32 ∧ r.2.2.2.2.1 = got m c 0 0⌝ ∗ St m K c 1 1 0 0 0 0)) := by
  unfold ap; rw [k0_part9_eq_skeleton]; unfold k0_part9_skel Run
  simp only [semSignalWord, semWaitWord, Prog.lift, Prog.bind_op, Prog.bind_ret, Prog.pure_eq_ret, wp_deviceId]
  unfold Pre owesAny
  iintro ⟨⟨#HR, #Hlev⟩, ⟨%W, HO⟩, HTI, ⟨Ht0, Ht1, Hat, Hc⟩, ⟨Hl0, Hl1⟩, ⟨%f, Ho⟩, Hz, HS, HV⟩
  simp only [dev1_eq c, dev2_eq c]
  unfold O₀
  ihave Hrec := (rec_at m K (mv 1 1 c, .inl ())) $$ HR
  icases Hrec with ⟨#HI0, #Hr0⟩
  iapply (Rounds.wp_signal 𝒱₀ ER (Rd m) (c : Thread nD τ) none (dst := (mv 1 1 c : Thread nD τ)) (κ := K (mv 1 1 c, .inl ()))
      (d := (0 : Fin 2)) (by rw [duties_bar]; exact Finset.mem_univ _) ((amount_bar m (mv 1 1 c) 0).trans (by decide)) () (O₁ c) rfl) $$ [HO Ht0 Hl0]
  · isplitr; · iexact HI0
    isplitl [HO]; · iexact HO
    isplitl [Ht0]; · iexact Ht0
    isplitl [Hl0]
    · rw [payload_bar]; unfold barPay; rw [back0]; iexact Hl0
    · iexact Hr0
  iintro HO
  unfold O₁
  ihave Hrec := (rec_at m K (mv 0 1 c, .inl ())) $$ HR
  icases Hrec with ⟨#HI1, #Hr1⟩
  iapply (Rounds.wp_signal 𝒱₀ ER (Rd m) (c : Thread nD τ) none (dst := (mv 0 1 c : Thread nD τ)) (κ := K (mv 0 1 c, .inl ()))
      (d := (1 : Fin 2)) (by rw [duties_bar]; exact Finset.mem_univ _) ((amount_bar m (mv 0 1 c) 1).trans (by decide)) () (owed c 0) rfl) $$ [HO Ht1 Hl1]
  · isplitr; · iexact HI1
    isplitl [HO]; · iexact HO
    isplitl [Ht1]; · iexact Ht1
    isplitl [Hl1]
    · rw [payload_bar]; unfold barPay; rw [back1]; iexact Hl1
    · iexact Hr1
  iintro HO
  iapply (wp_load 𝒱₀ (c : Thread nD τ) none Set.univ (m := oM) (Finset.subset_univ _)) $$ Ho; iintro Ho
  iapply (wp_store 𝒱₀ (c : Thread nD τ) none Set.univ (m := oM) (r := r0) (Mk := Finset.univ) (Finset.subset_univ _)) $$ Ho; iintro Ho
  rw [write_out, wp_bind]
  ihave HG := (Entails.of_eq (windows_start m c)) $$ [Hz Ho]
  · isplitl [Hz]; · iexact Hz
    iexact Ho
  ihave HG := first_window $$ HG
  icases HG with ⟨Hσ, HG⟩
  imod (GP_before m c 0 0 (σ := 0) (by decide) (by decide)) $$ Hσ with Hσ
  ihave Hwp := (wp_issue m c (Scalar.remsi (Scalar.divsi (Dev.word c) 1#32) 8#32) rfl 0 0 (by decide) k0_t1_loop k0_t1_ok rfl _ (trip1 c _ _ _)) $$ [HTI Hσ]
  · isplitl [HTI]; · iexact HTI
    iexact Hσ
  iapply (wp_wand _ _ _) $$ Hwp
  iintro %r ⟨%hr, HTI, Hσ⟩
  rw [show r = got m c 0 0 from hr]
  rw [wp_assume_of 𝒱₀ (c : Thread nD τ) none Set.univ (k0_chk5_all _)]
  ihave Hσ := (Entails.of_eq first_issued.symm) $$ Hσ
  ihave HG := HG $$ Hσ
  ihave Hrec := (rec_at m K (c, .inl ())) $$ HR
  icases Hrec with ⟨#HI2, #Hr2⟩
  iapply (Rounds.wp_wait_rest_token 𝒱₀ ER (Rd m) (c : Thread nD τ) none (κ := K (c, .inl ()))
      (wpE_semWait_eq 𝒱₀ (c : Thread nD τ) none Set.univ) (Set.mem_univ _) () (O := owed c 0) (W := W) (R := 0) (m := 0) (T := ∅)
      (by rw [expect_bar]; decide)) $$ [Hc HO Hat]
  · isplitr; · iexact HI2
    isplitl [Hc]; · iexact Hc
    isplitl [HO]; · iexact HO
    isplitr; · iapply (mayWait_owed (F := F) c (.reg barS) 1 0 (Nat.le_refl 1) (fun e _ => by omega)); iexact Hlev
    iexact Hat
  iintro ⟨HO, Hat, -, Hpay⟩
  ihave Hp := (Entails.of_eq (rest_bar m c)) $$ Hpay
  imod (Rounds.cell_close ER (Rd m) (Set.mem_univ (K (c, .inl ()))) (fun h => h) (R := 0 + 1) (duties_later m (barCell c))) $$ [Hat] with Hb
  · isplitr; · iexact HI2
    iexact Hat
  iapply (part9_end K c _ _ _ _)
  iapply state_start
  isplitr
  · isplitr; · iexact HR
    iexact Hlev
  isplitl [HO]; · unfold owesAny; iexists _; iexact HO
  isplitl [HTI]; · iexact HTI
  isplitl [Hb]; · iexact Hb
  isplitl [HG]; · iexact HG
  isplitl [HS]; · iexact HS
  isplitl [HV]; · iexact HV
  iexact Hp

theorem part10 (K : Dev nD × KI → ℕ) (c : Dev nD) (v2 v4 v6 hw v22 c1) :
    St m K c 1 1 0 0 0 0 ⊢ Run c (ap (k0_part10 (F := F)) c v2 v4 v6 (got m c 0 0) hw v22 c1) (fun _ => St m K c 1 1 1 0 0 0) := by
  unfold ap; rw [k0_part10_eq_skeleton]; unfold k0_part10_skel
  simp only [Prog.lift, Prog.bind_op, Prog.bind_ret, Prog.pure_eq_ret]
  refine skip (got_one m c 0 rfl) (cnt_row m c 0) ?_
  clear hw
  refine sendL ?_
  exact fin .rfl

end Core

end Cert.Ring

end
-- ==== Proof.Body.lean ====
/-
The body, from its start to the last wait: its pieces one after another.
-/
module

public import proofs.«01_k».proof.Proof.Start

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ}

theorem part80 (K : Dev nD × KI → ℕ) (c : Dev nD) :
    Pre m K c ⊢ Run c (ap (k0_part80 (F := F))) (fun r => iprop(⌜r.1 = c⌝ ∗ St m K c 8 5 50 28 47 28)) := by
  unfold ap; rw [k0_part80_eq_skeleton]; unfold k0_part80_skel
  refine seqP (part9 K c) fun ⟨d0, v2, v4, v6, v17, hw5, v22, c1⟩ h => ?_
  obtain ⟨h1, h2, h3⟩ := h
  dsimp only at h1 h2 h3
  subst h1; subst h2; subst h3
  refine seq (part10 K _ _ _ _ _ _ _) fun _ => ?_
  refine seq (part11 K _ _ _ _) fun _ => ?_
  refine seqP (part12 K _ _) fun ⟨v80, v86, k0_hw14, v87, v89, v92⟩ h => ?_
  obtain ⟨h1, h2⟩ := h
  dsimp only at h1 h2
  subst h1; subst h2
  refine seq (part13 K _ _ _ _ _ _) fun _ => ?_
  refine seq (part14 K _ _ _ _) fun ⟨_, _⟩ => ?_
  refine seq (part15 K _ _ _ _ _ _) fun _ => ?_
  refine seq (part16 K _ _ _ _ _) fun _ => ?_
  refine seqP (part17 K _ _ _) fun ⟨v223, v230, k0_hw23⟩ h => ?_
  obtain ⟨h1, h2⟩ := h
  dsimp only at h1 h2
  subst h1; subst h2
  refine seqP (part18 K _ _ _ _) fun ⟨v233, v236, v256⟩ h => ?_
  dsimp only at h
  subst h
  refine seqP (part19 K _ _ _ _ _) fun ⟨v280, v282⟩ h => ?_
  dsimp only at h
  subst h
  refine seq (part20 K _ _ _ _ _) fun _ => ?_
  refine seq (part21 K _ _ _ _ _) fun _ => ?_
  refine seq (part22 K _ _ _ _) fun ⟨_, _⟩ => ?_
  refine seqP (part23 K _ _ _ _) fun ⟨v367, v374, k0_hw32, v375, v377, v380⟩ h => ?_
  obtain ⟨h1, h2⟩ := h
  dsimp only at h1 h2
  subst h1; subst h2
  refine seq (part24 K _ _ _ _ _ _) fun _ => ?_
  refine seq (part25 K _ _ _ _) fun _ => ?_
  refine seq (part26 K _ _ _ _) fun _ => ?_
  refine seq (part27 K _ _ _ _ _) fun _ => ?_
  refine seqP (part28 K _ _ _) fun ⟨v511, k0_hw37, v513, v516, c1_i32_603⟩ h => ?_
  dsimp only at h
  subst h
  refine seq (part29 K _ _ _ _ _ _) fun _ => ?_
  refine seq (part30 K _ _ _ _ _) fun _ => ?_
  refine seq (part31 K _ _ _ _) fun _ => ?_
  refine seqP (part32 K _ _ _ _ _ _) fun ⟨v620, v623⟩ h => ?_
  dsimp only at h
  subst h
  refine seq (part33 K _ _ _ _ _) fun ⟨_, _⟩ => ?_
  refine seq (part34 K _ _ _ _) fun _ => ?_
  refine seq (part35 K _ _ _ _) fun _ => ?_
  refine seq (part36 K _ _ _ _) fun _ => ?_
  refine seq (part37 K _ _ _ _) fun _ => ?_
  refine seqP (part38 K _ _ _ _) fun ⟨v768, v771, v780, v783⟩ h => ?_
  dsimp only at h
  subst h
  refine seq (part39 K _ _ _ _ _ _) fun ⟨_, _⟩ => ?_
  refine seq (part40 K _ _ _ _ _ _) fun _ => ?_
  refine seq (part41 K _ _ _ _) fun _ => ?_
  refine seq (part42 K _ _ _ _) fun _ => ?_
  refine seq (part43 K _ _ _) fun ⟨_, _⟩ => ?_
  refine seq (part44 K _ _ _ _ _) fun _ => ?_
  refine seq (part45 K _ _ _ _ _) fun _ => ?_
  refine seqP (part46 K _ _ _ _ _ _) fun ⟨v992, v998⟩ h => ?_
  dsimp only at h
  subst h
  refine seq (part47 K _ _ _ _) fun _ => ?_
  refine seq (part48 K _) fun _ => ?_
  refine seq (part49 K _) fun _ => ?_
  refine seq (part50 K _) fun _ => ?_
  refine seq (part51 K _) fun _ => ?_
  refine seq (part52 K _) fun _ => ?_
  refine seq (part53 K _) fun _ => ?_
  refine seq (part54 K _) fun _ => ?_
  refine seq (part55 K _ _ _) fun _ => ?_
  refine seq (part56 K _ _ _ _) fun _ => ?_
  refine seq (part57 K _ _ _ _) fun _ => ?_
  refine seq (part58 K _ _ _ _ _) fun _ => ?_
  refine seq (part59 K _ _ _ _) fun ⟨_, _⟩ => ?_
  refine seq (part60 K _ _ _ _ _ _) fun _ => ?_
  refine seq (part61 K _ _ _ _) fun _ => ?_
  refine seq (part62 K _ _ _ _) fun _ => ?_
  refine seq (part63 K _ _ _ _) fun _ => ?_
  refine seq (part64 K _ _ _ _) fun _ => ?_
  refine seq (part65 K _ _ _ _) fun _ => ?_
  refine seq (part66 K _ _ _ _) fun _ => ?_
  refine seq (part67 K _ _ _ _) fun _ => ?_
  refine seq (part68 K _ _ _ _) fun _ => ?_
  exact finP rfl

theorem run_body (K : Dev nD × KI → ℕ) (c : Dev nD) :
    Pre m K c ⊢ Run c (ap (cc0_body (F := F))) (fun _ => St m K c 8 5 56 56 56 28) := by
  unfold ap; rw [cc0_body_eq_skeleton]; unfold cc0_body_skel
  refine seqP (part80 K c) fun ⟨d0, v2, v4, v6, v1484⟩ h => ?_
  dsimp only at h
  subst h
  refine seq (part69 K _ _ _ _ _) fun _ => ?_
  refine seq (part70 K _ _ _ _) fun ⟨_, _⟩ => ?_
  refine seq (part71 K _ _ _ _ _ _) fun _ => ?_
  refine seq (part72 K _ _ _ _) fun _ => ?_
  refine seq (part73 K _ _ _) fun _ => ?_
  refine seq (part74 K _ _) fun _ => ?_
  refine seq (part75 K _) fun _ => ?_
  refine seq (part76 K _) fun _ => ?_
  refine seq (part77 K _) fun _ => ?_
  refine seq (part78 K _) fun _ => ?_
  refine seq (part79 K _) fun _ => ?_
  simp only [Prog.lift, Prog.bind_op, Prog.bind_ret, Prog.pure_eq_ret]
  refine left ?_
  refine left ?_
  refine left ?_
  refine left ?_
  exact fin .rfl

end Cert.Ring

end
-- ==== Proof.End.lean ====
/-
What a device holds at the end of the body: the result buffer whole, at a value that does not depend on the device, both
landing buffers, the table and the indices, and every semaphore at zero.
-/
module

public import proofs.«01_k».proof.Proof.Body

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The result: each segment's chain after seven additions. -/
def res : S2048x1024.Idx → Elt F .f32 := fun j =>
  chain m ⟨(j 1).val / 512, Nat.div_lt_of_lt_mul (j 1).isLt⟩ ⟨(j 0).val / 256, Nat.div_lt_of_lt_mul (j 0).isLt⟩
    ⟨(j 0).val % 256 / 128, Nat.div_lt_of_lt_mul (Nat.mod_lt _ (by decide))⟩ 7
    (fun a => match a with
      | ⟨0, _⟩ => ⟨(j 0).val % 128, Nat.mod_lt _ (by decide)⟩
      | ⟨1, _⟩ => ⟨(j 1).val % 512, Nat.mod_lt _ (by decide)⟩)

theorem chain_at {d d' : Fin 2} {k k' : Fin 8} {h h' : Fin 2} {s : ℕ} {y y' : S128x512.Idx} (hd : d = d') (hk : k = k') (hh : h = h') (hy : y = y') :
    chain m d k h s y = chain m d' k' h' s y' := by subst hd; subst hk; subst hh; subst hy; rfl

theorem res_read (k : Fin 8) (d h : Fin 2) : (oSeg k d h).view.read (Elt F) (res m) = chain m d k h 7 := by
  funext y
  have hy0 : (y 0).val < 128 := (y 0).isLt
  have hy1 : (y 1).val < 512 := (y 1).isLt
  have h0 : (((oSeg k d h).view.emb y) 0).val = 256 * k.val + 128 * h.val + 1 * (y 0).val := rfl
  have h1 : (((oSeg k d h).view.emb y) 1).val = 512 * d.val + 1 * (y 1).val := rfl
  have := h.isLt
  show res m ((oSeg k d h).view.emb y) = _
  unfold res
  refine chain_at m (Fin.ext ?_) (Fin.ext ?_) (Fin.ext ?_) (funext fun a => Fin.ext ?_)
  · show (((oSeg k d h).view.emb y) 1).val / 512 = d.val
    rw [h1]; omega
  · show (((oSeg k d h).view.emb y) 0).val / 256 = k.val
    rw [h0]; omega
  · show (((oSeg k d h).view.emb y) 0).val % 256 / 128 = h.val
    rw [h0]; omega
  · fin_cases a
    · show (((oSeg k d h).view.emb y) 0).val % 128 = (y 0).val
      rw [h0]; omega
    · show (((oSeg k d h).view.emb y) 1).val % 512 = (y 1).val
      rw [h1]; omega

/-! ## The result's segments: those a device has sent on, and the two it received last -/

abbrev sentE : Fin 7 × Fin 2 × Fin 2 ↪ Msg where
  toFun p := (p.1.addNat 7, p.2)
  inj' := by decide
theorem sentE_map : Finset.univ.map sentE = Finset.univ.filter fun e : Msg => ¬ e.1.val < 7 := by decide +kernel
abbrev lastE : Fin 2 × Fin 2 ↪ Msg where
  toFun p := (13, p)
  inj' := by decide
theorem lastE_map : Finset.univ.map lastE = Finset.univ.filter fun e : Msg => e.1.val = 13 := by decide +kernel

/-- Where a finished segment lies. -/
def place (c : Dev nD) : (Fin 7 × Fin 2 × Fin 2) ⊕ (Fin 2 × Fin 2) → Fin 8 × Fin 2 × Fin 2
  | .inl p => (mv p.2.1 (7 * (p.1.val + 7)) c, p.2)
  | .inr p => (mv p.1 (7 * (13 + 1)) c, p)
theorem place_inl : ∀ (c : Dev nD) (p q : Fin 7 × Fin 2 × Fin 2), mv p.2.1 (7 * (p.1.val + 7)) c = mv q.2.1 (7 * (q.1.val + 7)) c → p.2 = q.2 → p = q := by
  decide +kernel
theorem place_inr : ∀ (c : Dev nD) (p : Fin 7 × Fin 2 × Fin 2), mv p.2.1 (7 * (p.1.val + 7)) c ≠ mv p.2.1 (7 * (13 + 1)) c := by
  decide +kernel
theorem place_inj (c : Dev nD) : Function.Injective (place c) := by
  rintro (p | p) (q | q) h
  · have h1 := congrArg Prod.fst h; have h2 := congrArg Prod.snd h
    rw [place_inl c p q h1 h2]
  · have h1 := congrArg Prod.fst h; have h2 : p.2 = q := congrArg Prod.snd h
    subst h2; exact absurd h1 (place_inr c p)
  · have h1 := congrArg Prod.fst h; have h2 : p = q.2 := congrArg Prod.snd h
    subst h2; exact absurd h1.symm (place_inr c q)
  · have h2 : p = q := congrArg Prod.snd h
    rw [h2]
def placeE (c : Dev nD) : ((Fin 7 × Fin 2 × Fin 2) ⊕ (Fin 2 × Fin 2)) ≃ Fin 8 × Fin 2 × Fin 2 :=
  Equiv.ofBijective (place c) ((Fintype.bijective_iff_injective_and_card _).mpr ⟨place_inj c, by simp⟩)

theorem res_join (c : Dev nD) :
    (iprop((bigSep Finset.univ fun p => sendPay m c (sentE p)) ∗ bigSep Finset.univ fun p => recvPay m c (lastE p)) : sProp 𝕄)
      ⊢ own c oM (res m) := by
  refine BIBase.Entails.trans ?_ (out_join c (res m))
  rw [BI.bigSep_univ_equiv (placeE c), BI.bigSep_univ_sum]
  refine BIClass.sep_mono (big_mono fun p _ => ?_) (big_mono fun p _ => ?_)
  · show sendPay m c (sentE p) ⊢ own c (oSeg (mv p.2.1 (7 * (p.1.val + 7)) c) p.2.1 p.2.2) _
    rw [res_read]
    unfold sendPay
    rw [if_neg (by show ¬ p.1.val + 7 < 7; omega)]
    exact BI.Entails.refl _
  · show recvPay m c (lastE p) ⊢ own c (oSeg (mv p.1 (7 * (13 + 1)) c) p.1 p.2) _
    rw [res_read]
    unfold recvPay
    rw [if_neg (by show ¬ 13 < 7; omega)]
    iintro ⟨H, -⟩; iexact H

/-! ## The tables at the end -/

theorem sends_end (c : Dev nD) :
    (bigSep Finset.univ (SSt m c 56 56) : sProp 𝕄)
      ⊢ iprop((bigSep Finset.univ fun e => semVal (sendCell c e) 0) ∗ bigSep Finset.univ fun p => sendPay m c (sentE p)) := by
  have h : (bigSep Finset.univ (SSt m c 56 56) : sProp 𝕄) = bigSep Finset.univ fun e => iprop(semVal (sendCell c e) 0 ∗ sendPay m c e) :=
    BI.bigSep_congr fun e _ => SSt_done m c 56 56 e (ord_lt e)
  have h' : (bigSep (Finset.univ.filter fun e : Msg => ¬ e.1.val < 7) (sendPay m c) : sProp 𝕄)
      = bigSep Finset.univ fun p => sendPay m c (sentE p) := by rw [← sentE_map, BI.bigSep_map]
  rw [h, big_sep, ← h', BI.bigSep_filter]
  refine BIClass.sep_mono (BI.Entails.refl _) (big_mono fun e _ => ?_)
  split
  · exact BI.Entails.refl _
  · rename_i hn
    unfold sendPay; rw [if_pos (by omega)]; exact BI.Entails.refl _

theorem land_segs_end (c : Dev nD) :
    (bigSep Finset.univ fun e : Msg => if e.1.val < 7 then (anyM c (lSeg e.2.1 e.1.val e.2.2) : sProp 𝕄) else iprop(emp)) ⊢ iprop(anyM c (lM 0) ∗ anyM c (lM 1)) := by
  have h : (bigSep (Finset.univ.filter fun e : Msg => e.1.val < 7) fun e => anyM c (lSeg e.2.1 e.1.val e.2.2) : sProp 𝕄)
      = bigSep Finset.univ fun e : Msg => if e.1.val < 7 then anyM c (lSeg e.2.1 e.1.val e.2.2) else iprop(emp) := BI.bigSep_filter _ _ _
  rw [← h, ← landE_map, BI.bigSep_map, BI.bigSep_univ_prod, BI.bigSep_fin_two]
  show (iprop((bigSep Finset.univ fun t : Fin 7 × Fin 2 => anyM c (lSeg 0 t.1.val t.2))
    ∗ bigSep Finset.univ fun t : Fin 7 × Fin 2 => anyM c (lSeg 1 t.1.val t.2)) : sProp 𝕄) ⊢ _
  exact BIClass.sep_mono (land_join c 0) (land_join c 1)

theorem recvs_end (c : Dev nD) :
    (bigSep Finset.univ (RSt m c 56 28) : sProp 𝕄)
      ⊢ iprop((bigSep Finset.univ fun e => semVal (recvCell c e) 0) ∗ (anyM c (lM 0) ∗ anyM c (lM 1)) ∗ bigSep Finset.univ fun p => recvPay m c (lastE p)) := by
  have h : (bigSep Finset.univ (RSt m c 56 28) : sProp 𝕄) ⊢ bigSep Finset.univ fun e : Msg => iprop(semVal (recvCell c e) 0
      ∗ (if e.1.val < 7 then anyM c (lSeg e.2.1 e.1.val e.2.2) else iprop(emp)) ∗ (if e.1.val = 13 then recvPay m c e else iprop(emp))) := by
    refine big_mono fun e _ => ?_
    rw [RSt_here m c 56 28 e (rord_lt e)]
    refine BIClass.sep_mono (BI.Entails.refl _) ?_
    have := e.2.1.isLt; have := e.2.2.isLt
    by_cases h7 : e.1.val < 7
    · have hr : rord e < 28 := by rw [rord_low (by omega)]; unfold ord; omega
      rw [if_pos h7, if_pos h7, if_pos hr, if_neg (by omega)]
      iintro H; isplitl [H]; · iexact H
      iempintro
    · rw [if_neg h7, if_neg h7]
      iintro H; isplitr; · iempintro
      iexact H
  have h' : (bigSep (Finset.univ.filter fun e : Msg => e.1.val = 13) (recvPay m c) : sProp 𝕄)
      = bigSep Finset.univ fun p => recvPay m c (lastE p) := by rw [← lastE_map, BI.bigSep_map]
  refine h.trans ?_
  rw [big_sep, big_sep, ← h', BI.bigSep_filter]
  exact BIClass.sep_mono (BI.Entails.refl _) (BIClass.sep_mono (land_segs_end c) (BI.Entails.refl _))

theorem windows_end (c : Dev nD) : (bigSep Finset.univ (GP m c 8 5) : sProp 𝕄) = bigSep Finset.univ fun σ => semVal (gCell c σ) 0 :=
  BI.bigSep_congr fun σ _ => by unfold GP; rw [if_pos σ.isLt]

/-- What a device's body ends with. -/
def Post (c : Dev nD) : sProp 𝕄 :=
  iprop(owesAny c 0 ∗ TI m c ∗ semVal (barCell c) 0 ∗ (bigSep Finset.univ fun σ => semVal (gCell c σ) 0)
    ∗ (bigSep Finset.univ fun e => semVal (sendCell c e) 0) ∗ (bigSep Finset.univ fun e => semVal (recvCell c e) 0)
    ∗ (anyM c (lM 0) ∗ anyM c (lM 1)) ∗ own c oM (res m))

theorem state_end (K : Dev nD × KI → ℕ) (c : Dev nD) : (St m K c 8 5 56 56 56 28 : sProp 𝕄) ⊢ Post m c := by
  unfold St Post
  rw [owed_last, windows_end]
  iintro ⟨-, HO, HTI, Hb, HG, HS, HV, -⟩
  ihave HS := (sends_end m c) $$ HS
  icases HS with ⟨HzS, HS⟩
  ihave HV := (recvs_end m c) $$ HV
  icases HV with ⟨HzV, Hl, HV⟩
  isplitl [HO]; · iexact HO
  isplitl [HTI]; · iexact HTI
  isplitl [Hb]; · iexact Hb
  isplitl [HG]; · iexact HG
  isplitl [HzS]; · iexact HzS
  isplitl [HzV]; · iexact HzV
  isplitl [Hl]; · iexact Hl
  iapply (res_join m c)
  isplitl [HS]; · iexact HS
  iexact HV

theorem body_wp (K : Dev nD × KI → ℕ) (c : Dev nD) : Pre m K c ⊢ Run c (ap (cc0_body (F := F))) (fun _ => Post m c) :=
  (run_body K c).trans (wp_mono _ _ _ fun _ => state_end m K c)

end Cert.Ring

end
-- ==== Proof.Deal.lean ====
/-
What the launch deals: every cell's invariant is made once for all devices, the tokens of the duties go to the devices
that pay them, and each device gets the credit for what its neighbours owe it.
-/
module

public import proofs.«01_k».proof.Proof.End
public import proofs.«01_k».proof.Proof.Gen.KernelIdeal.Launch
public import proofs.«01_k».proof.Proof.Gen.KernelIdeal.Points

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem big_unit (Φ : Unit → sProp 𝕄) : (bigSep Finset.univ Φ : sProp 𝕄) = Φ () := by
  rw [show (Finset.univ : Finset Unit) = {()} from rfl]; exact BI.bigSep_singleton
theorem big_KI (Φ : KI → sProp 𝕄) : (bigSep Finset.univ Φ : sProp 𝕄)
    = iprop(Φ (.inl ()) ∗ (bigSep Finset.univ fun e => Φ (.inr (.inl e))) ∗ bigSep Finset.univ fun e => Φ (.inr (.inr e))) := by
  rw [BI.bigSep_univ_sum, BI.bigSep_univ_sum, big_unit]; rfl

/-! ## Cells and tokens -/

/-- The semaphore of a cell. -/
def ksem : KI → SemLoc sig
  | .inl _ => .reg barS
  | .inr (.inl e) => .dma (sS e)
  | .inr (.inr e) => .dma (rS e)
theorem kcell_sem (c : Dev nD) (k : KI) : kcell (c, k) = ((c : Thread nD τ), ksem k) := by
  rcases k with _ | e | e <;> rfl
theorem sS_inj {e e' : Msg} (h : sS e = sS e') : e = e' := sN_inj (congrArg Fin.val h)
theorem rS_inj {e e' : Msg} (h : rS e = rS e') : e = e' := sN_inj (Nat.add_right_cancel (congrArg Fin.val h))
theorem sS_ne_rS {e e' : Msg} (h : sS e = rS e') : False := by
  have h1 : sN e = sN e' + 56 := congrArg Fin.val h
  exact not_isSend_rN e' (h1 ▸ isSend_sN e)
theorem ksem_inj : Function.Injective ksem := by
  rintro (_ | e | e) (_ | e' | e') h
  · rfl
  · cases h
  · cases h
  · cases h
  · rw [sS_inj (SemLoc.dma.inj h)]
  · exact (sS_ne_rS (SemLoc.dma.inj h)).elim
  · cases h
  · exact (sS_ne_rS (SemLoc.dma.inj h).symm).elim
  · rw [rS_inj (SemLoc.dma.inj h)]
theorem kcell_inj : Function.Injective kcell := by
  rintro ⟨c, k⟩ ⟨c', k'⟩ h
  rw [kcell_sem, kcell_sem] at h
  have h1 : c = c' := congrArg (fun g : GSem nD τ sig => g.1.1) h
  have h2 : k = k' := ksem_inj (congrArg Prod.snd h)
  rw [h1, h2]
def ringCells : Finset (GSem nD τ sig) := Finset.univ.map ⟨kcell, kcell_inj⟩

/-- A device's own cells' duties: two of its barrier, one of each send and receive. -/
abbrev TK : Type := Fin 2 ⊕ (Msg ⊕ Msg)
def tokOf : Dev nD × TK → GSem nD τ sig × ℕ × Fin 2
  | (c, .inl d) => (kcell (c, .inl ()), 0, d)
  | (c, .inr k) => (kcell (c, .inr k), 0, 0)
theorem tokOf_inj : Function.Injective tokOf := by
  rintro ⟨c, d | k⟩ ⟨c', d' | k'⟩ h
  · have h1 := kcell_inj (a₁ := (c, .inl ())) (a₂ := (c', .inl ())) (congrArg Prod.fst h)
    have h2 : d = d' := congrArg (fun x : GSem nD τ sig × ℕ × Fin 2 => x.2.2) h
    cases h1; rw [h2]
  · have h1 := kcell_inj (a₁ := (c, .inl ())) (a₂ := (c', .inr k')) (congrArg Prod.fst h); cases h1
  · have h1 := kcell_inj (a₁ := (c, .inr k)) (a₂ := (c', .inl ())) (congrArg Prod.fst h); cases h1
  · have h1 := kcell_inj (a₁ := (c, .inr k)) (a₂ := (c', .inr k')) (congrArg Prod.fst h); cases h1; rfl
def ringToks : Finset (GSem nD τ sig × ℕ × Fin 2) := Finset.univ.map ⟨tokOf, tokOf_inj⟩

def u₀ : UU := (initOf (Pipeline.cells cfgs cellOf_inj) (Pipeline.launchToks cfgs cellOf_inj), (initOf ringCells ringToks, (1 : Counters)))

theorem u₀_split : (ownU u₀ : sProp 𝕄) ⊢ iprop(BI.own (EP (F := F) (initOf (Pipeline.cells cfgs cellOf_inj) (Pipeline.launchToks cfgs cellOf_inj))) ∗ BI.own (ER (F := F) (initOf ringCells ringToks))) :=
  BI.own_op_elim ((uEmb (nD := nD) (sig := sig) (Ix := Unit) (Val := Elt F) (Name := ℕ) (U := UU) (Lvl := ℕ)).toEmb.op_of_mem
    (Prod.mk_mem_op (URA.mem_op_one (initOf (Pipeline.cells cfgs cellOf_inj) (Pipeline.launchToks cfgs cellOf_inj) : UR sig nD τ))
      (URA.mem_one_op ((initOf ringCells ringToks, (1 : Counters)) : UB × Counters))))

/-! ## The deal -/

/-- The duty tokens of device `c`'s own cells. -/
def toks (c : Dev nD) : sProp 𝕄 :=
  iprop((dutyTok ER (barCell c) 0 (0 : Fin 2) ∗ dutyTok ER (barCell c) 0 (1 : Fin 2))
    ∗ (bigSep Finset.univ fun e => dutyTok ER (sendCell c e) 0 (0 : Fin 2)) ∗ bigSep Finset.univ fun e => dutyTok ER (recvCell c e) 0 (0 : Fin 2))
/-- The tokens of the duties device `c` pays. -/
def payToks (c : Dev nD) : sProp 𝕄 :=
  iprop((dutyTok ER (barCell (mv 1 1 c)) 0 (0 : Fin 2) ∗ dutyTok ER (barCell (mv 0 1 c)) 0 (1 : Fin 2))
    ∗ (bigSep Finset.univ fun e => dutyTok ER (sendCell c e) 0 (0 : Fin 2)) ∗ bigSep Finset.univ fun e => dutyTok ER (recvCell (mv e.2.1 1 c) e) 0 (0 : Fin 2))

/-- What the launch element deals device `c`. -/
def G (c : Dev nD) : sProp 𝕄 :=
  iprop((bigSep Finset.univ fun k : KI => roundState ER (Rd m) (kcell (c, k)) 0)
    ∗ ((bigSep Finset.univ fun k : KI => atPos ER (kcell (c, k)) 0 ∅ 0) ∗ bigSep Finset.univ fun k : KI => reached ER (kcell (c, k)) 0) ∗ toks c)

theorem fund_ring : BI.own (ER (F := F) (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : KI => Φ (kcell (c, k)) := by
    unfold ringCells; rw [BI.bigSep_map, BI.bigSep_univ_prod]; rfl
  have hT : bigSep ringToks (fun x => (dutyTok ER x.1 x.2.1 x.2.2 : sProp 𝕄)) = bigSep Finset.univ fun c : Dev nD => toks c := by
    unfold ringToks; rw [BI.bigSep_map, BI.bigSep_univ_prod]
    refine BI.bigSep_congr fun c _ => ?_
    rw [BI.bigSep_univ_sum, BI.bigSep_univ_sum, BI.bigSep_fin_two]
    rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [big_sep]
  isplitl [Hst']; · iexact Hst'
  isplitl [Hat' Hr']
  · isplitl [Hat'] <;> iassumption
  iexact Htok'

/-- The kernel's own semaphores: the gather slots', the sends', the receives'. -/
abbrev SK : Type := Fin 5 ⊕ (Msg ⊕ Msg)
def osem : SK → SemLoc sig
  | .inl σ => .dma (gS σ)
  | .inr k => ksem (.inr k)

/-- A device's gather semaphores at zero. -/
abbrev gz (c : Dev nD) : sProp 𝕄 := bigSep Finset.univ fun σ => semVal (gCell c σ) 0

theorem ownSems0_eq (c : Dev nD) : (Pipeline.ownSems0 (Ix := Unit) (Name := ℕ) (U := UU) (Lvl := ℕ) (Val := Elt F) (τ := τ) osem c : sProp 𝕄)
    = iprop(gz c ∗ (bigSep Finset.univ fun e => semVal (sendCell c e) 0) ∗ bigSep Finset.univ fun e => semVal (recvCell c e) 0) := by
  unfold Pipeline.ownSems0
  rw [BI.bigSep_univ_sum, BI.bigSep_univ_sum]
  rfl
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (iprop(gz c ∗ bigSep Finset.univ fun k : KI => semVal (kcell (c, k)) 0) : sProp 𝕄) := by
  rw [ownSems0_eq, unscopedSems0_eq, big_KI]
  iintro ⟨⟨HG, HS, HV⟩, HB⟩
  isplitl [HG]; · iexact HG
  isplitl [HB]; · iexact HB
  isplitl [HS]; · iexact HS
  iexact HV

/-- A device's share after its cells' invariants are made. -/
def Made (c : Dev nD) : sProp 𝕄 :=
  iprop((bigSep Finset.univ fun k : KI => iprop(∃ κ : ℕ, cellInv ER (Rd m) κ (kcell (c, k))))
    ∗ (bigSep Finset.univ fun k : KI => reached ER (kcell (c, k)) 0)
    ∗ (gz c ∗ bigSep Finset.univ fun k : KI => atPos ER (kcell (c, k)) 0 ∅ 0) ∗ toks c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> Made m c := by
  unfold G Made
  iintro ⟨Hos, Hus, Hst, ⟨Hat, Hr⟩, Htok⟩
  ihave Hv := (sems0_eq (F := F) c) $$ [Hos Hus]
  · isplitl [Hos] <;> iassumption
  icases Hv with ⟨Hg, Hv⟩
  imod (show iprop((bigSep Finset.univ fun k : KI => semVal (kcell (c, k)) 0) ∗ bigSep Finset.univ fun k : KI => roundState ER (Rd m) (kcell (c, k)) 0)
      ⊢ (|={Set.univ}=> bigSep Finset.univ fun k : KI => iprop(∃ κ : ℕ, cellInv ER (Rd m) κ (kcell (c, k))) : sProp 𝕄) from by
        rw [← big_sep]
        exact (big_mono fun k _ => (Rounds.body_intro ER (Rd m) (kcell (c, k))).trans inv_alloc).trans (BI.bigSep_fupd _ _)) $$ [Hv Hst] with Hinv
  · isplitl [Hv] <;> iassumption
  imodintro
  isplitl [Hinv]; · iexact Hinv
  isplitl [Hr]; · iexact Hr
  isplitl [Hg Hat]
  · isplitl [Hg]; · iexact Hg
    iexact Hat
  iexact Htok

/-- What each device starts from, of what the devices share. -/
def Dealt (c : Dev nD) : sProp 𝕄 :=
  iprop((dutyTok ER (barCell (mv 1 1 c)) 0 (0 : Fin 2) ∗ dutyTok ER (barCell (mv 0 1 c)) 0 (1 : Fin 2) ∗ atPos ER (barCell c) 0 ∅ 0)
    ∗ gz c ∗ bigSep Finset.univ (SPre c) ∗ bigSep Finset.univ fun e => atPos ER (recvCell c e) 0 ∅ 0)
def G' (c : Dev nD) : sProp 𝕄 := iprop(∃ K, records m K ∗ Dealt c)

theorem toks_around : (bigSep Finset.univ fun c : Dev nD => (toks c : sProp 𝕄)) ⊢ bigSep Finset.univ fun c : Dev nD => payToks c := by
  have hr : (bigSep Finset.univ fun c : Dev nD => bigSep Finset.univ fun e : Msg => (dutyTok ER (recvCell c e) 0 (0 : Fin 2) : sProp 𝕄))
      = bigSep Finset.univ fun c : Dev nD => bigSep Finset.univ fun e : Msg => dutyTok ER (recvCell (mv e.2.1 1 c) e) 0 (0 : Fin 2) := by
    rw [BI.bigSep_univ_comm, BI.bigSep_univ_comm (fun (c : Dev nD) (e : Msg) => dutyTok ER (recvCell (mv e.2.1 1 c) e) 0 (0 : Fin 2))]
    exact BI.bigSep_congr fun e _ => BI.bigSep_univ_equiv (rot e.2.1) (fun c : Dev nD => (dutyTok ER (recvCell c e) 0 (0 : Fin 2) : sProp 𝕄))
  unfold toks payToks
  rw [big_sep, big_sep, big_sep, big_sep, big_sep, big_sep, hr,
    BI.bigSep_univ_equiv (rot 1) (fun c : Dev nD => (dutyTok ER (barCell c) 0 (0 : Fin 2) : sProp 𝕄)),
    BI.bigSep_univ_equiv (rot 0) (fun c : Dev nD => (dutyTok ER (barCell c) 0 (1 : Fin 2) : sProp 𝕄))]
  exact BI.Entails.refl _

theorem dealt_intro (c : Dev nD) :
    (iprop((gz c ∗ bigSep Finset.univ fun k : KI => atPos ER (kcell (c, k)) 0 ∅ 0) ∗ payToks c) : sProp 𝕄) ⊢ Dealt c := by
  have hS : (bigSep Finset.univ (SPre c) : sProp 𝕄) = iprop((bigSep Finset.univ fun e => atPos ER (sendCell c e) 0 ∅ 0)
      ∗ (bigSep Finset.univ fun e => dutyTok ER (sendCell c e) 0 (0 : Fin 2)) ∗ bigSep Finset.univ fun e => dutyTok ER (recvCell (mv e.2.1 1 c) e) 0 (0 : Fin 2)) := by
    rw [← big_sep, ← big_sep]; rfl
  unfold payToks Dealt
  rw [big_KI, hS]
  iintro ⟨⟨HG, HB, HS, HV⟩, ⟨H0, H1⟩, HtS, HtV⟩
  isplitl [HB H0 H1]
  · isplitl [H0]; · iexact H0
    isplitl [H1]; · iexact H1
    iexact HB
  isplitl [HG]; · iexact HG
  isplitl [HS HtS HtV]
  · isplitl [HS]; · iexact HS
    isplitl [HtS]; · iexact HtS
    iexact HtV
  iexact HV

theorem g'_intro (K : Dev nD × KI → ℕ) (c : Dev nD) : (iprop(records m K ∗ Dealt c) : sProp 𝕄) ⊢ G' m c := by
  unfold G'; iintro H; iexists K; iexact H

theorem regroup : (bigSep Finset.univ (Made m) : sProp 𝕄) ⊢ bigSep Finset.univ (G' m) := by
  unfold Made
  rw [big_sep, big_sep, big_sep, ← BI.bigSep_univ_prod (fun p : Dev nD × KI => iprop(∃ κ : ℕ, cellInv ER (Rd m) κ (kcell p))),
    ← BI.bigSep_univ_prod (fun p : Dev nD × KI => (reached ER (kcell p) 0 : sProp 𝕄))]
  iintro ⟨HI, #HR, Hat, Htok⟩
  ihave HK := (BI.bigSep_exists_pi Finset.univ (fun (p : Dev nD × KI) (κ : ℕ) => (cellInv ER (Rd m) κ (kcell p) : sProp 𝕄))) $$ HI
  icases HK with ⟨%K, #HI⟩
  ihave Htk := (toks_around (F := F)) $$ Htok
  iapply (show iprop(records m K ∗ bigSep Finset.univ fun c : Dev nD => (Dealt c : sProp 𝕄)) ⊢ bigSep Finset.univ (G' m) from
    (BIClass.sep_mono (BI.bigSep_of_persistent Finset.univ (records m K)) (BI.Entails.refl _)).trans (by rw [← big_sep]; exact big_mono fun c _ => g'_intro m K c))
  isplitr
  · unfold records; isplitl; · iexact HI
    iexact HR
  · iapply (show iprop((bigSep Finset.univ fun c : Dev nD => iprop(gz c ∗ bigSep Finset.univ fun k : KI => atPos ER (kcell (c, k)) 0 ∅ 0)) ∗ bigSep Finset.univ fun c : Dev nD => payToks c)
        ⊢ bigSep Finset.univ fun c : Dev nD => (Dealt c : sProp 𝕄) from by rw [← big_sep]; exact big_mono fun c _ => dealt_intro c)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((big_mono fun c _ => core_alloc m c).trans (BI.bigSep_fupd _ _)).trans (BI.fupd_mono (regroup m))

/-! ## The launch credit -/

theorem bar_ne_recv {a b : Dev nD} {e : Msg} : barCell a ≠ recvCell b e := fun h => by cases congrArg Prod.snd h
theorem bar_eq_iff {a b : Dev nD} : barCell a = barCell b ↔ a = b :=
  ⟨fun h => congrArg (fun g : GSem nD τ sig => g.1.1) h, fun h => h ▸ rfl⟩
theorem recv_eq_iff {a b : Dev nD} {e e' : Msg} : recvCell a e = recvCell b e' ↔ a = b ∧ e = e' :=
  ⟨fun h => ⟨congrArg (fun g : GSem nD τ sig => g.1.1) h, rS_inj (SemLoc.dma.inj (congrArg Prod.snd h))⟩, fun ⟨h, h'⟩ => by rw [h, h']⟩

theorem owed_at (d : Dev nD) (g : GSem nD τ sig) : owed d 0 g () = ∑ e : Msg, if g = recvCell (mv e.2.1 1 d) e then N else 0 := by
  unfold owed
  rw [Finset.filter_true_of_mem (fun e _ => Nat.zero_le _), Finset.sum_apply, Finsupp.finset_sum_apply]
  refine Finset.sum_congr rfl fun e _ => ?_
  rw [tallyAt_apply]; simp only [and_true]

theorem mv_eq_iff (j : Fin 2) : ∀ c d : Dev nD, c = mv j 1 d ↔ d = mv j 7 c := by revert j; decide +kernel

theorem owed_bar (d c : Dev nD) : O₀ d (barCell c) () = (if d = mv 0 7 c then 1 else 0) + (if d = mv 1 7 c then 1 else 0) := by
  unfold O₀ O₁
  rw [Pi.add_apply, Finsupp.add_apply, Pi.add_apply, Finsupp.add_apply, owed_at, Finset.sum_eq_zero fun e _ => if_neg bar_ne_recv,
    Nat.zero_add, tallyAt_apply, tallyAt_apply]
  simp only [bar_eq_iff, and_true, mv_eq_iff]

theorem owed_recv (d c : Dev nD) (e : Msg) : O₀ d (recvCell c e) () = if d = mv e.2.1 7 c then N else 0 := by
  unfold O₀ O₁
  rw [Pi.add_apply, Finsupp.add_apply, Pi.add_apply, Finsupp.add_apply, tallyAt_ne_cell bar_ne_recv.symm, tallyAt_ne_cell bar_ne_recv.symm, owed_at,
    Finset.sum_eq_single e (fun e' _ h => if_neg fun h' => h (recv_eq_iff.mp h').2.symm) (fun h => absurd (Finset.mem_univ _) h)]
  simp only [recv_eq_iff, and_true, mv_eq_iff, Finsupp.zero_apply, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (mv 0 7 c) fun _ => 1, Finset.sum_ite_eq' Finset.univ (mv 1 7 c) fun _ => 1, if_pos (Finset.mem_univ _), if_pos (Finset.mem_univ _)]

theorem launch_recv (c : Dev nD) (e : Msg) :
    tallyOn (recvCell c e) (launchCredit (Pipeline.owing O₀) 0 (recvCell c e)) = (tallyAt (recvCell c e) () N : CellTallies nD τ sig Unit) := by
  unfold tallyAt; refine congrArg _ (Finsupp.ext fun u => ?_); cases u
  rw [Pipeline.launchCredit_owing, Finsupp.single_eq_same, Finset.sum_congr rfl fun d _ => owed_recv d c e, Finset.sum_ite_eq' Finset.univ (mv e.2.1 7 c) fun _ => N,
    if_pos (Finset.mem_univ _)]

/-- The semaphores a device has credit for at launch. -/
abbrev credE : Unit ⊕ Msg ↪ SemLoc sig where
  toFun k := ksem (k.elim .inl fun e => .inr (.inr e))
  inj' := by
    rintro (_ | e) (_ | e') h
    · rfl
    · cases ksem_inj h
    · cases ksem_inj h
    · cases ksem_inj h; rfl

theorem creds (c : Dev nD) :
    (Pipeline.launchCred O₀ c : sProp 𝕄) ⊢ iprop(cred (tallyAt (barCell c) () 2) ∗ bigSep Finset.univ fun e => cred (tallyAt (recvCell c e) () N)) := by
  unfold Pipeline.launchCred
  refine (BI.bigSep_subset (Finset.subset_univ (Finset.univ.map credE))).trans ?_
  rw [BI.bigSep_map, BI.bigSep_univ_sum, big_unit]
  refine BIClass.sep_mono (Entails.of_eq ?_) (big_mono fun e _ => Entails.of_eq ?_)
  · exact congrArg cred (launch_bar c)
  · exact congrArg cred (launch_recv c e)

end Cert.Ring

end
-- ==== Proof.Launch.lean ====
/-
The run of the kernel: the body against the pipeline's obligation, the launch, and what every weakly fair execution ends
with, over any float values: each device's result array at the value of `res`, its arguments as they were, every semaphore
at zero.
-/
module

public import proofs.«01_k».proof.Proof.Deal
public import Idealize.ShloMosaic.Lib.Pipeline.CollectiveSegs

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The indices as the pipeline stages them. -/
def xstg (c : Dev nD) : (cc0_stg0_0 : Ref sig .tc).ty.Contents (Elt F) :=
  (win0_0.blk t0_0).view.read (Elt F) ((s₀ m ρ).mem ((c : Thread nD τ).loc main_arg1))
theorem xstg_eq (c : Dev nD) : xstg m ρ c = ixs m c :=
  Memref.read_access_unit_zero (Elt F) main_arg1 (show (fun a => (win0_0.index t0_0) a * main_arg1.ty.shape.size a) = fun _ => 0 from
    funext fun a => by fin_cases a <;> decide +kernel) (fun a => by fin_cases a <;> decide +kernel) _

/-- A device's block of the table, at some share. -/
def TB (c : Dev nD) : sProp 𝕄 :=
  iprop(∃ q : PosShare TreeShare, xM.view.loc (c : Thread nD τ) ↦[Finset.univ]{q} (tab m c : Buf (Elt F) (xM.view.loc (c : Thread nD τ))))

/-- What a device starts from, but for its staging and landing buffers. -/
def start (c : Dev nD) : sProp 𝕄 :=
  iprop(G' m c ∗ levAts L lv ∗ TB m c ∗ cred (tallyAt (barCell c) () 2) ∗ bigSep Finset.univ fun e => cred (tallyAt (recvCell c e) () N))
def Φ₀ (c : Dev nD) : sProp 𝕄 := iprop(start m c ∗ anyM c (lM 0) ∗ anyM c (lM 1))
/-- What it ends with, but for its staging buffers. -/
def Φ₁ (c : Dev nD) : sProp 𝕄 :=
  iprop((TB m c ∗ semVal (barCell c) 0) ∗ (gz c ∗ (bigSep Finset.univ fun e => semVal (sendCell c e) 0) ∗ bigSep Finset.univ fun e => semVal (recvCell c e) 0)
    ∗ anyM c (lM 0) ∗ anyM c (lM 1))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => res m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (xstg m ρ c) ∗ stg c cc0_stg1_0 (res m))

theorem recvs_start (c : Dev nD) :
    (iprop((bigSep Finset.univ fun e => cred (tallyAt (recvCell c e) () N)) ∗ bigSep Finset.univ fun e => atPos ER (recvCell c e) 0 ∅ 0) : sProp 𝕄)
      = bigSep Finset.univ (RSt m c 0 0) := by
  rw [← big_sep]
  exact BI.bigSep_congr fun e _ => (RSt_todo m c 0 0 e (Nat.zero_le _)).symm

theorem pre_intro (c : Dev nD) : bodyPre m ρ c ⊢ iprop(∃ K, Pre m K c) := by
  unfold bodyPre Φ₀ start G' Dealt Pre TI TB
  iintro ⟨⟨⟨⟨%K, HR, ⟨Ht0, Ht1, Hat⟩, HG, HS, HV⟩, Hlev, HT, Hcb, Hcr⟩, Hl⟩, Ho, ⟨%d0, %g0, %hg0, Hx⟩, ⟨%d1, %g1, %hg1, Hout⟩⟩
  have hx : g0 = ixs m c := by
    rw [hg0]; unfold Dat.before; rw [if_pos (fetch0_0 t0_0)]; exact xstg_eq m ρ c
  subst hx
  unfold Dat.owesAt Pipeline.owesWithin
  icases Ho with ⟨%W, %hW, HO⟩
  rw [show (dats m ρ 0 c).owed t0_0.castSucc = O₀ c from rfl]
  iexists K
  isplitl [HR Hlev]
  · isplitl [HR]; · iexact HR
    iexact Hlev
  isplitl [HO]; · unfold owesAny; iexists W; iexact HO
  isplitl [HT Hx]
  · isplitl [HT]; · iexact HT
    iexact Hx
  isplitl [Ht0 Ht1 Hat Hcb]
  · isplitl [Ht0]; · iexact Ht0
    isplitl [Ht1]; · iexact Ht1
    isplitl [Hat]; · iexact Hat
    iexact Hcb
  isplitl [Hl]; · iexact Hl
  isplitl [Hout]; · iexists g1; iexact Hout
  isplitl [HG]; · iexact HG
  isplitl [HS]; · iexact HS
  iapply (Entails.of_eq (recvs_start m c))
  isplitl [Hcr]; · iexact Hcr
  iexact HV

theorem post_elim (c : Dev nD) : Post m c ⊢ bodyPost m ρ c := by
  unfold Post bodyPost Φ₁ TI TB
  rw [xstg_eq, show (own c oM (res m) : sProp 𝕄) = stg c cc0_stg1_0 (res m) from owns_whole_eq c cc0_stg1_0 (res m)]
  iintro ⟨HO, ⟨HT, Hx⟩, Hb, HG, HS, HV, Hl, Hout⟩
  isplitl [HT Hb HG HS HV Hl]
  · isplitl [HT Hb]
    · isplitl [HT]; · iexact HT
      iexact Hb
    isplitl [HG HS HV]
    · isplitl [HG]; · iexact HG
      isplitl [HS]; · iexact HS
      iexact HV
    iexact Hl
  isplitl [HO]
  · unfold owesAny Dat.owesAt Pipeline.owesWithin
    rw [show (dats m ρ 0 c).owed t0_0.succ = 0 from rfl]
    icases HO with ⟨%W, HO⟩
    iexists W
    isplitr; · ipureintro; exact fun _ _ => Or.inl trivial
    iexact HO
  isplitl [Hx]
  · iexists _; isplitr; · (ipureintro; rfl)
    iexact Hx
  iexact Hout

theorem body_run (c : Dev nD) : bodyPre m ρ c ⊢ Run c (ap (cc0_body (F := F))) (fun _ => bodyPost m ρ c) := by
  refine (pre_intro m ρ c).trans ?_
  iintro ⟨%K, H⟩
  iapply ((body_wp m K c).trans (wp_mono _ _ _ fun _ => post_elim m ρ c)); iexact H

theorem bigSep_W (Φ : Fin cfg0.W → sProp 𝕄) : bigSep Finset.univ Φ = iprop(Φ (0 : Fin 2) ∗ Φ (1 : Fin 2)) := bigSep_W0 Φ

set_option maxRecDepth 4000 in
/-- The library's body obligation on core `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact body_run m ρ c

/-! ## The launch's side conditions -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HT, Hlev, Hcr, -, HG⟩
  ihave Hc := (creds (F := F) c) $$ Hcr
  icases Hc with ⟨H1, HN⟩
  imodintro
  unfold start TB
  isplitl
  · isplitl [HG]; · iexact HG
    isplitl [Hlev]; · iexact Hlev
    isplitl [HT]; · iexists fullShare; iexact HT
    isplitl [H1]; · iexact H1
    iexact HN
  · iempintro

theorem land0_eq (c : Dev nD) : (anyM c (lM 0) : sProp 𝕄) = iprop(∃ f : Buf (Elt F) ((c : Thread nD τ).loc cc0_scratch0), ((c : Thread nD τ).loc cc0_scratch0) ↦{fullShare} f) := by
  show (anyM c (Memref.whole cc0_scratch0) : sProp 𝕄) = _
  unfold anyM; simp only [Memref.view_whole, View.set_whole]
theorem land1_eq (c : Dev nD) : (anyM c (lM 1) : sProp 𝕄) = iprop(∃ f : Buf (Elt F) ((c : Thread nD τ).loc cc0_scratch1), ((c : Thread nD τ).loc cc0_scratch1) ↦{fullShare} f) := by
  show (anyM c (Memref.whole cc0_scratch1) : sProp 𝕄) = _
  unfold anyM; simp only [Memref.view_whole, View.set_whole]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq, ← land0_eq, ← land1_eq]
  unfold Φ₀
  iintro ⟨Hs, -, Hr⟩
  isplitl [Hs]; · iexact Hs
  iexact Hr

theorem phi1_exit (c : Dev nD) :
    (dats m ρ 0 c).Φ (Fin.last cfg0.N) ⊢ iprop((TB m c ∗ unscopedSems0 c) ∗ Pipeline.ownSems0 osem c ∗ Pipeline.scopedRest cfg0.spec c) := by
  rw [show (dats m ρ 0 c).Φ (Fin.last cfg0.N) = Φ₁ m c from rfl, scopedRest0_eq, ownSems0_eq, unscopedSems0_eq, ← land0_eq, ← land1_eq]
  exact BI.Entails.refl _

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- A device's final memory: both windows' arrays, and the table. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)

theorem table_read (c : Dev nD) (s' : Phys nD τ sig (Elt F)) :
    (iprop((TB m c ∗ unscopedSems0 c) ∗ emp ∗ SI s') : sProp 𝕄)
      ⊢ |={Set.univ}=> iprop(⌜s'.mem.mem ((c : Thread nD τ).loc main_arg0) = m ((c : Thread nD τ).loc main_arg0)
        ∧ ∀ sm : SemLoc sig, sm.isScoped .tc = false → s'.mem.sem ((c.tc : Thread nD τ), sm) = 0⌝ ∗ SI s') := by
  unfold TB
  iintro ⟨⟨⟨%q, HT⟩, Hu⟩, -, HSI⟩
  ihave %h := (SI_pointsTo_agree) $$ [HSI HT]
  · isplitl [HSI]; · iexact HSI
    iexact HT
  imod (Pipeline.unscopedSems0_read (X := unscopedSems0 c) (c := c) fupd_intro s') $$ [Hu HSI] with ⟨%hz, HSI⟩
  · isplitl [Hu] <;> iassumption
  imodintro
  isplitr; · ipureintro; exact ⟨funext fun i => h i (Finset.mem_univ i), hz⟩
  iexact HSI

set_option maxRecDepth 8000 in
/-- Every weakly fair execution of @main on the eight devices terminates with `QC` and every semaphore at zero. -/
theorem run_windows : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      iintro Hu
      ihave H := (u₀_split (F := F)) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(TB m c ∗ unscopedSems0 c)) (Z := fun _ => iprop(emp))
    (hX := start_intro m ρ) (hin := phi0_intro m ρ) (hout := phi1_exit m ρ)
    (QY := fun c s => s.mem ((c : Thread nD τ).loc main_arg0) = m ((c : Thread nD τ).loc main_arg0)
      ∧ ∀ sm : SemLoc sig, sm.isScoped .tc = false → s.sem ((c.tc : Thread nD τ), sm) = 0)
    (hY := table_read m)
    (hQ := fun _ h hs => ⟨fun c => ⟨fun w => (h c).1 w, (h c).2.2.1⟩, sem_eq_zero hs fun c => (h c).2.2.2⟩)

theorem finalA_x (c : Dev nD) : finalA m ρ c (0 : Fin 2) = m ((c : Thread nD τ).loc main_arg1) :=
  (dats (F := F) m ρ 0 c).arrAt_in (0 : Fin 2) rfl _

theorem finalA_o (c : Dev nD) : finalA m ρ c (1 : Fin 2) = res m := by
  have h : (win0_1.blk t0_0).view.read (Elt F) (finalA m ρ c (1 : Fin 2)) = res m := by
    unfold finalA
    rw [show cfg0.N = t0_0.val + 1 from rfl, (dats m ρ 0 c).arrAt_succ (1 : Fin 2) t0_0]
    rw [show (cfg0.win (1 : Fin 2)).flush t0_0 = true from flush0_1 t0_0, if_pos rfl]
    exact View.read_write_univ _ _
  exact (Memref.read_access_unit_zero (Elt F) main_v1 (show (fun a => (win0_1.index t0_0) a * main_v1.ty.shape.size a) = fun _ => 0 from
    funext fun a => by fin_cases a <;> decide +kernel) (fun a => by fin_cases a <;> decide +kernel) _).symm.trans h

/-- Every weakly fair execution of @main on the eight devices, from any memory with zero counters, terminates with each
    device's result at `res`, its arguments unchanged, and every semaphore at zero. -/
theorem run_main : θ_run defs (onTc (τ := τ) (main (F := F))) (s₀ m ρ) (fun r =>
    (∀ c : Dev nD, r.2.mem ((c : Thread nD τ).loc main_v1) = res m ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨((h.1 c).1 (1 : Fin 2)).trans (finalA_o m ρ c), (h.1 c).2, ((h.1 c).1 (0 : Fin 2)).trans (finalA_x m ρ c)⟩, h.2⟩)
    (run_windows m ρ)

end Cert.Ring

end
-- ==== Proof.Value.lean ====
/-
The result over the extended reals, under the precondition: every index names a row of the whole table.

Exactly one of the eight devices owns a row, so each segment's seven additions add one table row and seven rows of zeros:
the result's row is the table's (`res_val`). The reference's gather, its wrap of a negative index and its clamp both idle,
reads the same row (`take_val`).
-/
module

public import proofs.«01_k».proof.Proof.End
public import proofs.«01_k».proof.Proof.Gen.ReferenceIdeal
public import proofs.«01_k».proof.Proof.Gen.Pre_idx_names_rows_KernelIdeal
public import Idealize.ShloMosaic.Lib.StableHlo.Predicate
public import Idealize.ShloMosaic.Lib.IdealHost

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Words -/

/-- A one-bit word widened is nonzero when it is one. -/
theorem widen_ne (b : BitVec 1) : Scalar.cmpi .ne (Scalar.extui b) 0#32 = 1#1 ↔ b = 1#1 := by
  rcases BitVec.eq_zero_or_eq_one b with h | h <;> subst h <;> decide

/-- The device number, as the kernel computes it. -/
theorem my_word (c : Dev nD) : Scalar.remsi (Scalar.divsi (Dev.word c) 1#32) 8#32 = BitVec.ofNat 32 c.val := by
  revert c; decide

/-- The shift by 13 divides a row's number by the rows of a block. -/
theorem shift_word {w : BitVec 32} (hw : w.toNat < 65536) : (Scalar.shrsi w 13#32).toNat = w.toNat / 8192 := by
  have hm : w.msb = false := BitVec.msb_eq_false_iff_two_mul_lt.mpr (by omega)
  show (IntOp.shrsi .scalar w 13#32).toNat = _
  unfold IntOp.shrsi
  rw [if_pos (by decide)]
  show (w.sshiftRight 13).toNat = _
  rw [BitVec.sshiftRight_eq_of_msb_false hm, BitVec.toNat_ushiftRight, Nat.shiftRight_eq_div_pow]

/-- A device owns the rows of its block. -/
theorem own_iff (c : Dev nD) {w : BitVec 32} (hw : w.toNat < 65536) : k0_cond1 c w = 1#1 ↔ c.val = w.toNat / 8192 := by
  have hc : c.val < 8 := c.isLt
  show Scalar.cmpi .ne (Scalar.extui (Scalar.cmpi .eq (Scalar.shrsi w 13#32)
    (Scalar.remsi (Scalar.divsi (Dev.word c) 1#32) 8#32))) 0#32 = 1#1 ↔ _
  rw [widen_ne, my_word]
  show IntOp.cmpi .eq _ _ = 1#1 ↔ _
  rw [StableHlo.Predicate.cmpi_eq_iff, ← BitVec.toNat_inj, shift_word hw, BitVec.toNat_ofNat]
  omega

/-- The row of its block an owner reads. -/
theorem own_row (c : Dev nD) {w : BitVec 32} (hw : w.toNat < 65536) (hc : c.val = w.toNat / 8192) :
    k0_off3 c w 0 = w.toNat - 8192 * c.val := by
  have hc8 : c.val < 8 := c.isLt
  show (Scalar.subi w (Scalar.muli (Scalar.remsi (Scalar.divsi (Dev.word c) 1#32) 8#32) 8192#32)).toNat = _
  rw [my_word]
  show (w - BitVec.ofNat 32 c.val * 8192#32).toNat = _
  rw [BitVec.toNat_sub, BitVec.toNat_mul, BitVec.toNat_ofNat, BitVec.toNat_ofNat]
  omega

/-- Both of two bits are one when their conjunction is. -/
theorem both_one (a b : BitVec 1) (h : IntOp.andi a b = 1#1) : a = 1#1 ∧ b = 1#1 := by
  rcases BitVec.eq_zero_or_eq_one a with ha | ha <;> rcases BitVec.eq_zero_or_eq_one b with hb | hb <;> subst ha <;> subst hb <;>
    revert h <;> decide

/-- The precondition, word by word: an index that is at least 0 and below 65536, read signed, is below 65536 read unsigned. -/
theorem pre_word {t : S8192x1024.Idx → EReal} {I : S2048.Idx → BitVec 32}
    (h : Cert.Pre_idx_names_rows_KernelIdeal.fn (F := Ideal) t I = fun _ => 1#1) (i : S2048.Idx) : (I i).toNat < 65536 := by
  obtain ⟨h1, h2⟩ := both_one (IntOp.cmpi .sge (I i) 0#32) (IntOp.cmpi .slt (I i) 65536#32) (congrFun h i)
  have h1 : (0#32 : BitVec 32).sle (I i) = true := (StableHlo.Predicate.ofBool_eq_one_iff _).1 h1
  have h2 : (I i).slt 65536#32 = true := (StableHlo.Predicate.ofBool_eq_one_iff _).1 h2
  have e0 : (0#32 : BitVec 32).toInt = 0 := by decide
  have e1 : (65536#32 : BitVec 32).toInt = 65536 := by decide
  simp only [BitVec.sle, BitVec.slt, e0, e1, decide_eq_true_eq] at h1 h2
  have := (I i).isLt
  rw [BitVec.toInt_eq_toNat_cond] at h1 h2
  split at h1 <;> omega

/-- Each device is met once on the way round the ring. -/
theorem met_once : ∀ (d : Fin 2) (k o : Fin 8), ∃ a : Fin 8, ∀ i : Fin 8, ((mv d i.val k).val = o.val ↔ i = a) := by
  decide +kernel

/-! ## The kernel's result -/

section Kernel

/-- Row `r`, column `q` of the whole table. -/
def ixT (r q : ℕ) : (⟨2, ![65536, 1024]⟩ : Shape).Idx := fun a => match a with
  | ⟨0, _⟩ => ⟨r % 65536, Nat.mod_lt _ (by decide)⟩
  | ⟨1, _⟩ => ⟨q % 1024, Nat.mod_lt _ (by decide)⟩

variable (m : (ℓ : Loc nD τ sig) → Buf (Elt Ideal) ℓ)
  (T : (⟨2, ![65536, 1024]⟩ : Shape).Idx → EReal) (I : S2048.Idx → BitVec 32)

/-- Every device's arguments: its block of the table `T`, and the indices `I`. -/
def Holds : Prop := ∀ c : Dev nD, tab m c = Layout.block ⟨2, ![8192, 1024]⟩ ⟨2, ![65536, 1024]⟩ 0 8 c T ∧ ixs m c = I

variable {m T I} (H : Holds m T I) (hI : ∀ i, (I i).toNat < 65536)
include H hI

/-- What a device gathers: the table's row if it owns it, zeros otherwise. -/
theorem gath_val (c : Dev nD) (j : S2048x1024.Idx) :
    gath m c j = if c.val = (I (ix1 (j 0).val)).toNat / 8192 then T (ixT (I (ix1 (j 0).val)).toNat (j 1).val) else (0 : EReal) := by
  have hw := hI (ix1 (j 0).val)
  have hword : word m c (j 0).val = I (ix1 (j 0).val) := congrFun (H c).2 _
  have hj1 : (j 1).val < 1024 := (j 1).isLt
  have hown : Owned m c (j 0).val ↔ c.val = (I (ix1 (j 0).val)).toNat / 8192 := by
    unfold Owned; rw [hword]; exact own_iff c hw
  unfold gath
  by_cases hc : c.val = (I (ix1 (j 0).val)).toNat / 8192
  · rw [if_pos (hown.2 hc), if_pos hc, hword, own_row c hw hc, (H c).1, Layout.block_apply]
    congr 1
    funext a
    apply Fin.ext
    fin_cases a
    · show c.val * 8192 + ((I (ix1 (j 0).val)).toNat - 8192 * c.val) % 8192 = (I (ix1 (j 0).val)).toNat % 65536
      omega
    · rfl
  · rw [if_neg (fun h => hc (hown.1 h)), if_neg hc]
    exact Ideal.ofBits_zero_f32

/-- A segment's sums: the table's row once its owner is met, zero before. -/
theorem chain_val (d : Fin 2) (k : Fin 8) (h : Fin 2) (y : S128x512.Idx) (j : S2048x1024.Idx) (hj : (oSeg k d h).view.emb y = j)
    (a : Fin 8) (ha : ∀ i : Fin 8, ((mv d i.val k).val = (I (ix1 (j 0).val)).toNat / 8192 ↔ i = a)) (s : ℕ) (hs : s < 8) :
    chain m d k h s y = if a.val ≤ s then T (ixT (I (ix1 (j 0).val)).toNat (j 1).val) else (0 : EReal) := by
  have hg : ∀ (i : ℕ) (hi : i < 8), gathV m (mv d i k) k d h y
      = if i = a.val then T (ixT (I (ix1 (j 0).val)).toNat (j 1).val) else (0 : EReal) := fun i hi => by
    show gath m (mv d i k) ((oSeg k d h).view.emb y) = _
    rw [hj, gath_val H hI]
    exact if_congr ((ha ⟨i, hi⟩).trans Fin.ext_iff) rfl rfl
  induction s with
  | zero =>
    have h0 : mv d 0 k = k := by apply Fin.ext; have := k.isLt; simp only [mv]; split <;> omega
    have := hg 0 hs
    rw [h0] at this
    exact this.trans (if_congr (by omega) rfl rfl)
  | succ s ih =>
    show (gathV m (mv d (s + 1) k) k d h y : EReal) + chain m d k h s y = _
    rw [hg _ hs, ih (by omega)]
    by_cases h1 : s + 1 = a.val
    · rw [if_pos h1, if_neg (by omega), if_pos (by omega), add_zero]
    · rw [if_neg h1, zero_add]
      exact if_congr (by omega) rfl rfl

/-- The result's row is the table's row its index names. -/
theorem res_val (j : S2048x1024.Idx) : res m j = T (ixT (I (ix1 (j 0).val)).toNat (j 1).val) := by
  have hw := hI (ix1 (j 0).val)
  have hj0 : (j 0).val < 2048 := (j 0).isLt
  have hj1 : (j 1).val < 1024 := (j 1).isLt
  unfold res
  obtain ⟨a, ha⟩ := met_once ⟨(j 1).val / 512, by omega⟩ ⟨(j 0).val / 256, by omega⟩ ⟨(I (ix1 (j 0).val)).toNat / 8192, by omega⟩
  refine (chain_val H hI _ _ _ _ j ?_ a ha 7 (by decide)).trans (if_pos (by omega))
  funext b
  apply Fin.ext
  fin_cases b
  · show 256 * ((j 0).val / 256) + 128 * ((j 0).val % 256 / 128) + 1 * ((j 0).val % 128) = (j 0).val
    omega
  · show 512 * ((j 1).val / 512) + 1 * ((j 1).val % 512) = (j 1).val
    omega

end Kernel

/-! ## The reference's gather -/

section Reference

open Cert.ReferenceIdeal (S65536x1024 S2048x1)
open Cert.ReferenceIdeal.Facts₀ Cert.ReferenceIdeal.Facts

/-- The index column's entry for a row of the result. -/
def ixC (r : ℕ) : S2048x1.Idx := fun a => match a with
  | ⟨0, _⟩ => ⟨r % 2048, Nat.mod_lt _ (by decide)⟩
  | ⟨1, _⟩ => ⟨0, Nat.one_pos⟩

/-- The gather of whole rows, read at an index: the start index read signed and clamped into the table. -/
theorem take_apply {α : Type} (x : S65536x1024.Idx → α) (i : IVec S2048x1 32) (y : S2048x1024.Idx) :
    Host.gather Cert.ReferenceIdeal.gather_S65536x1024_S2048x1_S2048x1024_1_0_n_n_0_1_11024 x i y
      = x (ixT (min (i (ixC (y 0).val)).toInt.toNat 65535) (y 1).val) := by
  have hy0 : (y 0).val < 2048 := (y 0).isLt
  have hy1 : (y 1).val < 1024 := (y 1).isLt
  unfold Host.gather
  congr 1
  funext a
  refine Fin.ext ?_
  set D := Cert.ReferenceIdeal.gather_S65536x1024_S2048x1_S2048x1024_1_0_n_n_0_1_11024 with hD
  show D.start y i a + D.batchCoord y a + D.offCoord y a = _
  have h01 : a = 0 ∨ a = 1 := by
    match a with
    | ⟨0, _⟩ => exact Or.inl rfl
    | ⟨1, _⟩ => exact Or.inr rfl
  rw [GatherDims.batchCoord_eq_zero _ _ _ (show a ∉ D.operandBatchingDims from List.not_mem_nil), Nat.add_zero]
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ D.startIndexMap from List.mem_singleton.mpr rfl)]
    have hsi : D.siIdx y ⟨List.idxOf (0 : Fin 2) D.startIndexMap, List.idxOf_lt_length_iff.2 (List.mem_singleton.mpr rfl)⟩
        = ixC (y 0).val := by
      funext b; refine Fin.ext ?_
      match b with
      | ⟨0, _⟩ => exact (Nat.mod_eq_of_lt hy0).symm
      | ⟨1, _⟩ => rfl
    rw [hsi]
    show min _ 65535 = min _ 65535 % 65536
    omega
  · unfold GatherDims.start
    rw [dif_neg (show (1 : Fin 2) ∉ D.startIndexMap from by decide), Nat.zero_add]
    exact (Nat.mod_eq_of_lt hy1).symm

/-- An index that names a row is its own start index. -/
theorem take_val (x : S65536x1024.Idx → EReal) (I : S2048.Idx → BitVec 32) (hI : ∀ i, (I i).toNat < 65536) (y : S2048x1024.Idx) :
    Host.gather Cert.ReferenceIdeal.gather_S65536x1024_S2048x1_S2048x1024_1_0_n_n_0_1_11024 x
      (broadcastInDim S2048x1 ![0] bcast_S2048_S2048x1_0
        (select (cmpi .slt I (broadcastInDim S2048 ![] bcast_S_S2048 (constantI Cert.ReferenceIdeal.S_ 32 0#32)))
          (addi I (broadcastInDim S2048 ![] bcast_S_S2048 (constantI Cert.ReferenceIdeal.S_ 32 65536#32))) I)) y
      = x (ixT (I (ix1 (y 0).val)).toNat (y 1).val) := by
  have hw := hI (ix1 (y 0).val)
  have hneg : ¬ IntOp.cmpi .slt (I (ix1 (y 0).val)) 0#32 = 1#1 := by
    rw [StableHlo.Predicate.slt_iff_toNat (by omega) (by decide)]; simp
  rw [take_apply]
  have hrow : broadcastInDim S2048x1 ![0] bcast_S2048_S2048x1_0
      (select (cmpi .slt I (broadcastInDim S2048 ![] bcast_S_S2048 (constantI Cert.ReferenceIdeal.S_ 32 0#32)))
        (addi I (broadcastInDim S2048 ![] bcast_S_S2048 (constantI Cert.ReferenceIdeal.S_ 32 65536#32))) I) (ixC (y 0).val)
      = I (ix1 (y 0).val) := by
    have hcol : (fun a : Fin 1 => if h1 : S2048.size a = 1 then (⟨0, by omega⟩ : Fin (S2048.size a))
        else ⟨(ixC (y 0).val ((![0] : Fin 1 → Fin 2) a)).val, by fin_cases a; exact (ixC (y 0).val 0).isLt⟩) = ix1 (y 0).val := by
      funext a; fin_cases a; rfl
    show Scalar.select (IntOp.cmpi .slt (I _) 0#32) _ (I _) = _
    rw [hcol]
    exact if_neg hneg
  rw [hrow, StableHlo.Predicate.toInt_eq_toNat_of_lt (by omega), Int.toNat_natCast, Nat.min_eq_left (by omega)]

end Reference

end Cert.Ring

end
-- ==== Proof.lean ====
/-
The certificate of the distributed embedding lookup on a ring of eight devices.

The kernel's run is proved once, over any float values (`Cert.Ring.run_main`, Proof/Launch.lean): every weakly fair
execution ends with each device's result at `Cert.Ring.res`, its arguments unchanged, and every semaphore at zero. Both
kernel programs' frames are that run at their float values; the reference is one device's host operations. Over the extended
reals, where every index names a row of the table, both results are the rows the indices name (Proof/Value.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Gen.Pre_idx_names_rows_KernelIdeal
public import proofs.«01_k».proof.Proof.Gen.Pre_idx_names_rows_ReferenceIdeal

@[expose] public section

noncomputable section

namespace Cert.Proof

open Idealize.ShloMosaic Idealize.ShloMosaic.TcCoe Idealize.SL.Sem

/-- The two kernel programs are the same operations: at the bit-exact float values their claims are one. -/
theorem kernel_same : Cert.quiescent_Kernel =
    ∀ (m : (ℓ : Loc Cert.KernelIdeal.nD Cert.KernelIdeal.τ Cert.KernelIdeal.sig) → Buf (Elt Bits) ℓ)
      (g : Dev Cert.KernelIdeal.nD → PrngReg), True →
      θ_run (Cert.KernelIdeal.defs (F := Bits)) (onTc (τ := Cert.KernelIdeal.τ) (Cert.KernelIdeal.main (F := Bits)))
        ⟨m, fun _ => 0, g⟩ (fun r => (∀ c : Dev Cert.KernelIdeal.nD,
          r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
          ∧ r.2.sem = fun _ => 0) := by
  chain_rfl

/-- The kernel at the bit-exact float values. -/
theorem frame_kernel : Cert.quiescent_Kernel := kernel_same.mpr fun m ρ _ =>
  (θ_run Cert.KernelIdeal.defs _ _).mono (fun _ h => ⟨fun c => (h.1 c).2, h.2⟩) (Cert.Ring.run_main (F := Bits) m ρ)

/-- The kernel over the extended reals. -/
theorem frame_ideal : Cert.quiescent_KernelIdeal := fun m ρ _ =>
  (θ_run Cert.KernelIdeal.defs _ _).mono (fun _ h => ⟨fun c => (h.1 c).2, h.2⟩) (Cert.Ring.run_main (F := Ideal) m ρ)

/-- The reference, on its one device. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same two, of the memories whose indices name rows. -/
theorem frame_ideal_pre : Cert.quiescent_KernelIdeal_pre_idx_names_rows_KernelIdeal := fun m ρ _ => frame_ideal m ρ trivial
theorem frame_reference_pre : Cert.quiescent_ReferenceIdeal_pre_idx_names_rows_ReferenceIdeal := fun m ρ _ =>
  frame_reference m ρ trivial

/-- Over the extended reals, where every index names a row, every device's result is the reference's. -/
theorem same_result : Cert.algebraic_KernelIdeal_ReferenceIdeal_pre_idx_names_rows_KernelIdeal := by
  intro m g m' g' hpre hargs
  have hI : ∀ i, (m' (((0 : Dev Cert.ReferenceIdeal.nD).tc : Thread Cert.ReferenceIdeal.nD Cert.ReferenceIdeal.τ).loc
      Cert.ReferenceIdeal.main_arg1) i).toNat < 65536 := by
    have h := hpre 0
    rw [(hargs 0).2] at h
    exact Cert.Ring.pre_word h
  refine ⟨Cert.Ring.res m, (θ_run Cert.KernelIdeal.defs _ _).mono (fun _ h => h.1) (Cert.Ring.run_main (F := Ideal) m g),
    (θ_run Cert.ReferenceIdeal.defs _ _).mono (fun _ h => ⟨(h 0).1.trans ?_, (h 0).2⟩)
      (Cert.ReferenceIdeal.Value.run (F := Ideal) m' g')⟩
  funext j
  exact (Cert.Ring.take_val _ _ hI j).trans (Cert.Ring.res_val hargs hI j).symm

theorem claim : Cert.Claim :=
  ⟨Cert.Kernel.Gen.facts, Cert.KernelIdeal.Gen.facts, Cert.ReferenceIdeal.Gen.facts,
    Cert.Pre_idx_names_rows_KernelIdeal.Gen.facts, Cert.Pre_idx_names_rows_ReferenceIdeal.Gen.facts,
    frame_kernel, frame_ideal, frame_ideal_pre, frame_reference, frame_reference_pre, trivial, same_result⟩

end Cert.Proof

end
